-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_sums [hPre_finite_sums : Cert.Pre_finite_sums.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_sums.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9))).1 = (fun _ => 1#1)
    ∧ (Cert.Pre_finite_sums.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_sums [hPre_finite_sums : Cert.Pre_finite_sums.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_sums.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9))).1 = (fun _ => 1#1)
    ∧ (Cert.Pre_finite_sums.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Kernel7Ideal_pre_finite_sums [hKernel7Ideal : Cert.Kernel7Ideal.Facts] [hPre_finite_sums : Cert.Pre_finite_sums.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_sums m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Reference7Ideal_pre_finite_sums [hReference7Ideal : Cert.Reference7Ideal.Facts] [hPre_finite_sums : Cert.Pre_finite_sums.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_sums m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)) (v3 : (c : Dev Cert.Kernel2Ideal.nD) → Buf (Elt Ideal) ((c.tc : Thread Cert.Kernel2Ideal.nD Cert.Kernel2Ideal.τ).loc Cert.Kernel2Ideal.main_v14_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_v14_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_v64) = v1 c
          ∧ r.2.mem ((c.tc : Thread Cert.Reference2Ideal.nD Cert.Reference2Ideal.τ).loc Cert.Reference2Ideal.main_v65) = v2 c
          ∧ r.2.mem ((c.tc : Thread Cert.Reference2Ideal.nD Cert.Reference2Ideal.τ).loc Cert.Reference2Ideal.main_v66) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_v66) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v81) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_sums [hKernel7Ideal : Cert.Kernel7Ideal.Facts] [hReference7Ideal : Cert.Reference7Ideal.Facts] [hPre_finite_sums : Cert.Pre_finite_sums.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_sums m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v11)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v46) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts) (hPre_finite_sums : Cert.Pre_finite_sums.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_sums (hKernel7Ideal := hKernel7Ideal) (hPre_finite_sums := hPre_finite_sums)
    ∧ quiescent_Reference7Ideal (hReference7Ideal := hReference7Ideal)
    ∧ quiescent_Reference7Ideal_pre_finite_sums (hReference7Ideal := hReference7Ideal) (hPre_finite_sums := hPre_finite_sums)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_sums (hKernel7Ideal := hKernel7Ideal) (hReference7Ideal := hReference7Ideal) (hPre_finite_sums := hPre_finite_sums)
-- ==== Pre_finite_scores.lean ====
abbrev S2x16384x8x64 : Shape := ⟨4, ![2, 16384, 8, 64]⟩
abbrev S2x16384x2x64 : Shape := ⟨4, ![2, 16384, 2, 64]⟩
abbrev S2x256x8x64 : Shape := ⟨4, ![2, 256, 8, 64]⟩
abbrev S2x256x2x64 : Shape := ⟨4, ![2, 256, 2, 64]⟩
abbrev S8 : Shape := ⟨1, ![8]⟩
abbrev S_ : Shape := ⟨0, ![]⟩

class Facts : Prop where
  bcast_S_S2x16384x8x64 : S_.BroadcastsInDim S2x16384x8x64 (![] : Fin 0 → Fin S2x16384x8x64.rank)
  bcast_S_S2x16384x2x64 : S_.BroadcastsInDim S2x16384x2x64 (![] : Fin 0 → Fin S2x16384x2x64.rank)
  bcast_S_S2x256x8x64 : S_.BroadcastsInDim S2x256x8x64 (![] : Fin 0 → Fin S2x256x8x64.rank)
  bcast_S_S2x256x2x64 : S_.BroadcastsInDim S2x256x2x64 (![] : Fin 0 → Fin S2x256x2x64.rank)
  bcast_S_S8 : S_.BroadcastsInDim S8 (![] : Fin 0 → Fin S8.rank)

variable [Facts]

def fn {F : FTy → Type} [FloatOps F] (main_arg0 : FVec F S2x16384x8x64 .f32) (main_arg1 : FVec F S2x16384x2x64 .f32) (main_arg2 : FVec F S2x16384x2x64 .f32) (main_arg3 : FVec F S2x256x8x64 .f32) (main_arg4 : FVec F S2x256x2x64 .f32) (main_arg5 : FVec F S2x256x2x64 .f32) (main_arg6 : FVec F S8 .f32) : IVec S2x16384x8x64 1 × IVec S2x16384x2x64 1 × IVec S2x256x8x64 1 × IVec S2x256x2x64 1 × IVec S8 1 :=
  let main_v0 : FVec F S2x16384x8x64 .f32 := Host.absf main_arg0
  let main_cst : FVec F S_ .f32 := constant S_ .f32 0x7F800000#32
  let main_v1 : FVec F S2x16384x8x64 .f32 := broadcastInDim S2x16384x8x64 ![] bcast_S_S2x16384x8x64 main_cst
  let main_v2 : IVec S2x16384x8x64 1 := cmpf .olt main_v0 main_v1
  let main_v3 : FVec F S2x16384x2x64 .f32 := Host.absf main_arg1
  let main_cst_0 : FVec F S_ .f32 := constant S_ .f32 0x7F800000#32
  let main_v4 : FVec F S2x16384x2x64 .f32 := broadcastInDim S2x16384x2x64 ![] bcast_S_S2x16384x2x64 main_cst_0
  let main_v5 : IVec S2x16384x2x64 1 := cmpf .olt main_v3 main_v4
  let main_v6 : FVec F S2x256x8x64 .f32 := Host.absf main_arg3
  let main_cst_1 : FVec F S_ .f32 := constant S_ .f32 0x7F800000#32
  let main_v7 : FVec F S2x256x8x64 .f32 := broadcastInDim S2x256x8x64 ![] bcast_S_S2x256x8x64 main_cst_1
  let main_v8 : IVec S2x256x8x64 1 := cmpf .olt main_v6 main_v7
  let main_v9 : FVec F S2x256x2x64 .f32 := Host.absf main_arg4
  let main_cst_2 : FVec F S_ .f32 := constant S_ .f32 0x7F800000#32
  let main_v10 : FVec F S2x256x2x64 .f32 := broadcastInDim S2x256x2x64 ![] bcast_S_S2x256x2x64 main_cst_2
  let main_v11 : IVec S2x256x2x64 1 := cmpf .olt main_v9 main_v10
  let main_cst_3 : FVec F S_ .f32 := constant S_ .f32 0x7F800000#32
  let main_v12 : FVec F S8 .f32 := broadcastInDim S8 ![] bcast_S_S8 main_cst_3
  let main_v13 : IVec S8 1 := cmpf .olt main_arg6 main_v12
  (main_v2, main_v5, main_v8, main_v11, main_v13)
-- ==== Pre_finite_sums.lean ====
abbrev S2x16640x512 : Shape := ⟨3, ![2, 16640, 512]⟩
abbrev S8x64 : Shape := ⟨2, ![8, 64]⟩
abbrev S512 : Shape := ⟨1, ![512]⟩
abbrev S_ : Shape := ⟨0, ![]⟩
abbrev S1x1x512 : Shape := ⟨3, ![1, 1, 512]⟩

class Facts : Prop where
  bcast_S_S2x16640x512 : S_.BroadcastsInDim S2x16640x512 (![] : Fin 0 → Fin S2x16640x512.rank)
  shapeCasts_S8x64_S512 : S8x64.ShapeCasts S512
  bcast_S512_S1x1x512_2 : S512.BroadcastsInDim S1x1x512 (![2] : Fin 1 → Fin S1x1x512.rank)
  bcast_S1x1x512_S2x16640x512_0_1_2 : S1x1x512.BroadcastsInDim S2x16640x512 (![0, 1, 2] : Fin 3 → Fin S2x16640x512.rank)

variable [Facts]

def fn {F : FTy → Type} [FloatOps F] (main_arg0 : FVec F S2x16640x512 .f32) (main_arg1 : FVec F S2x16640x512 .f32) (main_arg2 : FVec F S2x16640x512 .f32) (main_arg3 : FVec F S2x16640x512 .f32) (main_arg4 : FVec F S2x16640x512 .f32) (main_arg5 : FVec F S2x16640x512 .f32) (main_arg6 : FVec F S2x16640x512 .f32) (main_arg7 : FVec F S8x64 .f32) (main_arg8 : FVec F S512 .f32) (main_arg9 : FVec F S512 .f32) : IVec S2x16640x512 1 × IVec S2x16640x512 1 :=
  let main_v0 : FVec F S2x16640x512 .f32 := addf main_arg0 main_arg1
  let main_v1 : FVec F S2x16640x512 .f32 := Host.absf main_v0
  let main_cst : FVec F S_ .f32 := constant S_ .f32 0x7F800000#32
  let main_v2 : FVec F S2x16640x512 .f32 := broadcastInDim S2x16640x512 ![] bcast_S_S2x16640x512 main_cst
  let main_v3 : IVec S2x16640x512 1 := cmpf .olt main_v1 main_v2
  let main_v4 : FVec F S2x16640x512 .f32 := addf main_arg3 main_arg4
  let main_cst_0 : FVec F S_ .f32 := constant S_ .f32 0x3F000000#32
  let main_v5 : FVec F S2x16640x512 .f32 := broadcastInDim S2x16640x512 ![] bcast_S_S2x16640x512 main_cst_0
  let main_v6 : FVec F S2x16640x512 .f32 := mulf main_v5 main_v4
  let main_v7 : FVec F S2x16640x512 .f32 := mulf main_arg2 main_v6
  let main_v8 : FVec F S512 .f32 := shapeCast S512 main_arg7 shapeCasts_S8x64_S512
  let main_v9 : FVec F S1x1x512 .f32 := broadcastInDim S1x1x512 ![2] bcast_S512_S1x1x512_2 main_v8
  let main_v10 : FVec F S2x16640x512 .f32 := broadcastInDim S2x16640x512 ![0, 1, 2] bcast_S1x1x512_S2x16640x512_0_1_2 main_v9
  let main_v11 : FVec F S2x16640x512 .f32 := mulf main_v7 main_v10
  let main_v12 : FVec F S2x16640x512 .f32 := Host.absf main_v11
  let main_cst_1 : FVec F S_ .f32 := constant S_ .f32 0x7F800000#32
  let main_v13 : FVec F S2x16640x512 .f32 := broadcastInDim S2x16640x512 ![] bcast_S_S2x16640x512 main_cst_1
  let main_v14 : IVec S2x16640x512 1 := cmpf .olt main_v12 main_v13
  (main_v3, main_v14)
-- ==== Kernel.lean ====
abbrev S2x16384x8x64 : Shape := ⟨4, ![2, 16384, 8, 64]⟩
abbrev S2x16384x2x64 : Shape := ⟨4, ![2, 16384, 2, 64]⟩
abbrev S2x256x8x64 : Shape := ⟨4, ![2, 256, 8, 64]⟩
abbrev S2x256x2x64 : Shape := ⟨4, ![2, 256, 2, 64]⟩
abbrev S8 : Shape := ⟨1, ![8]⟩
abbrev S2x16640x8x64 : Shape := ⟨4, ![2, 16640, 8, 64]⟩
abbrev S2x16640x512 : Shape := ⟨3, ![2, 16640, 512]⟩
abbrev S_ : Shape := ⟨0, ![]⟩
abbrev S2x16640x2x64 : Shape := ⟨4, ![2, 16640, 2, 64]⟩
abbrev S2x16640x64 : Shape := ⟨3, ![2, 16640, 64]⟩
abbrev S2x16640x1x64 : Shape := ⟨4, ![2, 16640, 1, 64]⟩
abbrev S1x128x512 : Shape := ⟨3, ![1, 128, 512]⟩
abbrev S1x256x512 : Shape := ⟨3, ![1, 256, 512]⟩
abbrev S128x128 : Shape := ⟨2, ![128, 128]⟩
abbrev S1x128x128 : Shape := ⟨3, ![1, 128, 128]⟩
abbrev S1x256x128 : Shape := ⟨3, ![1, 256, 128]⟩
abbrev S256x128 : Shape := ⟨2, ![256, 128]⟩
abbrev S128x256 : Shape := ⟨2, ![128, 256]⟩
abbrev S1 : Shape := ⟨1, ![1]⟩
abbrev S128 : Shape := ⟨1, ![128]⟩
abbrev S128x1 : Shape := ⟨2, ![128, 1]⟩

abbrev nBuf : Space → Nat
  | .hbm => 32
  | .vmem => 20
  | .smem => 1
  | _ => 0

abbrev bufTy : (tb : Table) → Fin (tcTables nBuf tb) → BufTy
  | .hbm, ⟨0, _⟩ => ⟨S2x16384x8x64, .f32⟩
  | .hbm, ⟨1, _⟩ => ⟨S2x16384x2x64, .f32⟩
  | .hbm, ⟨2, _⟩ => ⟨S2x16384x2x64, .f32⟩
  | .hbm, ⟨3, _⟩ => ⟨S2x256x8x64, .f32⟩
  | .hbm, ⟨4, _⟩ => ⟨S2x256x2x64, .f32⟩
  | .hbm, ⟨5, _⟩ => ⟨S2x256x2x64, .f32⟩
  | .hbm, ⟨6, _⟩ => ⟨S8, .f32⟩
  | .hbm, ⟨7, _⟩ => ⟨S2x16640x8x64, .f32⟩
  | .hbm, ⟨8, _⟩ => ⟨S2x16640x512, .f32⟩
  | .hbm, ⟨9, _⟩ => ⟨S_, .f32⟩
  | .hbm, ⟨10, _⟩ => ⟨S2x16640x512, .f32⟩
  | .hbm, ⟨11, _⟩ => ⟨S2x16640x512, .f32⟩
  | .hbm, ⟨12, _⟩ => ⟨S2x16640x512, .bf16⟩
  | .hbm, ⟨13, _⟩ => ⟨S2x16640x2x64, .f32⟩
  | .hbm, ⟨14, _⟩ => ⟨S_, .f32⟩
  | .hbm, ⟨15, _⟩ => ⟨S2x16640x64, .f32⟩
  | .hbm, ⟨16, _⟩ => ⟨S2x16640x1x64, .f32⟩
  | .hbm, ⟨17, _⟩ => ⟨S2x16640x64, .f32⟩
  | .hbm, ⟨18, _⟩ => ⟨S2x16640x1x64, .f32⟩
  | .hbm, ⟨19, _⟩ => ⟨S2x16640x64, .f32⟩
  | .hbm, ⟨20, _⟩ => ⟨S2x16640x512, .f32⟩
  | .hbm, ⟨21, _⟩ => ⟨S2x16640x512, .bf16⟩
  | .hbm, ⟨22, _⟩ => ⟨S2x16640x2x64, .f32⟩
  | .hbm, ⟨23, _⟩ => ⟨S_, .f32⟩
  | .hbm, ⟨24, _⟩ => ⟨S2x16640x64, .f32⟩
  | .hbm, ⟨25, _⟩ => ⟨S2x16640x1x64, .f32⟩
  | .hbm, ⟨26, _⟩ => ⟨S2x16640x64, .f32⟩
  | .hbm, ⟨27, _⟩ => ⟨S2x16640x1x64, .f32⟩
  | .hbm, ⟨28, _⟩ => ⟨S2x16640x64, .f32⟩
  | .hbm, ⟨29, _⟩ => ⟨S2x16640x512, .f32⟩
  | .hbm, ⟨30, _⟩ => ⟨S2x16640x512, .bf16⟩
  | .hbm, ⟨31, _⟩ => ⟨S2x16640x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x128x512, .bf16⟩
  | .local _ .vmem, ⟨11, _⟩ => ⟨S1x128x512, .bf16⟩
  | .local _ .vmem, ⟨12, _⟩ => ⟨S1x128x512, .bf16⟩
  | .local _ .vmem, ⟨13, _⟩ => ⟨S1x128x512, .bf16⟩
  | .local _ .vmem, ⟨14, _⟩ => ⟨S1x128x512, .bf16⟩
  | .local _ .vmem, ⟨15, _⟩ => ⟨S1x128x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x128x512, .bf16⟩
  | .local _ .vmem, ⟨19, _⟩ => ⟨S1x128x512, .bf16⟩
  | .local _ .smem, ⟨0, _⟩ => ⟨S8, .f32⟩
  | _, _ => ⟨S2x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 130], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c127_i32 : BitVec 32 := 127#32
  let v1 : BitVec 32 := Scalar.maxsi c0_i32 v0
  let v2 : BitVec 32 := Scalar.minsi c127_i32 v1
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c127_i32 : BitVec 32 := 127#32
  let v1 : BitVec 32 := Scalar.maxsi c0_i32 v0
  let v2 : BitVec 32 := Scalar.minsi c127_i32 v1
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c64_i32 : BitVec 32 := 64#32
  let c0_i32 : BitVec 32 := 0#32
  let c0_i32_0 : BitVec 32 := 0#32
  ![arg0.toNat, c64_i32.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c127_i32 : BitVec 32 := 127#32
  let v1 : BitVec 32 := Scalar.maxsi c0_i32 v0
  let v2 : BitVec 32 := Scalar.minsi c127_i32 v1
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c127_i32 : BitVec 32 := 127#32
  let v1 : BitVec 32 := Scalar.maxsi c0_i32 v0
  let v2 : BitVec 32 := Scalar.minsi c127_i32 v1
  let c0_i32_0 : BitVec 32 := 0#32
  let c0_i32_1 : BitVec 32 := 0#32
  ![arg0.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c64_i32 : BitVec 32 := 64#32
  let c0_i32 : BitVec 32 := 0#32
  let c0_i32_0 : BitVec 32 := 0#32
  ![arg0.toNat, c64_i32.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x16384x8x64 : Shape := ⟨4, ![2, 16384, 8, 64]⟩
abbrev S2x16384x2x64 : Shape := ⟨4, ![2, 16384, 2, 64]⟩
abbrev S2x256x8x64 : Shape := ⟨4, ![2, 256, 8, 64]⟩
abbrev S2x256x2x64 : Shape := ⟨4, ![2, 256, 2, 64]⟩
abbrev S8 : Shape := ⟨1, ![8]⟩
abbrev S2x4 : Shape := ⟨2, ![2, 4]⟩
abbrev S1x2x4x1x1 : Shape := ⟨5, ![1, 2, 4, 1, 1]⟩
abbrev S2x16384x2x4x64 : Shape := ⟨5, ![2, 16384, 2, 4, 64]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S2x2x16384x16384x4 : Shape := ⟨5, ![2, 2, 16384, 16384, 4]⟩
abbrev S2x2x4x16384x16384 : Shape := ⟨5, ![2, 2, 4, 16384, 16384]⟩
abbrev S2x2x256x16384x4 : Shape := ⟨5, ![2, 2, 256, 16384, 4]⟩
abbrev S2x2x4x16384x256 : Shape := ⟨5, ![2, 2, 4, 16384, 256]⟩
abbrev S2x2x4x16384 : Shape := ⟨4, ![2, 2, 4, 16384]⟩
abbrev S2x2x4x16384x1 : Shape := ⟨5, ![2, 2, 4, 16384, 1]⟩
abbrev S2x2x64x4x16384 : Shape := ⟨5, ![2, 2, 64, 4, 16384]⟩
abbrev S2x16384x512 : Shape := ⟨3, ![2, 16384, 512]⟩
abbrev S2x256x2x4x64 : Shape := ⟨5, ![2, 256, 2, 4, 64]⟩
abbrev S2x2x256x256x4 : Shape := ⟨5, ![2, 2, 256, 256, 4]⟩
abbrev S2x2x4x256x256 : Shape := ⟨5, ![2, 2, 4, 256, 256]⟩
abbrev S2x2x4x256x1 : Shape := ⟨5, ![2, 2, 4, 256, 1]⟩
abbrev S2x2x4x256x257 : Shape := ⟨5, ![2, 2, 4, 256, 257]⟩
abbrev S2x2x4x256 : Shape := ⟨4, ![2, 2, 4, 256]⟩
abbrev S2x2x64x4x256 : Shape := ⟨5, ![2, 2, 64, 4, 256]⟩
abbrev S2x256x512 : Shape := ⟨3, ![2, 256, 512]⟩
abbrev S2x16640x512 : Shape := ⟨3, ![2, 16640, 512]⟩

abbrev nBuf : Space → Nat
  | .hbm => 99
  | .vmem => 0
  | .smem => 0
  | _ => 0

abbrev bufTy : (tb : Table) → Fin (tcTables nBuf tb) → BufTy
  | .hbm, ⟨0, _⟩ => ⟨S2x16384x8x64, .f32⟩
  | .hbm, ⟨1, _⟩ => ⟨S2x16384x2x64, .f32⟩
  | .hbm, ⟨2, _⟩ => ⟨S2x16384x2x64, .f32⟩
  | .hbm, ⟨3, _⟩ => ⟨S2x256x8x64, .f32⟩
  | .hbm, ⟨4, _⟩ => ⟨S2x256x2x64, .f32⟩
  | .hbm, ⟨5, _⟩ => ⟨S2x256x2x64, .f32⟩
  | .hbm, ⟨6, _⟩ => ⟨S8, .f32⟩
  | .hbm, ⟨7, _⟩ => ⟨S2x4, .f32⟩
  | .hbm, ⟨8, _⟩ => ⟨S1x2x4x1x1, .f32⟩
  | .hbm, ⟨9, _⟩ => ⟨S2x16384x2x4x64, .f32⟩
  | .hbm, ⟨10, _⟩ => ⟨S16384, .i32⟩
  | .hbm, ⟨11, _⟩ => ⟨S1x16384, .i32⟩
  | .hbm, ⟨12, _⟩ => ⟨S16384x1, .i32⟩
  | .hbm, ⟨13, _⟩ => ⟨S16384x16384, .i32⟩
  | .hbm, ⟨14, _⟩ => ⟨S16384x16384, .i32⟩
  | .hbm, ⟨15, _⟩ => ⟨S16384x16384, .i32⟩
  | .hbm, ⟨16, _⟩ => ⟨S16384x16384, .i32⟩
  | .hbm, ⟨17, _⟩ => ⟨S_, .i32⟩
  | .hbm, ⟨18, _⟩ => ⟨S16384x16384, .i32⟩
  | .hbm, ⟨19, _⟩ => ⟨S16384x16384, .i1⟩
  | .hbm, ⟨20, _⟩ => ⟨S2x2x16384x16384x4, .f32⟩
  | .hbm, ⟨21, _⟩ => ⟨S2x2x4x16384x16384, .f32⟩
  | .hbm, ⟨22, _⟩ => ⟨S_, .f32⟩
  | .hbm, ⟨23, _⟩ => ⟨S2x2x4x16384x16384, .f32⟩
  | .hbm, ⟨24, _⟩ => ⟨S2x2x4x16384x16384, .f32⟩
  | .hbm, ⟨25, _⟩ => ⟨S_, .f32⟩
  | .hbm, ⟨26, _⟩ => ⟨S_, .f32⟩
  | .hbm, ⟨27, _⟩ => ⟨S2x2x4x16384x16384, .i1⟩
  | .hbm, ⟨28, _⟩ => ⟨S2x2x4x16384x16384, .f32⟩
  | .hbm, ⟨29, _⟩ => ⟨S2x2x4x16384x16384, .f32⟩
  | .hbm, ⟨30, _⟩ => ⟨S2x2x256x16384x4, .f32⟩
  | .hbm, ⟨31, _⟩ => ⟨S2x2x4x16384x256, .f32⟩
  | .hbm, ⟨32, _⟩ => ⟨S_, .f32⟩
  | .hbm, ⟨33, _⟩ => ⟨S2x2x4x16384x256, .f32⟩
  | .hbm, ⟨34, _⟩ => ⟨S2x2x4x16384x256, .f32⟩
  | .hbm, ⟨35, _⟩ => ⟨S_, .f32⟩
  | .hbm, ⟨36, _⟩ => ⟨S2x2x4x16384, .f32⟩
  | .hbm, ⟨37, _⟩ => ⟨S2x2x4x16384x1, .f32⟩
  | .hbm, ⟨38, _⟩ => ⟨S_, .f32⟩
  | .hbm, ⟨39, _⟩ => ⟨S2x2x4x16384, .f32⟩
  | .hbm, ⟨40, _⟩ => ⟨S2x2x4x16384x1, .f32⟩
  | .hbm, ⟨41, _⟩ => ⟨S2x2x4x16384x1, .f32⟩
  | .hbm, ⟨42, _⟩ => ⟨S2x2x4x16384x1, .f32⟩
  | .hbm, ⟨43, _⟩ => ⟨S2x2x4x16384x1, .f32⟩
  | .hbm, ⟨44, _⟩ => ⟨S2x2x4x16384x16384, .f32⟩
  | .hbm, ⟨45, _⟩ => ⟨S2x2x4x16384x16384, .f32⟩
  | .hbm, ⟨46, _⟩ => ⟨S2x2x4x16384x16384, .f32⟩
  | .hbm, ⟨47, _⟩ => ⟨S2x2x4x16384x256, .f32⟩
  | .hbm, ⟨48, _⟩ => ⟨S2x2x4x16384x256, .f32⟩
  | .hbm, ⟨49, _⟩ => ⟨S2x2x4x16384x256, .f32⟩
  | .hbm, ⟨50, _⟩ => ⟨S_, .f32⟩
  | .hbm, ⟨51, _⟩ => ⟨S2x2x4x16384, .f32⟩
  | .hbm, ⟨52, _⟩ => ⟨S2x2x4x16384x1, .f32⟩
  | .hbm, ⟨53, _⟩ => ⟨S_, .f32⟩
  | .hbm, ⟨54, _⟩ => ⟨S2x2x4x16384, .f32⟩
  | .hbm, ⟨55, _⟩ => ⟨S2x2x4x16384x1, .f32⟩
  | .hbm, ⟨56, _⟩ => ⟨S2x2x4x16384x1, .f32⟩
  | .hbm, ⟨57, _⟩ => ⟨S2x2x4x16384x1, .f32⟩
  | .hbm, ⟨58, _⟩ => ⟨S2x2x4x16384x1, .f32⟩
  | .hbm, ⟨59, _⟩ => ⟨S2x2x4x16384x1, .f32⟩
  | .hbm, ⟨60, _⟩ => ⟨S2x2x4x16384x1, .f32⟩
  | .hbm, ⟨61, _⟩ => ⟨S2x2x4x16384x16384, .f32⟩
  | .hbm, ⟨62, _⟩ => ⟨S2x2x4x16384x16384, .f32⟩
  | .hbm, ⟨63, _⟩ => ⟨S2x2x4x16384x256, .f32⟩
  | .hbm, ⟨64, _⟩ => ⟨S2x2x4x16384x256, .f32⟩
  | .hbm, ⟨65, _⟩ => ⟨S2x2x64x4x16384, .f32⟩
  | .hbm, ⟨66, _⟩ => ⟨S2x16384x2x4x64, .f32⟩
  | .hbm, ⟨67, _⟩ => ⟨S2x2x64x4x16384, .f32⟩
  | .hbm, ⟨68, _⟩ => ⟨S2x16384x2x4x64, .f32⟩
  | .hbm, ⟨69, _⟩ => ⟨S2x16384x2x4x64, .f32⟩
  | .hbm, ⟨70, _⟩ => ⟨S2x16384x512, .f32⟩
  | .hbm, ⟨71, _⟩ => ⟨S2x256x2x4x64, .f32⟩
  | .hbm, ⟨72, _⟩ => ⟨S2x2x256x256x4, .f32⟩
  | .hbm, ⟨73, _⟩ => ⟨S2x2x4x256x256, .f32⟩
  | .hbm, ⟨74, _⟩ => ⟨S_, .f32⟩
  | .hbm, ⟨75, _⟩ => ⟨S2x2x4x256x256, .f32⟩
  | .hbm, ⟨76, _⟩ => ⟨S2x2x4x256x256, .f32⟩
  | .hbm, ⟨77, _⟩ => ⟨S2x2x4x256x1, .f32⟩
  | .hbm, ⟨78, _⟩ => ⟨S2x2x4x256x257, .f32⟩
  | .hbm, ⟨79, _⟩ => ⟨S_, .f32⟩
  | .hbm, ⟨80, _⟩ => ⟨S2x2x4x256, .f32⟩
  | .hbm, ⟨81, _⟩ => ⟨S_, .f32⟩
  | .hbm, ⟨82, _⟩ => ⟨S2x2x4x256, .f32⟩
  | .hbm, ⟨83, _⟩ => ⟨S2x2x4x256, .f32⟩
  | .hbm, ⟨84, _⟩ => ⟨S2x2x4x256x1, .f32⟩
  | .hbm, ⟨85, _⟩ => ⟨S2x2x4x256x257, .f32⟩
  | .hbm, ⟨86, _⟩ => ⟨S2x2x4x256x257, .f32⟩
  | .hbm, ⟨87, _⟩ => ⟨S2x2x4x256x257, .f32⟩
  | .hbm, ⟨88, _⟩ => ⟨S_, .f32⟩
  | .hbm, ⟨89, _⟩ => ⟨S2x2x4x256, .f32⟩
  | .hbm, ⟨90, _⟩ => ⟨S2x2x4x256x1, .f32⟩
  | .hbm, ⟨91, _⟩ => ⟨S2x2x4x256x257, .f32⟩
  | .hbm, ⟨92, _⟩ => ⟨S2x2x4x256x257, .f32⟩
  | .hbm, ⟨93, _⟩ => ⟨S2x2x4x256x256, .f32⟩
  | .hbm, ⟨94, _⟩ => ⟨S2x2x64x4x256, .f32⟩
  | .hbm, ⟨95, _⟩ => ⟨S2x256x2x4x64, .f32⟩
  | .hbm, ⟨96, _⟩ => ⟨S2x256x512, .f32⟩
  | .hbm, ⟨97, _⟩ => ⟨S2x16640x512, .f32⟩
  | .hbm, ⟨98, _⟩ => ⟨S2x16640x512, .bf16⟩
  | _, _ => ⟨S2x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_6 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_7 : Ref sig .tc := ⟨.hbm, 79, rfl⟩
abbrev main_v60 : Ref sig .tc := ⟨.hbm, 80, rfl⟩
abbrev main_cst_8 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_9 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== Kernel2.lean ====
abbrev S2x16384x2048 : Shape := ⟨3, ![2, 16384, 2048]⟩
abbrev S2x256x2048 : Shape := ⟨3, ![2, 256, 2048]⟩
abbrev S2x12288 : Shape := ⟨2, ![2, 12288]⟩
abbrev S12288 : Shape := ⟨1, ![12288]⟩
abbrev S2048 : Shape := ⟨1, ![2048]⟩
abbrev S2048x4224 : Shape := ⟨2, ![2048, 4224]⟩
abbrev S2x16640x2048 : Shape := ⟨3, ![2, 16640, 2048]⟩
abbrev S2048x1920 : Shape := ⟨2, ![2048, 1920]⟩
abbrev S2048x512 : Shape := ⟨2, ![2048, 512]⟩
abbrev S2048x1024 : Shape := ⟨2, ![2048, 1024]⟩
abbrev S2048x768 : Shape := ⟨2, ![2048, 768]⟩
abbrev S_ : Shape := ⟨0, ![]⟩
abbrev S5x12288 : Shape := ⟨2, ![5, 12288]⟩
abbrev S1x12288 : Shape := ⟨2, ![1, 12288]⟩
abbrev S8x12288 : Shape := ⟨2, ![8, 12288]⟩
abbrev S8x1x12288 : Shape := ⟨3, ![8, 1, 12288]⟩
abbrev S1x2048 : Shape := ⟨2, ![1, 2048]⟩
abbrev S2x16640x1920 : Shape := ⟨3, ![2, 16640, 1920]⟩
abbrev S2x16640x512 : Shape := ⟨3, ![2, 16640, 512]⟩
abbrev S2x16640x1024 : Shape := ⟨3, ![2, 16640, 1024]⟩
abbrev S2x16640x768 : Shape := ⟨3, ![2, 16640, 768]⟩
abbrev S1x256x2048 : Shape := ⟨3, ![1, 256, 2048]⟩
abbrev S1x1x12288 : Shape := ⟨3, ![1, 1, 12288]⟩
abbrev S1x256x1920 : Shape := ⟨3, ![1, 256, 1920]⟩
abbrev S1x256x512 : Shape := ⟨3, ![1, 256, 512]⟩
abbrev S1x256x1024 : Shape := ⟨3, ![1, 256, 1024]⟩
abbrev S1x256x768 : Shape := ⟨3, ![1, 256, 768]⟩
abbrev S256x2048 : Shape := ⟨2, ![256, 2048]⟩
abbrev S256 : Shape := ⟨1, ![256]⟩
abbrev S256x1 : Shape := ⟨2, ![256, 1]⟩
abbrev S1x1x2048 : Shape := ⟨3, ![1, 1, 2048]⟩
abbrev S256x1920 : Shape := ⟨2, ![256, 1920]⟩
abbrev S256x512 : Shape := ⟨2, ![256, 512]⟩
abbrev S256x1024 : Shape := ⟨2, ![256, 1024]⟩
abbrev S256x768 : Shape := ⟨2, ![256, 768]⟩

abbrev nBuf : Space → Nat
  | .hbm => 25
  | .vmem => 17
  | .smem => 0
  | _ => 0

abbrev bufTy : (tb : Table) → Fin (tcTables nBuf tb) → BufTy
  | .hbm, ⟨0, _⟩ => ⟨S2x16384x2048, .f32⟩
  | .hbm, ⟨1, _⟩ => ⟨S2x256x2048, .f32⟩
  | .hbm, ⟨2, _⟩ => ⟨S2x12288, .f32⟩
  | .hbm, ⟨3, _⟩ => ⟨S12288, .f32⟩
  | .hbm, ⟨4, _⟩ => ⟨S2048, .f32⟩
  | .hbm, ⟨5, _⟩ => ⟨S2048x4224, .f32⟩
  | .hbm, ⟨6, _⟩ => ⟨S2x16640x2048, .f32⟩
  | .hbm, ⟨7, _⟩ => ⟨S2048x1920, .f32⟩
  | .hbm, ⟨8, _⟩ => ⟨S2048x512, .f32⟩
  | .hbm, ⟨9, _⟩ => ⟨S2048x1024, .f32⟩
  | .hbm, ⟨10, _⟩ => ⟨S2048x768, .f32⟩
  | .hbm, ⟨11, _⟩ => ⟨S2048x1920, .bf16⟩
  | .hbm, ⟨12, _⟩ => ⟨S2048x512, .bf16⟩
  | .hbm, ⟨13, _⟩ => ⟨S2048x1024, .bf16⟩
  | .hbm, ⟨14, _⟩ => ⟨S2048x768, .bf16⟩
  | .hbm, ⟨15, _⟩ => ⟨S_, .f32⟩
  | .hbm, ⟨16, _⟩ => ⟨S5x12288, .f32⟩
  | .hbm, ⟨17, _⟩ => ⟨S1x12288, .f32⟩
  | .hbm, ⟨18, _⟩ => ⟨S8x12288, .f32⟩
  | .hbm, ⟨19, _⟩ => ⟨S8x1x12288, .f32⟩
  | .hbm, ⟨20, _⟩ => ⟨S1x2048, .f32⟩
  | .hbm, ⟨21, _⟩ => ⟨S2x16640x1920, .f32⟩
  | .hbm, ⟨22, _⟩ => ⟨S2x16640x512, .f32⟩
  | .hbm, ⟨23, _⟩ => ⟨S2x16640x1024, .f32⟩
  | .hbm, ⟨24, _⟩ => ⟨S2x16640x768, .f32⟩
  | .local _ .vmem, ⟨0, _⟩ => ⟨S1x256x2048, .f32⟩
  | .local _ .vmem, ⟨1, _⟩ => ⟨S1x256x2048, .f32⟩
  | .local _ .vmem, ⟨2, _⟩ => ⟨S1x1x12288, .f32⟩
  | .local _ .vmem, ⟨3, _⟩ => ⟨S1x1x12288, .f32⟩
  | .local _ .vmem, ⟨4, _⟩ => ⟨S1x2048, .f32⟩
  | .local _ .vmem, ⟨5, _⟩ => ⟨S2048x1920, .bf16⟩
  | .local _ .vmem, ⟨6, _⟩ => ⟨S2048x512, .bf16⟩
  | .local _ .vmem, ⟨7, _⟩ => ⟨S2048x1024, .bf16⟩
  | .local _ .vmem, ⟨8, _⟩ => ⟨S2048x768, .bf16⟩
  | .local _ .vmem, ⟨9, _⟩ => ⟨S1x256x1920, .f32⟩
  | .local _ .vmem, ⟨10, _⟩ => ⟨S1x256x1920, .f32⟩
  | .local _ .vmem, ⟨11, _⟩ => ⟨S1x256x512, .f32⟩
  | .local _ .vmem, ⟨12, _⟩ => ⟨S1x256x512, .f32⟩
  | .local _ .vmem, ⟨13, _⟩ => ⟨S1x256x1024, .f32⟩
  | .local _ .vmem, ⟨14, _⟩ => ⟨S1x256x1024, .f32⟩
  | .local _ .vmem, ⟨15, _⟩ => ⟨S1x256x768, .f32⟩
  | .local _ .vmem, ⟨16, _⟩ => ⟨S1x256x768, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 1 := Scalar.cmpi .sge arg1 c64_i32
  let c2_i32 : BitVec 32 := 2#32
  let v1 : BitVec 32 := Scalar.select v0 c2_i32 arg0
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x12288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1920 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S2x16384x2048 : Shape := ⟨3, ![2, 16384, 2048]⟩
abbrev S2x256x2048 : Shape := ⟨3, ![2, 256, 2048]⟩
abbrev S2x12288 : Shape := ⟨2, ![2, 12288]⟩
abbrev S12288 : Shape := ⟨1, ![12288]⟩
abbrev S2048 : Shape := ⟨1, ![2048]⟩
abbrev S2048x4224 : Shape := ⟨2, ![2048, 4224]⟩
abbrev S2x1x12288 : Shape := ⟨3, ![2, 1, 12288]⟩
abbrev S2x1x2048 : Shape := ⟨3, ![2, 1, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x256 : Shape := ⟨2, ![2, 256]⟩
abbrev S2x256x1 : Shape := ⟨3, ![2, 256, 1]⟩
abbrev S2x16384x4224 : Shape := ⟨3, ![2, 16384, 4224]⟩
abbrev S2x256x4224 : Shape := ⟨3, ![2, 256, 4224]⟩
abbrev S2x16384x1920 : Shape := ⟨3, ![2, 16384, 1920]⟩
abbrev S2x16384x512 : Shape := ⟨3, ![2, 16384, 512]⟩
abbrev S2x16384x1024 : Shape := ⟨3, ![2, 16384, 1024]⟩
abbrev S2x16384x768 : Shape := ⟨3, ![2, 16384, 768]⟩
abbrev S2x256x1920 : Shape := ⟨3, ![2, 256, 1920]⟩
abbrev S2x256x512 : Shape := ⟨3, ![2, 256, 512]⟩
abbrev S2x256x1024 : Shape := ⟨3, ![2, 256, 1024]⟩
abbrev S2x256x768 : Shape := ⟨3, ![2, 256, 768]⟩
abbrev S2x16640x1920 : Shape := ⟨3, ![2, 16640, 1920]⟩
abbrev S2x16640x512 : Shape := ⟨3, ![2, 16640, 512]⟩
abbrev S2x16640x1024 : Shape := ⟨3, ![2, 16640, 1024]⟩
abbrev S2x16640x768 : Shape := ⟨3, ![2, 16640, 768]⟩

abbrev nBuf : Space → Nat
  | .hbm => 81
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x256x2048, .f32⟩
  | .hbm, ⟨2, _⟩ => ⟨S2x12288, .f32⟩
  | .hbm, ⟨3, _⟩ => ⟨S12288, .f32⟩
  | .hbm, ⟨4, _⟩ => ⟨S2048, .f32⟩
  | .hbm, ⟨5, _⟩ => ⟨S2048x4224, .f32⟩
  | .hbm, ⟨6, _⟩ => ⟨S2x1x12288, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S2x16384x2048, .f32⟩
  | .hbm, ⟨20, _⟩ => ⟨S_, .f32⟩
  | .hbm, ⟨21, _⟩ => ⟨S2x16384, .f32⟩
  | .hbm, ⟨22, _⟩ => ⟨S2x16384x1, .f32⟩
  | .hbm, ⟨23, _⟩ => ⟨S_, .f32⟩
  | .hbm, ⟨24, _⟩ => ⟨S2x16384x1, .f32⟩
  | .hbm, ⟨25, _⟩ => ⟨S2x16384x1, .f32⟩
  | .hbm, ⟨26, _⟩ => ⟨S_, .f32⟩
  | .hbm, ⟨27, _⟩ => ⟨S2x16384x1, .f32⟩
  | .hbm, ⟨28, _⟩ => ⟨S2x16384x1, .f32⟩
  | .hbm, ⟨29, _⟩ => ⟨S2x16384x1, .f32⟩
  | .hbm, ⟨30, _⟩ => ⟨S2x16384x2048, .f32⟩
  | .hbm, ⟨31, _⟩ => ⟨S2x16384x2048, .f32⟩
  | .hbm, ⟨32, _⟩ => ⟨S1x1x2048, .f32⟩
  | .hbm, ⟨33, _⟩ => ⟨S2x16384x2048, .f32⟩
  | .hbm, ⟨34, _⟩ => ⟨S2x16384x2048, .f32⟩
  | .hbm, ⟨35, _⟩ => ⟨S_, .f32⟩
  | .hbm, ⟨36, _⟩ => ⟨S2x1x2048, .f32⟩
  | .hbm, ⟨37, _⟩ => ⟨S2x1x2048, .f32⟩
  | .hbm, ⟨38, _⟩ => ⟨S2x16384x2048, .f32⟩
  | .hbm, ⟨39, _⟩ => ⟨S2x16384x2048, .f32⟩
  | .hbm, ⟨40, _⟩ => ⟨S2x16384x2048, .f32⟩
  | .hbm, ⟨41, _⟩ => ⟨S2x16384x2048, .f32⟩
  | .hbm, ⟨42, _⟩ => ⟨S2x256x2048, .f32⟩
  | .hbm, ⟨43, _⟩ => ⟨S_, .f32⟩
  | .hbm, ⟨44, _⟩ => ⟨S2x256, .f32⟩
  | .hbm, ⟨45, _⟩ => ⟨S2x256x1, .f32⟩
  | .hbm, ⟨46, _⟩ => ⟨S_, .f32⟩
  | .hbm, ⟨47, _⟩ => ⟨S2x256x1, .f32⟩
  | .hbm, ⟨48, _⟩ => ⟨S2x256x1, .f32⟩
  | .hbm, ⟨49, _⟩ => ⟨S_, .f32⟩
  | .hbm, ⟨50, _⟩ => ⟨S2x256x1, .f32⟩
  | .hbm, ⟨51, _⟩ => ⟨S2x256x1, .f32⟩
  | .hbm, ⟨52, _⟩ => ⟨S2x256x1, .f32⟩
  | .hbm, ⟨53, _⟩ => ⟨S2x256x2048, .f32⟩
  | .hbm, ⟨54, _⟩ => ⟨S2x256x2048, .f32⟩
  | .hbm, ⟨55, _⟩ => ⟨S1x1x2048, .f32⟩
  | .hbm, ⟨56, _⟩ => ⟨S2x256x2048, .f32⟩
  | .hbm, ⟨57, _⟩ => ⟨S2x256x2048, .f32⟩
  | .hbm, ⟨58, _⟩ => ⟨S_, .f32⟩
  | .hbm, ⟨59, _⟩ => ⟨S2048, .f32⟩
  | .hbm, ⟨60, _⟩ => ⟨S2048, .f32⟩
  | .hbm, ⟨61, _⟩ => ⟨S1x1x2048, .f32⟩
  | .hbm, ⟨62, _⟩ => ⟨S2x256x2048, .f32⟩
  | .hbm, ⟨63, _⟩ => ⟨S2x256x2048, .f32⟩
  | .hbm, ⟨64, _⟩ => ⟨S1x1x2048, .f32⟩
  | .hbm, ⟨65, _⟩ => ⟨S2x256x2048, .f32⟩
  | .hbm, ⟨66, _⟩ => ⟨S2x256x2048, .f32⟩
  | .hbm, ⟨67, _⟩ => ⟨S2x16384x4224, .f32⟩
  | .hbm, ⟨68, _⟩ => ⟨S2x256x4224, .f32⟩
  | .hbm, ⟨69, _⟩ => ⟨S2x16384x1920, .f32⟩
  | .hbm, ⟨70, _⟩ => ⟨S2x16384x512, .f32⟩
  | .hbm, ⟨71, _⟩ => ⟨S2x16384x1024, .f32⟩
  | .hbm, ⟨72, _⟩ => ⟨S2x16384x768, .f32⟩
  | .hbm, ⟨73, _⟩ => ⟨S2x256x1920, .f32⟩
  | .hbm, ⟨74, _⟩ => ⟨S2x256x512, .f32⟩
  | .hbm, ⟨75, _⟩ => ⟨S2x256x1024, .f32⟩
  | .hbm, ⟨76, _⟩ => ⟨S2x256x768, .f32⟩
  | .hbm, ⟨77, _⟩ => ⟨S2x16640x1920, .f32⟩
  | .hbm, ⟨78, _⟩ => ⟨S2x16640x512, .f32⟩
  | .hbm, ⟨79, _⟩ => ⟨S2x16640x1024, .f32⟩
  | .hbm, ⟨80, _⟩ => ⟨S2x16640x768, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩

abbrev nD : Nat := 1
abbrev τ : Topo := Topo.v7x

variable {F : FTy → Type} [FloatOps F]
-- ==== Kernel3.lean ====
abbrev S2x16384x2048 : Shape := ⟨3, ![2, 16384, 2048]⟩
abbrev S2x256x2048 : Shape := ⟨3, ![2, 256, 2048]⟩
abbrev S2x16384x512 : Shape := ⟨3, ![2, 16384, 512]⟩
abbrev S2x256x512 : Shape := ⟨3, ![2, 256, 512]⟩
abbrev S2x12288 : Shape := ⟨2, ![2, 12288]⟩
abbrev S12288 : Shape := ⟨1, ![12288]⟩
abbrev S2048 : Shape := ⟨1, ![2048]⟩
abbrev S2048x2048 : Shape := ⟨2, ![2048, 2048]⟩
abbrev S2048x64 : Shape := ⟨2, ![2048, 64]⟩
abbrev S64 : Shape := ⟨1, ![64]⟩
abbrev S2x16640x512 : Shape := ⟨3, ![2, 16640, 512]⟩
abbrev S_ : Shape := ⟨0, ![]⟩
abbrev S5x12288 : Shape := ⟨2, ![5, 12288]⟩
abbrev S1x12288 : Shape := ⟨2, ![1, 12288]⟩
abbrev S8x12288 : Shape := ⟨2, ![8, 12288]⟩
abbrev S8x1x12288 : Shape := ⟨3, ![8, 1, 12288]⟩
abbrev S2x16640x2048 : Shape := ⟨3, ![2, 16640, 2048]⟩
abbrev S64x2048 : Shape := ⟨2, ![64, 2048]⟩
abbrev S64x1 : Shape := ⟨2, ![64, 1]⟩
abbrev S64x256 : Shape := ⟨2, ![64, 256]⟩
abbrev S1x2048 : Shape := ⟨2, ![1, 2048]⟩
abbrev S2x2x16640 : Shape := ⟨3, ![2, 2, 16640]⟩
abbrev S1x256x512 : Shape := ⟨3, ![1, 256, 512]⟩
abbrev S1x256x2048 : Shape := ⟨3, ![1, 256, 2048]⟩
abbrev S1x1x12288 : Shape := ⟨3, ![1, 1, 12288]⟩
abbrev S1x2x256 : Shape := ⟨3, ![1, 2, 256]⟩
abbrev S1x128x512 : Shape := ⟨3, ![1, 128, 512]⟩
abbrev S128x512 : Shape := ⟨2, ![128, 512]⟩
abbrev S512x2048 : Shape := ⟨2, ![512, 2048]⟩
abbrev S128x2048 : Shape := ⟨2, ![128, 2048]⟩
abbrev S1x128x2048 : Shape := ⟨3, ![1, 128, 2048]⟩
abbrev S1x1x2048 : Shape := ⟨3, ![1, 1, 2048]⟩
abbrev S128 : Shape := ⟨1, ![128]⟩
abbrev S128x1 : Shape := ⟨2, ![128, 1]⟩
abbrev S64x128 : Shape := ⟨2, ![64, 128]⟩
abbrev S8x128 : Shape := ⟨2, ![8, 128]⟩
abbrev S1x128 : Shape := ⟨2, ![1, 128]⟩
abbrev S1x1x128 : Shape := ⟨3, ![1, 1, 128]⟩

abbrev nBuf : Space → Nat
  | .hbm => 38
  | .vmem => 24
  | .smem => 0
  | _ => 0

abbrev bufTy : (tb : Table) → Fin (tcTables nBuf tb) → BufTy
  | .hbm, ⟨0, _⟩ => ⟨S2x16384x2048, .f32⟩
  | .hbm, ⟨1, _⟩ => ⟨S2x256x2048, .f32⟩
  | .hbm, ⟨2, _⟩ => ⟨S2x16384x512, .f32⟩
  | .hbm, ⟨3, _⟩ => ⟨S2x16384x512, .f32⟩
  | .hbm, ⟨4, _⟩ => ⟨S2x16384x512, .f32⟩
  | .hbm, ⟨5, _⟩ => ⟨S2x16384x512, .f32⟩
  | .hbm, ⟨6, _⟩ => ⟨S2x256x512, .f32⟩
  | .hbm, ⟨7, _⟩ => ⟨S2x256x512, .f32⟩
  | .hbm, ⟨8, _⟩ => ⟨S2x256x512, .f32⟩
  | .hbm, ⟨9, _⟩ => ⟨S2x256x512, .f32⟩
  | .hbm, ⟨10, _⟩ => ⟨S2x12288, .f32⟩
  | .hbm, ⟨11, _⟩ => ⟨S12288, .f32⟩
  | .hbm, ⟨12, _⟩ => ⟨S2048, .f32⟩
  | .hbm, ⟨13, _⟩ => ⟨S2048x2048, .f32⟩
  | .hbm, ⟨14, _⟩ => ⟨S2048x64, .f32⟩
  | .hbm, ⟨15, _⟩ => ⟨S64, .f32⟩
  | .hbm, ⟨16, _⟩ => ⟨S2x16640x512, .f32⟩
  | .hbm, ⟨17, _⟩ => ⟨S2x16640x512, .bf16⟩
  | .hbm, ⟨18, _⟩ => ⟨S2x16640x512, .f32⟩
  | .hbm, ⟨19, _⟩ => ⟨S2x16640x512, .f32⟩
  | .hbm, ⟨20, _⟩ => ⟨S2x16640x512, .bf16⟩
  | .hbm, ⟨21, _⟩ => ⟨S2x16640x512, .f32⟩
  | .hbm, ⟨22, _⟩ => ⟨S2x16640x512, .bf16⟩
  | .hbm, ⟨23, _⟩ => ⟨S_, .f32⟩
  | .hbm, ⟨24, _⟩ => ⟨S5x12288, .f32⟩
  | .hbm, ⟨25, _⟩ => ⟨S1x12288, .f32⟩
  | .hbm, ⟨26, _⟩ => ⟨S8x12288, .f32⟩
  | .hbm, ⟨27, _⟩ => ⟨S8x1x12288, .f32⟩
  | .hbm, ⟨28, _⟩ => ⟨S2x16640x2048, .f32⟩
  | .hbm, ⟨29, _⟩ => ⟨S2048x2048, .bf16⟩
  | .hbm, ⟨30, _⟩ => ⟨S64x2048, .f32⟩
  | .hbm, ⟨31, _⟩ => ⟨S64x1, .f32⟩
  | .hbm, ⟨32, _⟩ => ⟨S64x256, .f32⟩
  | .hbm, ⟨33, _⟩ => ⟨S1x2048, .f32⟩
  | .hbm, ⟨34, _⟩ => ⟨S2x16640x2048, .f32⟩
  | .hbm, ⟨35, _⟩ => ⟨S2x16640x2048, .bf16⟩
  | .hbm, ⟨36, _⟩ => ⟨S2x2x16640, .i32⟩
  | .hbm, ⟨37, _⟩ => ⟨S2x2x16640, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x2048, .f32⟩
  | .local _ .vmem, ⟨9, _⟩ => ⟨S1x256x2048, .f32⟩
  | .local _ .vmem, ⟨10, _⟩ => ⟨S1x1x12288, .f32⟩
  | .local _ .vmem, ⟨11, _⟩ => ⟨S1x1x12288, .f32⟩
  | .local _ .vmem, ⟨12, _⟩ => ⟨S1x2048, .f32⟩
  | .local _ .vmem, ⟨13, _⟩ => ⟨S2048x2048, .bf16⟩
  | .local _ .vmem, ⟨14, _⟩ => ⟨S64x2048, .f32⟩
  | .local _ .vmem, ⟨15, _⟩ => ⟨S64x256, .f32⟩
  | .local _ .vmem, ⟨16, _⟩ => ⟨S1x256x2048, .f32⟩
  | .local _ .vmem, ⟨17, _⟩ => ⟨S1x256x2048, .f32⟩
  | .local _ .vmem, ⟨18, _⟩ => ⟨S1x256x2048, .bf16⟩
  | .local _ .vmem, ⟨19, _⟩ => ⟨S1x256x2048, .bf16⟩
  | .local _ .vmem, ⟨20, _⟩ => ⟨S1x2x256, .i32⟩
  | .local _ .vmem, ⟨21, _⟩ => ⟨S1x2x256, .i32⟩
  | .local _ .vmem, ⟨22, _⟩ => ⟨S1x2x256, .f32⟩
  | .local _ .vmem, ⟨23, _⟩ => ⟨S1x2x256, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_v17_2 : Ref sig .tc := ⟨.hbm, 36, rfl⟩
abbrev main_v17_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 1 := Scalar.cmpi .sge arg1 c64_i32
  let c2_i32 : BitVec 32 := 2#32
  let v1 : BitVec 32 := Scalar.select v0 c2_i32 arg0
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x12288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x256 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S2x16384x2048 : Shape := ⟨3, ![2, 16384, 2048]⟩
abbrev S2x256x2048 : Shape := ⟨3, ![2, 256, 2048]⟩
abbrev S2x16384x512 : Shape := ⟨3, ![2, 16384, 512]⟩
abbrev S2x256x512 : Shape := ⟨3, ![2, 256, 512]⟩
abbrev S2x12288 : Shape := ⟨2, ![2, 12288]⟩
abbrev S12288 : Shape := ⟨1, ![12288]⟩
abbrev S2048 : Shape := ⟨1, ![2048]⟩
abbrev S2048x2048 : Shape := ⟨2, ![2048, 2048]⟩
abbrev S2048x64 : Shape := ⟨2, ![2048, 64]⟩
abbrev S64 : Shape := ⟨1, ![64]⟩
abbrev S2x1x12288 : Shape := ⟨3, ![2, 1, 12288]⟩
abbrev S2x1x2048 : Shape := ⟨3, ![2, 1, 2048]⟩
abbrev S1x1x2048 : Shape := ⟨3, ![1, 1, 2048]⟩
abbrev S_ : Shape := ⟨0, ![]⟩
abbrev S2x16384 : Shape := ⟨2, ![2, 16384]⟩
abbrev S2x16384x1 : Shape := ⟨3, ![2, 16384, 1]⟩
abbrev S2x256 : Shape := ⟨2, ![2, 256]⟩
abbrev S2x256x1 : Shape := ⟨3, ![2, 256, 1]⟩
abbrev S2x16640x2048 : Shape := ⟨3, ![2, 16640, 2048]⟩

abbrev nBuf : Space → Nat
  | .hbm => 91
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x256x2048, .f32⟩
  | .hbm, ⟨2, _⟩ => ⟨S2x16384x512, .f32⟩
  | .hbm, ⟨3, _⟩ => ⟨S2x16384x512, .f32⟩
  | .hbm, ⟨4, _⟩ => ⟨S2x16384x512, .f32⟩
  | .hbm, ⟨5, _⟩ => ⟨S2x16384x512, .f32⟩
  | .hbm, ⟨6, _⟩ => ⟨S2x256x512, .f32⟩
  | .hbm, ⟨7, _⟩ => ⟨S2x256x512, .f32⟩
  | .hbm, ⟨8, _⟩ => ⟨S2x256x512, .f32⟩
  | .hbm, ⟨9, _⟩ => ⟨S2x256x512, .f32⟩
  | .hbm, ⟨10, _⟩ => ⟨S2x12288, .f32⟩
  | .hbm, ⟨11, _⟩ => ⟨S12288, .f32⟩
  | .hbm, ⟨12, _⟩ => ⟨S2048, .f32⟩
  | .hbm, ⟨13, _⟩ => ⟨S2048x2048, .f32⟩
  | .hbm, ⟨14, _⟩ => ⟨S2048x64, .f32⟩
  | .hbm, ⟨15, _⟩ => ⟨S64, .f32⟩
  | .hbm, ⟨16, _⟩ => ⟨S2x1x12288, .f32⟩
  | .hbm, ⟨17, _⟩ => ⟨S2x1x2048, .f32⟩
  | .hbm, ⟨18, _⟩ => ⟨S2x1x2048, .f32⟩
  | .hbm, ⟨19, _⟩ => ⟨S2x1x2048, .f32⟩
  | .hbm, ⟨20, _⟩ => ⟨S2x1x2048, .f32⟩
  | .hbm, ⟨21, _⟩ => ⟨S2x1x2048, .f32⟩
  | .hbm, ⟨22, _⟩ => ⟨S2x1x2048, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S2048, .f32⟩
  | .hbm, ⟨29, _⟩ => ⟨S2x16384x2048, .f32⟩
  | .hbm, ⟨30, _⟩ => ⟨S2x16384x2048, .f32⟩
  | .hbm, ⟨31, _⟩ => ⟨S2x16384x2048, .f32⟩
  | .hbm, ⟨32, _⟩ => ⟨S2x16384x2048, .f32⟩
  | .hbm, ⟨33, _⟩ => ⟨S2x16384x2048, .f32⟩
  | .hbm, ⟨34, _⟩ => ⟨S2x256x2048, .f32⟩
  | .hbm, ⟨35, _⟩ => ⟨S2x256x2048, .f32⟩
  | .hbm, ⟨36, _⟩ => ⟨S1x1x2048, .f32⟩
  | .hbm, ⟨37, _⟩ => ⟨S2x256x2048, .f32⟩
  | .hbm, ⟨38, _⟩ => ⟨S2x256x2048, .f32⟩
  | .hbm, ⟨39, _⟩ => ⟨S2x256x2048, .f32⟩
  | .hbm, ⟨40, _⟩ => ⟨S2x16384x2048, .f32⟩
  | .hbm, ⟨41, _⟩ => ⟨S_, .f32⟩
  | .hbm, ⟨42, _⟩ => ⟨S2x16384, .f32⟩
  | .hbm, ⟨43, _⟩ => ⟨S2x16384x1, .f32⟩
  | .hbm, ⟨44, _⟩ => ⟨S_, .f32⟩
  | .hbm, ⟨45, _⟩ => ⟨S2x16384x1, .f32⟩
  | .hbm, ⟨46, _⟩ => ⟨S2x16384x1, .f32⟩
  | .hbm, ⟨47, _⟩ => ⟨S_, .f32⟩
  | .hbm, ⟨48, _⟩ => ⟨S2x16384x1, .f32⟩
  | .hbm, ⟨49, _⟩ => ⟨S2x16384x1, .f32⟩
  | .hbm, ⟨50, _⟩ => ⟨S2x16384x1, .f32⟩
  | .hbm, ⟨51, _⟩ => ⟨S2x16384x2048, .f32⟩
  | .hbm, ⟨52, _⟩ => ⟨S2x16384x2048, .f32⟩
  | .hbm, ⟨53, _⟩ => ⟨S1x1x2048, .f32⟩
  | .hbm, ⟨54, _⟩ => ⟨S2x16384x2048, .f32⟩
  | .hbm, ⟨55, _⟩ => ⟨S2x16384x2048, .f32⟩
  | .hbm, ⟨56, _⟩ => ⟨S_, .f32⟩
  | .hbm, ⟨57, _⟩ => ⟨S2x1x2048, .f32⟩
  | .hbm, ⟨58, _⟩ => ⟨S2x1x2048, .f32⟩
  | .hbm, ⟨59, _⟩ => ⟨S2x16384x2048, .f32⟩
  | .hbm, ⟨60, _⟩ => ⟨S2x16384x2048, .f32⟩
  | .hbm, ⟨61, _⟩ => ⟨S2x16384x2048, .f32⟩
  | .hbm, ⟨62, _⟩ => ⟨S2x16384x2048, .f32⟩
  | .hbm, ⟨63, _⟩ => ⟨S2x256x2048, .f32⟩
  | .hbm, ⟨64, _⟩ => ⟨S_, .f32⟩
  | .hbm, ⟨65, _⟩ => ⟨S2x256, .f32⟩
  | .hbm, ⟨66, _⟩ => ⟨S2x256x1, .f32⟩
  | .hbm, ⟨67, _⟩ => ⟨S_, .f32⟩
  | .hbm, ⟨68, _⟩ => ⟨S2x256x1, .f32⟩
  | .hbm, ⟨69, _⟩ => ⟨S2x256x1, .f32⟩
  | .hbm, ⟨70, _⟩ => ⟨S_, .f32⟩
  | .hbm, ⟨71, _⟩ => ⟨S2x256x1, .f32⟩
  | .hbm, ⟨72, _⟩ => ⟨S2x256x1, .f32⟩
  | .hbm, ⟨73, _⟩ => ⟨S2x256x1, .f32⟩
  | .hbm, ⟨74, _⟩ => ⟨S2x256x2048, .f32⟩
  | .hbm, ⟨75, _⟩ => ⟨S2x256x2048, .f32⟩
  | .hbm, ⟨76, _⟩ => ⟨S1x1x2048, .f32⟩
  | .hbm, ⟨77, _⟩ => ⟨S2x256x2048, .f32⟩
  | .hbm, ⟨78, _⟩ => ⟨S2x256x2048, .f32⟩
  | .hbm, ⟨79, _⟩ => ⟨S_, .f32⟩
  | .hbm, ⟨80, _⟩ => ⟨S2048, .f32⟩
  | .hbm, ⟨81, _⟩ => ⟨S2048, .f32⟩
  | .hbm, ⟨82, _⟩ => ⟨S1x1x2048, .f32⟩
  | .hbm, ⟨83, _⟩ => ⟨S2x256x2048, .f32⟩
  | .hbm, ⟨84, _⟩ => ⟨S2x256x2048, .f32⟩
  | .hbm, ⟨85, _⟩ => ⟨S1x1x2048, .f32⟩
  | .hbm, ⟨86, _⟩ => ⟨S2x256x2048, .f32⟩
  | .hbm, ⟨87, _⟩ => ⟨S2x256x2048, .f32⟩
  | .hbm, ⟨88, _⟩ => ⟨S2x16640x2048, .f32⟩
  | .hbm, ⟨89, _⟩ => ⟨S2x16640x2048, .f32⟩
  | .hbm, ⟨90, _⟩ => ⟨S2x16640x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_v26 : Ref sig .tc := ⟨.hbm, 43, rfl⟩
abbrev main_cst_0 : Ref sig .tc := ⟨.hbm, 44, rfl⟩
abbrev main_v27 : Ref sig .tc := ⟨.hbm, 45, rfl⟩
abbrev main_v28 : Ref sig .tc := ⟨.hbm, 46, rfl⟩
abbrev main_cst_1 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_3 : Ref sig .tc := ⟨.hbm, 64, rfl⟩
abbrev main_v44 : Ref sig .tc := ⟨.hbm, 65, rfl⟩
abbrev main_v45 : Ref sig .tc := ⟨.hbm, 66, rfl⟩
abbrev main_cst_4 : Ref sig .tc := ⟨.hbm, 67, rfl⟩
abbrev main_v46 : Ref sig .tc := ⟨.hbm, 68, rfl⟩
abbrev main_v47 : Ref sig .tc := ⟨.hbm, 69, rfl⟩
abbrev main_cst_5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_6 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Kernel4.lean ====
abbrev S2x16640x2048 : Shape := ⟨3, ![2, 16640, 2048]⟩
abbrev S2x2x16640 : Shape := ⟨3, ![2, 2, 16640]⟩
abbrev S2x12288 : Shape := ⟨2, ![2, 12288]⟩
abbrev S12288 : Shape := ⟨1, ![12288]⟩
abbrev S_ : Shape := ⟨0, ![]⟩
abbrev S5x12288 : Shape := ⟨2, ![5, 12288]⟩
abbrev S1x12288 : Shape := ⟨2, ![1, 12288]⟩
abbrev S8x12288 : Shape := ⟨2, ![8, 12288]⟩
abbrev S8x1x12288 : Shape := ⟨3, ![8, 1, 12288]⟩
abbrev S2x1x16640 : Shape := ⟨3, ![2, 1, 16640]⟩
abbrev S2x16640 : Shape := ⟨2, ![2, 16640]⟩
abbrev S2x16640x1 : Shape := ⟨3, ![2, 16640, 1]⟩
abbrev S2x16384x2048 : Shape := ⟨3, ![2, 16384, 2048]⟩
abbrev S1x256x2048 : Shape := ⟨3, ![1, 256, 2048]⟩
abbrev S1x256x1 : Shape := ⟨3, ![1, 256, 1]⟩
abbrev S1x1x12288 : Shape := ⟨3, ![1, 1, 12288]⟩
abbrev S256x2048 : Shape := ⟨2, ![256, 2048]⟩
abbrev S256x1 : Shape := ⟨2, ![256, 1]⟩
abbrev S1x1x2048 : Shape := ⟨3, ![1, 1, 2048]⟩
abbrev S1x2048 : Shape := ⟨2, ![1, 2048]⟩

abbrev nBuf : Space → Nat
  | .hbm => 18
  | .vmem => 14
  | .smem => 0
  | _ => 0

abbrev bufTy : (tb : Table) → Fin (tcTables nBuf tb) → BufTy
  | .hbm, ⟨0, _⟩ => ⟨S2x16640x2048, .f32⟩
  | .hbm, ⟨1, _⟩ => ⟨S2x16640x2048, .f32⟩
  | .hbm, ⟨2, _⟩ => ⟨S2x16640x2048, .f32⟩
  | .hbm, ⟨3, _⟩ => ⟨S2x2x16640, .f32⟩
  | .hbm, ⟨4, _⟩ => ⟨S2x12288, .f32⟩
  | .hbm, ⟨5, _⟩ => ⟨S12288, .f32⟩
  | .hbm, ⟨6, _⟩ => ⟨S_, .f32⟩
  | .hbm, ⟨7, _⟩ => ⟨S5x12288, .f32⟩
  | .hbm, ⟨8, _⟩ => ⟨S1x12288, .f32⟩
  | .hbm, ⟨9, _⟩ => ⟨S8x12288, .f32⟩
  | .hbm, ⟨10, _⟩ => ⟨S8x1x12288, .f32⟩
  | .hbm, ⟨11, _⟩ => ⟨S2x1x16640, .f32⟩
  | .hbm, ⟨12, _⟩ => ⟨S2x16640, .f32⟩
  | .hbm, ⟨13, _⟩ => ⟨S2x16640x1, .f32⟩
  | .hbm, ⟨14, _⟩ => ⟨S2x1x16640, .f32⟩
  | .hbm, ⟨15, _⟩ => ⟨S2x16640, .f32⟩
  | .hbm, ⟨16, _⟩ => ⟨S2x16640x1, .f32⟩
  | .hbm, ⟨17, _⟩ => ⟨S2x16384x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x1, .f32⟩
  | .local _ .vmem, ⟨7, _⟩ => ⟨S1x256x1, .f32⟩
  | .local _ .vmem, ⟨8, _⟩ => ⟨S1x256x1, .f32⟩
  | .local _ .vmem, ⟨9, _⟩ => ⟨S1x256x1, .f32⟩
  | .local _ .vmem, ⟨10, _⟩ => ⟨S1x1x12288, .f32⟩
  | .local _ .vmem, ⟨11, _⟩ => ⟨S1x1x12288, .f32⟩
  | .local _ .vmem, ⟨12, _⟩ => ⟨S1x256x2048, .f32⟩
  | .local _ .vmem, ⟨13, _⟩ => ⟨S1x256x2048, .f32⟩
  | _, _ => ⟨S2x16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 1 := Scalar.cmpi .sge arg1 c64_i32
  let c2_i32 : BitVec 32 := 2#32
  let v1 : BitVec 32 := Scalar.select v0 c2_i32 arg0
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x12288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S2x16640x2048 : Shape := ⟨3, ![2, 16640, 2048]⟩
abbrev S2x2x16640 : Shape := ⟨3, ![2, 2, 16640]⟩
abbrev S2x12288 : Shape := ⟨2, ![2, 12288]⟩
abbrev S12288 : Shape := ⟨1, ![12288]⟩
abbrev S2x16384x2048 : Shape := ⟨3, ![2, 16384, 2048]⟩
abbrev S2x1x12288 : Shape := ⟨3, ![2, 1, 12288]⟩
abbrev S2x1x2048 : Shape := ⟨3, ![2, 1, 2048]⟩
abbrev S2x2x16384 : Shape := ⟨3, ![2, 2, 16384]⟩
abbrev S2x2x16384x1 : Shape := ⟨4, ![2, 2, 16384, 1]⟩
abbrev S2x1x16384x1 : Shape := ⟨4, ![2, 1, 16384, 1]⟩
abbrev S2x16384x1 : Shape := ⟨3, ![2, 16384, 1]⟩

abbrev nBuf : Space → Nat
  | .hbm => 30
  | .vmem => 0
  | .smem => 0
  | _ => 0

abbrev bufTy : (tb : Table) → Fin (tcTables nBuf tb) → BufTy
  | .hbm, ⟨0, _⟩ => ⟨S2x16640x2048, .f32⟩
  | .hbm, ⟨1, _⟩ => ⟨S2x16640x2048, .f32⟩
  | .hbm, ⟨2, _⟩ => ⟨S2x16640x2048, .f32⟩
  | .hbm, ⟨3, _⟩ => ⟨S2x2x16640, .f32⟩
  | .hbm, ⟨4, _⟩ => ⟨S2x12288, .f32⟩
  | .hbm, ⟨5, _⟩ => ⟨S12288, .f32⟩
  | .hbm, ⟨6, _⟩ => ⟨S2x16384x2048, .f32⟩
  | .hbm, ⟨7, _⟩ => ⟨S2x1x12288, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S2x2x16384, .f32⟩
  | .hbm, ⟨15, _⟩ => ⟨S2x2x16384x1, .f32⟩
  | .hbm, ⟨16, _⟩ => ⟨S2x16384x2048, .f32⟩
  | .hbm, ⟨17, _⟩ => ⟨S2x1x16384x1, .f32⟩
  | .hbm, ⟨18, _⟩ => ⟨S2x16384x1, .f32⟩
  | .hbm, ⟨19, _⟩ => ⟨S2x16384x2048, .f32⟩
  | .hbm, ⟨20, _⟩ => ⟨S2x16384x2048, .f32⟩
  | .hbm, ⟨21, _⟩ => ⟨S2x16384x2048, .f32⟩
  | .hbm, ⟨22, _⟩ => ⟨S2x1x16384x1, .f32⟩
  | .hbm, ⟨23, _⟩ => ⟨S2x16384x1, .f32⟩
  | .hbm, ⟨24, _⟩ => ⟨S2x16384x2048, .f32⟩
  | .hbm, ⟨25, _⟩ => ⟨S2x16384x2048, .f32⟩
  | .hbm, ⟨26, _⟩ => ⟨S2x16384x2048, .f32⟩
  | .hbm, ⟨27, _⟩ => ⟨S2x16384x2048, .f32⟩
  | .hbm, ⟨28, _⟩ => ⟨S2x16384x2048, .f32⟩
  | .hbm, ⟨29, _⟩ => ⟨S2x16384x2048, .f32⟩
  | _, _ => ⟨S2x16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel5.lean ====
abbrev S2x16384x1024 : Shape := ⟨3, ![2, 16384, 1024]⟩
abbrev S2x256x1024 : Shape := ⟨3, ![2, 256, 1024]⟩
abbrev S4x128 : Shape := ⟨2, ![4, 128]⟩
abbrev S4x128x128 : Shape := ⟨3, ![4, 128, 128]⟩
abbrev S2x16640x1024 : Shape := ⟨3, ![2, 16640, 1024]⟩
abbrev S4x128x1 : Shape := ⟨3, ![4, 128, 1]⟩
abbrev S2x16640x512 : Shape := ⟨3, ![2, 16640, 512]⟩
abbrev S1x256x1024 : Shape := ⟨3, ![1, 256, 1024]⟩
abbrev S1x256x512 : Shape := ⟨3, ![1, 256, 512]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S1x128x128 : Shape := ⟨3, ![1, 128, 128]⟩
abbrev S128x128 : Shape := ⟨2, ![128, 128]⟩

abbrev nBuf : Space → Nat
  | .hbm => 9
  | .vmem => 7
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S4x128, .f32⟩
  | .hbm, ⟨3, _⟩ => ⟨S4x128x128, .f32⟩
  | .hbm, ⟨4, _⟩ => ⟨S4x128, .f32⟩
  | .hbm, ⟨5, _⟩ => ⟨S2x16640x1024, .f32⟩
  | .hbm, ⟨6, _⟩ => ⟨S4x128x1, .f32⟩
  | .hbm, ⟨7, _⟩ => ⟨S4x128x128, .f32⟩
  | .hbm, ⟨8, _⟩ => ⟨S2x16640x512, .bf16⟩
  | .local _ .vmem, ⟨0, _⟩ => ⟨S1x256x1024, .f32⟩
  | .local _ .vmem, ⟨1, _⟩ => ⟨S1x256x1024, .f32⟩
  | .local _ .vmem, ⟨2, _⟩ => ⟨S4x128, .f32⟩
  | .local _ .vmem, ⟨3, _⟩ => ⟨S4x128x128, .f32⟩
  | .local _ .vmem, ⟨4, _⟩ => ⟨S4x128x128, .f32⟩
  | .local _ .vmem, ⟨5, _⟩ => ⟨S1x256x512, .bf16⟩
  | .local _ .vmem, ⟨6, _⟩ => ⟨S1x256x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S2x16384x1024 : Shape := ⟨3, ![2, 16384, 1024]⟩
abbrev S2x256x1024 : Shape := ⟨3, ![2, 256, 1024]⟩
abbrev S4x128 : Shape := ⟨2, ![4, 128]⟩
abbrev S4x128x128 : Shape := ⟨3, ![4, 128, 128]⟩
abbrev S_ : Shape := ⟨0, ![]⟩
abbrev S2x16384x512 : Shape := ⟨3, ![2, 16384, 512]⟩
abbrev S2x16384x4x128 : Shape := ⟨4, ![2, 16384, 4, 128]⟩
abbrev S2x16384x4 : Shape := ⟨3, ![2, 16384, 4]⟩
abbrev S2x16384x4x1 : Shape := ⟨4, ![2, 16384, 4, 1]⟩
abbrev S1x1x4x128 : Shape := ⟨4, ![1, 1, 4, 128]⟩
abbrev S2x128x128x4x128 : Shape := ⟨5, ![2, 128, 128, 4, 128]⟩
abbrev S4x2x128x128x128 : Shape := ⟨5, ![4, 2, 128, 128, 128]⟩
abbrev S128x4 : Shape := ⟨2, ![128, 4]⟩
abbrev S1x1x128x4x1 : Shape := ⟨5, ![1, 1, 128, 4, 1]⟩
abbrev S2x256x512 : Shape := ⟨3, ![2, 256, 512]⟩
abbrev S2x256x4x128 : Shape := ⟨4, ![2, 256, 4, 128]⟩
abbrev S2x256x4 : Shape := ⟨3, ![2, 256, 4]⟩
abbrev S2x256x4x1 : Shape := ⟨4, ![2, 256, 4, 1]⟩
abbrev S2x2x128x4x128 : Shape := ⟨5, ![2, 2, 128, 4, 128]⟩
abbrev S4x2x2x128x128 : Shape := ⟨5, ![4, 2, 2, 128, 128]⟩
abbrev S2x16640x512 : Shape := ⟨3, ![2, 16640, 512]⟩

abbrev nBuf : Space → Nat
  | .hbm => 101
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S4x128, .f32⟩
  | .hbm, ⟨3, _⟩ => ⟨S4x128x128, .f32⟩
  | .hbm, ⟨4, _⟩ => ⟨S4x128, .f32⟩
  | .hbm, ⟨5, _⟩ => ⟨S2x16384x1024, .f32⟩
  | .hbm, ⟨6, _⟩ => ⟨S2x16384x1024, .f32⟩
  | .hbm, ⟨7, _⟩ => ⟨S_, .f32⟩
  | .hbm, ⟨8, _⟩ => ⟨S2x16384x1024, .f32⟩
  | .hbm, ⟨9, _⟩ => ⟨S2x16384x1024, .f32⟩
  | .hbm, ⟨10, _⟩ => ⟨S2x16384x1024, .f32⟩
  | .hbm, ⟨11, _⟩ => ⟨S_, .f32⟩
  | .hbm, ⟨12, _⟩ => ⟨S2x16384x1024, .f32⟩
  | .hbm, ⟨13, _⟩ => ⟨S2x16384x1024, .f32⟩
  | .hbm, ⟨14, _⟩ => ⟨S2x16384x1024, .f32⟩
  | .hbm, ⟨15, _⟩ => ⟨S_, .f32⟩
  | .hbm, ⟨16, _⟩ => ⟨S2x16384x1024, .f32⟩
  | .hbm, ⟨17, _⟩ => ⟨S2x16384x1024, .f32⟩
  | .hbm, ⟨18, _⟩ => ⟨S_, .f32⟩
  | .hbm, ⟨19, _⟩ => ⟨S2x16384x1024, .f32⟩
  | .hbm, ⟨20, _⟩ => ⟨S2x16384x1024, .f32⟩
  | .hbm, ⟨21, _⟩ => ⟨S2x16384x1024, .f32⟩
  | .hbm, ⟨22, _⟩ => ⟨S2x16384x512, .f32⟩
  | .hbm, ⟨23, _⟩ => ⟨S2x16384x512, .f32⟩
  | .hbm, ⟨24, _⟩ => ⟨S2x16384x4x128, .f32⟩
  | .hbm, ⟨25, _⟩ => ⟨S2x16384x4x128, .f32⟩
  | .hbm, ⟨26, _⟩ => ⟨S_, .f32⟩
  | .hbm, ⟨27, _⟩ => ⟨S2x16384x4, .f32⟩
  | .hbm, ⟨28, _⟩ => ⟨S2x16384x4x1, .f32⟩
  | .hbm, ⟨29, _⟩ => ⟨S_, .f32⟩
  | .hbm, ⟨30, _⟩ => ⟨S2x16384x4x1, .f32⟩
  | .hbm, ⟨31, _⟩ => ⟨S2x16384x4x1, .f32⟩
  | .hbm, ⟨32, _⟩ => ⟨S_, .f32⟩
  | .hbm, ⟨33, _⟩ => ⟨S2x16384x4x1, .f32⟩
  | .hbm, ⟨34, _⟩ => ⟨S2x16384x4x1, .f32⟩
  | .hbm, ⟨35, _⟩ => ⟨S2x16384x4x1, .f32⟩
  | .hbm, ⟨36, _⟩ => ⟨S2x16384x4x128, .f32⟩
  | .hbm, ⟨37, _⟩ => ⟨S2x16384x4x128, .f32⟩
  | .hbm, ⟨38, _⟩ => ⟨S1x1x4x128, .f32⟩
  | .hbm, ⟨39, _⟩ => ⟨S2x16384x4x128, .f32⟩
  | .hbm, ⟨40, _⟩ => ⟨S2x16384x4x128, .f32⟩
  | .hbm, ⟨41, _⟩ => ⟨S2x128x128x4x128, .f32⟩
  | .hbm, ⟨42, _⟩ => ⟨S4x2x128x128x128, .f32⟩
  | .hbm, ⟨43, _⟩ => ⟨S2x128x128x4x128, .f32⟩
  | .hbm, ⟨44, _⟩ => ⟨S128x4, .f32⟩
  | .hbm, ⟨45, _⟩ => ⟨S1x1x128x4x1, .f32⟩
  | .hbm, ⟨46, _⟩ => ⟨S2x128x128x4x128, .f32⟩
  | .hbm, ⟨47, _⟩ => ⟨S2x128x128x4x128, .f32⟩
  | .hbm, ⟨48, _⟩ => ⟨S2x16384x4x128, .f32⟩
  | .hbm, ⟨49, _⟩ => ⟨S2x16384x4x128, .f32⟩
  | .hbm, ⟨50, _⟩ => ⟨S2x16384x4x128, .f32⟩
  | .hbm, ⟨51, _⟩ => ⟨S2x16384x512, .f32⟩
  | .hbm, ⟨52, _⟩ => ⟨S2x256x1024, .f32⟩
  | .hbm, ⟨53, _⟩ => ⟨S2x256x1024, .f32⟩
  | .hbm, ⟨54, _⟩ => ⟨S_, .f32⟩
  | .hbm, ⟨55, _⟩ => ⟨S2x256x1024, .f32⟩
  | .hbm, ⟨56, _⟩ => ⟨S2x256x1024, .f32⟩
  | .hbm, ⟨57, _⟩ => ⟨S2x256x1024, .f32⟩
  | .hbm, ⟨58, _⟩ => ⟨S_, .f32⟩
  | .hbm, ⟨59, _⟩ => ⟨S2x256x1024, .f32⟩
  | .hbm, ⟨60, _⟩ => ⟨S2x256x1024, .f32⟩
  | .hbm, ⟨61, _⟩ => ⟨S2x256x1024, .f32⟩
  | .hbm, ⟨62, _⟩ => ⟨S_, .f32⟩
  | .hbm, ⟨63, _⟩ => ⟨S2x256x1024, .f32⟩
  | .hbm, ⟨64, _⟩ => ⟨S2x256x1024, .f32⟩
  | .hbm, ⟨65, _⟩ => ⟨S_, .f32⟩
  | .hbm, ⟨66, _⟩ => ⟨S2x256x1024, .f32⟩
  | .hbm, ⟨67, _⟩ => ⟨S2x256x1024, .f32⟩
  | .hbm, ⟨68, _⟩ => ⟨S2x256x1024, .f32⟩
  | .hbm, ⟨69, _⟩ => ⟨S2x256x512, .f32⟩
  | .hbm, ⟨70, _⟩ => ⟨S2x256x512, .f32⟩
  | .hbm, ⟨71, _⟩ => ⟨S2x256x4x128, .f32⟩
  | .hbm, ⟨72, _⟩ => ⟨S2x256x4x128, .f32⟩
  | .hbm, ⟨73, _⟩ => ⟨S_, .f32⟩
  | .hbm, ⟨74, _⟩ => ⟨S2x256x4, .f32⟩
  | .hbm, ⟨75, _⟩ => ⟨S2x256x4x1, .f32⟩
  | .hbm, ⟨76, _⟩ => ⟨S_, .f32⟩
  | .hbm, ⟨77, _⟩ => ⟨S2x256x4x1, .f32⟩
  | .hbm, ⟨78, _⟩ => ⟨S2x256x4x1, .f32⟩
  | .hbm, ⟨79, _⟩ => ⟨S_, .f32⟩
  | .hbm, ⟨80, _⟩ => ⟨S2x256x4x1, .f32⟩
  | .hbm, ⟨81, _⟩ => ⟨S2x256x4x1, .f32⟩
  | .hbm, ⟨82, _⟩ => ⟨S2x256x4x1, .f32⟩
  | .hbm, ⟨83, _⟩ => ⟨S2x256x4x128, .f32⟩
  | .hbm, ⟨84, _⟩ => ⟨S2x256x4x128, .f32⟩
  | .hbm, ⟨85, _⟩ => ⟨S1x1x4x128, .f32⟩
  | .hbm, ⟨86, _⟩ => ⟨S2x256x4x128, .f32⟩
  | .hbm, ⟨87, _⟩ => ⟨S2x256x4x128, .f32⟩
  | .hbm, ⟨88, _⟩ => ⟨S2x2x128x4x128, .f32⟩
  | .hbm, ⟨89, _⟩ => ⟨S4x2x2x128x128, .f32⟩
  | .hbm, ⟨90, _⟩ => ⟨S2x2x128x4x128, .f32⟩
  | .hbm, ⟨91, _⟩ => ⟨S128x4, .f32⟩
  | .hbm, ⟨92, _⟩ => ⟨S1x1x128x4x1, .f32⟩
  | .hbm, ⟨93, _⟩ => ⟨S2x2x128x4x128, .f32⟩
  | .hbm, ⟨94, _⟩ => ⟨S2x2x128x4x128, .f32⟩
  | .hbm, ⟨95, _⟩ => ⟨S2x256x4x128, .f32⟩
  | .hbm, ⟨96, _⟩ => ⟨S2x256x4x128, .f32⟩
  | .hbm, ⟨97, _⟩ => ⟨S2x256x4x128, .f32⟩
  | .hbm, ⟨98, _⟩ => ⟨S2x256x512, .f32⟩
  | .hbm, ⟨99, _⟩ => ⟨S2x16640x512, .f32⟩
  | .hbm, ⟨100, _⟩ => ⟨S2x16640x512, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_cst_12 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩

abbrev nD : Nat := 1
abbrev τ : Topo := Topo.v7x

variable {F : FTy → Type} [FloatOps F]
-- ==== Kernel6.lean ====
abbrev S8x2048 : Shape := ⟨2, ![8, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S8x12288 : Shape := ⟨2, ![8, 12288]⟩
abbrev S1x2048x1024 : Shape := ⟨3, ![1, 2048, 1024]⟩
abbrev S1x1x1024 : Shape := ⟨3, ![1, 1, 1024]⟩
abbrev S8x1024 : Shape := ⟨2, ![8, 1024]⟩
abbrev S2048x1024 : Shape := ⟨2, ![2048, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x2048 : Shape := ⟨2, ![8, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩

abbrev nBuf : Space → Nat
  | .hbm => 20
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x12288, .f32⟩
  | .hbm, ⟨13, _⟩ => ⟨S2048x12288, .f32⟩
  | .hbm, ⟨14, _⟩ => ⟨S8x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S8x12288, .f32⟩
  | .hbm, ⟨19, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel7.lean ====
abbrev S2x16640x512 : Shape := ⟨3, ![2, 16640, 512]⟩
abbrev S8x64 : Shape := ⟨2, ![8, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x256x512 : Shape := ⟨3, ![1, 256, 512]⟩
abbrev S256x512 : Shape := ⟨2, ![256, 512]⟩

abbrev nBuf : Space → Nat
  | .hbm => 23
  | .vmem => 20
  | .smem => 0
  | _ => 0

abbrev bufTy : (tb : Table) → Fin (tcTables nBuf tb) → BufTy
  | .hbm, ⟨0, _⟩ => ⟨S2x16640x512, .f32⟩
  | .hbm, ⟨1, _⟩ => ⟨S2x16640x512, .f32⟩
  | .hbm, ⟨2, _⟩ => ⟨S2x16640x512, .f32⟩
  | .hbm, ⟨3, _⟩ => ⟨S2x16640x512, .f32⟩
  | .hbm, ⟨4, _⟩ => ⟨S2x16640x512, .f32⟩
  | .hbm, ⟨5, _⟩ => ⟨S2x16640x512, .f32⟩
  | .hbm, ⟨6, _⟩ => ⟨S2x16640x512, .f32⟩
  | .hbm, ⟨7, _⟩ => ⟨S8x64, .f32⟩
  | .hbm, ⟨8, _⟩ => ⟨S512, .f32⟩
  | .hbm, ⟨9, _⟩ => ⟨S512, .f32⟩
  | .hbm, ⟨10, _⟩ => ⟨S512, .i32⟩
  | .hbm, ⟨11, _⟩ => ⟨S512, .f32⟩
  | .hbm, ⟨12, _⟩ => ⟨S512x1, .i32⟩
  | .hbm, ⟨13, _⟩ => ⟨S1x512, .i32⟩
  | .hbm, ⟨14, _⟩ => ⟨S512x512, .i32⟩
  | .hbm, ⟨15, _⟩ => ⟨S512x512, .i32⟩
  | .hbm, ⟨16, _⟩ => ⟨S512x512, .i1⟩
  | .hbm, ⟨17, _⟩ => ⟨S512x512, .f32⟩
  | .hbm, ⟨18, _⟩ => ⟨S512x512, .bf16⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S2x16640x512, .bf16⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S512x512, .bf16⟩
  | .local _ .vmem, ⟨18, _⟩ => ⟨S1x256x512, .bf16⟩
  | .local _ .vmem, ⟨19, _⟩ => ⟨S1x256x512, .bf16⟩
  | _, _ => ⟨S2x16640x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference7Ideal.lean ====
abbrev S2x16640x512 : Shape := ⟨3, ![2, 16640, 512]⟩
abbrev S8x64 : Shape := ⟨2, ![8, 64]⟩
abbrev S512 : Shape := ⟨1, ![512]⟩
abbrev S2x16640x8x64 : Shape := ⟨4, ![2, 16640, 8, 64]⟩
abbrev S_ : Shape := ⟨0, ![]⟩
abbrev S2x16640x8 : Shape := ⟨3, ![2, 16640, 8]⟩
abbrev S2x16640x8x1 : Shape := ⟨4, ![2, 16640, 8, 1]⟩
abbrev S1x1x512 : Shape := ⟨3, ![1, 1, 512]⟩
abbrev S1x1x8x64 : Shape := ⟨4, ![1, 1, 8, 64]⟩

abbrev nBuf : Space → Nat
  | .hbm => 64
  | .vmem => 0
  | .smem => 0
  | _ => 0

abbrev bufTy : (tb : Table) → Fin (tcTables nBuf tb) → BufTy
  | .hbm, ⟨0, _⟩ => ⟨S2x16640x512, .f32⟩
  | .hbm, ⟨1, _⟩ => ⟨S2x16640x512, .f32⟩
  | .hbm, ⟨2, _⟩ => ⟨S2x16640x512, .f32⟩
  | .hbm, ⟨3, _⟩ => ⟨S2x16640x512, .f32⟩
  | .hbm, ⟨4, _⟩ => ⟨S2x16640x512, .f32⟩
  | .hbm, ⟨5, _⟩ => ⟨S2x16640x512, .f32⟩
  | .hbm, ⟨6, _⟩ => ⟨S2x16640x512, .f32⟩
  | .hbm, ⟨7, _⟩ => ⟨S8x64, .f32⟩
  | .hbm, ⟨8, _⟩ => ⟨S512, .f32⟩
  | .hbm, ⟨9, _⟩ => ⟨S512, .f32⟩
  | .hbm, ⟨10, _⟩ => ⟨S2x16640x8x64, .f32⟩
  | .hbm, ⟨11, _⟩ => ⟨S2x16640x8x64, .f32⟩
  | .hbm, ⟨12, _⟩ => ⟨S2x16640x8x64, .f32⟩
  | .hbm, ⟨13, _⟩ => ⟨S2x16640x8x64, .f32⟩
  | .hbm, ⟨14, _⟩ => ⟨S2x16640x8x64, .f32⟩
  | .hbm, ⟨15, _⟩ => ⟨S2x16640x8x64, .f32⟩
  | .hbm, ⟨16, _⟩ => ⟨S2x16640x8x64, .f32⟩
  | .hbm, ⟨17, _⟩ => ⟨S_, .f32⟩
  | .hbm, ⟨18, _⟩ => ⟨S2x16640x8x64, .f32⟩
  | .hbm, ⟨19, _⟩ => ⟨S2x16640x8x64, .f32⟩
  | .hbm, ⟨20, _⟩ => ⟨S2x16640x8x64, .f32⟩
  | .hbm, ⟨21, _⟩ => ⟨S_, .f32⟩
  | .hbm, ⟨22, _⟩ => ⟨S2x16640x8, .f32⟩
  | .hbm, ⟨23, _⟩ => ⟨S2x16640x8x1, .f32⟩
  | .hbm, ⟨24, _⟩ => ⟨S_, .f32⟩
  | .hbm, ⟨25, _⟩ => ⟨S2x16640x8x1, .f32⟩
  | .hbm, ⟨26, _⟩ => ⟨S2x16640x8x1, .f32⟩
  | .hbm, ⟨27, _⟩ => ⟨S2x16640x8x64, .f32⟩
  | .hbm, ⟨28, _⟩ => ⟨S2x16640x8x64, .f32⟩
  | .hbm, ⟨29, _⟩ => ⟨S2x16640x8x64, .f32⟩
  | .hbm, ⟨30, _⟩ => ⟨S_, .f32⟩
  | .hbm, ⟨31, _⟩ => ⟨S2x16640x8, .f32⟩
  | .hbm, ⟨32, _⟩ => ⟨S2x16640x8x1, .f32⟩
  | .hbm, ⟨33, _⟩ => ⟨S_, .f32⟩
  | .hbm, ⟨34, _⟩ => ⟨S2x16640x8x1, .f32⟩
  | .hbm, ⟨35, _⟩ => ⟨S2x16640x8x1, .f32⟩
  | .hbm, ⟨36, _⟩ => ⟨S2x16640x8x64, .f32⟩
  | .hbm, ⟨37, _⟩ => ⟨S2x16640x8x64, .f32⟩
  | .hbm, ⟨38, _⟩ => ⟨S_, .f32⟩
  | .hbm, ⟨39, _⟩ => ⟨S2x16640x8x1, .f32⟩
  | .hbm, ⟨40, _⟩ => ⟨S2x16640x8x1, .f32⟩
  | .hbm, ⟨41, _⟩ => ⟨S2x16640x8x1, .f32⟩
  | .hbm, ⟨42, _⟩ => ⟨S2x16640x8x64, .f32⟩
  | .hbm, ⟨43, _⟩ => ⟨S2x16640x8x64, .f32⟩
  | .hbm, ⟨44, _⟩ => ⟨S2x16640x512, .f32⟩
  | .hbm, ⟨45, _⟩ => ⟨S1x1x512, .f32⟩
  | .hbm, ⟨46, _⟩ => ⟨S2x16640x512, .f32⟩
  | .hbm, ⟨47, _⟩ => ⟨S2x16640x512, .f32⟩
  | .hbm, ⟨48, _⟩ => ⟨S1x1x512, .f32⟩
  | .hbm, ⟨49, _⟩ => ⟨S2x16640x512, .f32⟩
  | .hbm, ⟨50, _⟩ => ⟨S2x16640x512, .f32⟩
  | .hbm, ⟨51, _⟩ => ⟨S2x16640x8x64, .f32⟩
  | .hbm, ⟨52, _⟩ => ⟨S1x1x8x64, .f32⟩
  | .hbm, ⟨53, _⟩ => ⟨S2x16640x8x64, .f32⟩
  | .hbm, ⟨54, _⟩ => ⟨S2x16640x8x64, .f32⟩
  | .hbm, ⟨55, _⟩ => ⟨S_, .f32⟩
  | .hbm, ⟨56, _⟩ => ⟨S2x16640x8, .f32⟩
  | .hbm, ⟨57, _⟩ => ⟨S2x16640x8x1, .f32⟩
  | .hbm, ⟨58, _⟩ => ⟨S2x16640x8x64, .f32⟩
  | .hbm, ⟨59, _⟩ => ⟨S2x16640x8x64, .f32⟩
  | .hbm, ⟨60, _⟩ => ⟨S2x16640x512, .f32⟩
  | .hbm, ⟨61, _⟩ => ⟨S2x16640x512, .f32⟩
  | .hbm, ⟨62, _⟩ => ⟨S2x16640x512, .f32⟩
  | .hbm, ⟨63, _⟩ => ⟨S2x16640x512, .bf16⟩
  | _, _ => ⟨S2x16640x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Proof.Ref.lean ====
module
public import proofs.«01_k».proof.Proof.Gen.ReferenceIdeal.Run
public import Idealize.ShloMosaic.PureOps.Ideal
public import Idealize.ShloMosaic.Lib.Pointwise.Index
import Idealize.ShloMosaic.Lib.Pointwise
import Idealize.ShloMosaic.Lib.Claim
@[expose] public section
set_option maxRecDepth 16384
noncomputable section
namespace Cert.ReferenceIdeal.Value
open Cert.ReferenceIdeal Cert.ReferenceIdeal.Gen
open Idealize.ShloMosaic Idealize.ShloMosaic.TcCoe Idealize.SL.Sem

/-- The scale of the scores, one eighth. -/
abbrev scale : EReal := Ideal.ofBits .f32 0x3E000000#32
/-- Query head `r` of the key group `g`. -/
def hd (g : Fin 2) (r : Fin 4) : Fin 8 := ⟨g.val * 4 + r.val, by omega⟩

/-! The latent rows. -/

def split (Q : FVec Ideal S2x16384x8x64 .f32) : FVec Ideal S2x16384x2x4x64 .f32 :=
  shapeCast S2x16384x2x4x64 Q shapeCasts_S2x16384x8x64_S2x16384x2x4x64
theorem split_at (Q : FVec Ideal S2x16384x8x64 .f32) (b : Fin 2) (n : Fin 16384) (g : Fin 2) (r : Fin 4) (d : Fin 64) :
    split Q (ix5 b n g r d) = Q (ix4 b n (hd g r) d) := by
  pointwise [split, hd]

def raw (Q : FVec Ideal S2x16384x2x4x64 .f32) (K : FVec Ideal S2x16384x2x64 .f32) : FVec Ideal S2x2x4x16384x16384 .f32 :=
  mulf (transpose S2x2x4x16384x16384 [0, 1, 4, 3, 2]
    (Host.dotGeneral dot_S2x16384x2x64_S2x16384x2x4x64_S2x2x16384x16384x4_3_4_1_13_02_02 none K Q : FVec Ideal S2x2x16384x16384x4 .f32)
    transposes_S2x2x16384x16384x4_S2x2x4x16384x16384_0_1_4_3_2)
    (broadcastInDim S2x2x4x16384x16384 ![] bcast_S_S2x2x4x16384x16384 (constant S_ .f32 0x3E000000#32))
theorem raw_at (Q : FVec Ideal S2x16384x2x4x64 .f32) (K : FVec Ideal S2x16384x2x64 .f32) (b g : Fin 2) (r : Fin 4) (n k : Fin 16384) :
    raw Q K (ix5 b g r n k) = (∑ d : Fin 64, (K (ix4 b k g d) : EReal) * (Q (ix5 b n g r d) : EReal)) * scale := by
  pointwise [raw]

/-- Whether a key lies in the window of a query. -/
def near : IVec S16384x16384 1 :=
  cmpi .sle (absi (subi (broadcastInDim S16384x16384 ![0, 1] bcast_S1x16384_S16384x16384_0_1
      (broadcastInDim S1x16384 ![1] bcast_S16384_S1x16384_1 (iotaInDim S16384 32 0)))
    (broadcastInDim S16384x16384 ![0, 1] bcast_S16384x1_S16384x16384_0_1
      (broadcastInDim S16384x1 ![0] bcast_S16384_S16384x1_0 (iotaInDim S16384 32 0)))))
    (broadcastInDim S16384x16384 ![] bcast_S_S16384x16384 (constantI S_ 32 128#32))
theorem near_at (n k : Fin 16384) : near (ix2 n k) = if k.val ≤ n.val + 128 ∧ n.val ≤ k.val + 128 then 1#1 else 0#1 := by
  pointwise [near]
  have hn := n.isLt
  have hk := k.isLt
  have e : (IntOp.subi (BitVec.ofNat 32 k.val) (BitVec.ofNat 32 n.val)).toInt = (k.val : ℤ) - n.val := by
    show (BitVec.ofNat 32 k.val - BitVec.ofNat 32 n.val).toInt = _
    rw [BitVec.toInt_sub, BitVec.toInt_ofNat', BitVec.toInt_ofNat']
    simp only [Int.bmod_def]
    omega
  have a : (IntOp.absi (IntOp.subi (BitVec.ofNat 32 k.val) (BitVec.ofNat 32 n.val))).toInt
      = if (k.val : ℤ) < n.val then (n.val : ℤ) - k.val else k.val - n.val := by
    generalize IntOp.subi (BitVec.ofNat 32 k.val) (BitVec.ofNat 32 n.val) = x at e
    show (if x.msb then -x else x).toInt = _
    by_cases hx : x.toInt < 0
    · have hm : x.msb = true := by rw [BitVec.msb_eq_toInt]; exact decide_eq_true hx
      rw [if_pos hm, BitVec.toInt_neg, e, if_pos (by omega)]
      simp only [Int.bmod_def]
      omega
    · have hm : ¬ x.msb = true := by rw [BitVec.msb_eq_toInt]; simpa using hx
      rw [if_neg hm, e, if_neg (by omega)]
  have c : (128#32 : BitVec 32).toInt = 128 := by decide
  by_cases hw : k.val ≤ n.val + 128 ∧ n.val ≤ k.val + 128
  · rw [if_pos hw]
    refine IntOp.cmpi_sle.mpr ?_
    rw [a, c]
    split <;> omega
  · rw [if_neg hw]
    refine (BitVec.eq_zero_or_eq_one _).resolve_right fun h => hw ?_
    have := IntOp.cmpi_sle.mp h
    rw [a, c] at this
    split at this <;> omega

theorem low : Ideal.ofBits .f32 0xFF800000#32 = ⊥ := by simp [Ideal.ofBits, Ideal.ieee]

def windowed (s : FVec Ideal S2x2x4x16384x16384 .f32) : FVec Ideal S2x2x4x16384x16384 .f32 :=
  select (broadcastInDim S2x2x4x16384x16384 ![3, 4] bcast_S16384x16384_S2x2x4x16384x16384_3_4 near) s
    (broadcastInDim S2x2x4x16384x16384 ![] bcast_S_S2x2x4x16384x16384 (constant S_ .f32 0xFF800000#32))
theorem windowed_at (s : FVec Ideal S2x2x4x16384x16384 .f32) (b g : Fin 2) (r : Fin 4) (n k : Fin 16384) :
    windowed s (ix5 b g r n k) = if k.val ≤ n.val + 128 ∧ n.val ≤ k.val + 128 then (s (ix5 b g r n k) : EReal) else ⊥ := by
  have h : windowed s (ix5 b g r n k) = Scalar.select (near (ix2 n k)) (s (ix5 b g r n k)) (Ideal.ofBits .f32 0xFF800000#32) := by
    pointwise [windowed]
  rw [h, near_at, low]
  by_cases hw : k.val ≤ n.val + 128 ∧ n.val ≤ k.val + 128
  · rw [if_pos hw, if_pos hw]
    rfl
  · rw [if_neg hw, if_neg hw]
    rfl

def rawCtx (Q : FVec Ideal S2x16384x2x4x64 .f32) (K : FVec Ideal S2x256x2x64 .f32) : FVec Ideal S2x2x4x16384x256 .f32 :=
  mulf (transpose S2x2x4x16384x256 [0, 1, 4, 3, 2]
    (Host.dotGeneral dot_S2x256x2x64_S2x16384x2x4x64_S2x2x256x16384x4_3_4_1_13_02_02 none K Q : FVec Ideal S2x2x256x16384x4 .f32)
    transposes_S2x2x256x16384x4_S2x2x4x16384x256_0_1_4_3_2)
    (broadcastInDim S2x2x4x16384x256 ![] bcast_S_S2x2x4x16384x256 (constant S_ .f32 0x3E000000#32))
theorem rawCtx_at (Q : FVec Ideal S2x16384x2x4x64 .f32) (K : FVec Ideal S2x256x2x64 .f32) (b g : Fin 2) (r : Fin 4) (n : Fin 16384) (k : Fin 256) :
    rawCtx Q K (ix5 b g r n k) = (∑ d : Fin 64, (K (ix4 b k g d) : EReal) * (Q (ix5 b n g r d) : EReal)) * scale := by
  pointwise [rawCtx]

def sinks (S : FVec Ideal S8 .f32) : FVec Ideal S1x2x4x1x1 .f32 :=
  broadcastInDim S1x2x4x1x1 ![1, 2] bcast_S2x4_S1x2x4x1x1_1_2 (shapeCast S2x4 S shapeCasts_S8_S2x4 : FVec Ideal S2x4 .f32)
def sinkCol (S : FVec Ideal S8 .f32) : FVec Ideal S2x2x4x16384x1 .f32 :=
  broadcastInDim S2x2x4x16384x1 ![0, 1, 2, 3, 4] bcast_S1x2x4x1x1_S2x2x4x16384x1_0_1_2_3_4 (sinks S)
theorem sinkCol_at (S : FVec Ideal S8 .f32) (b g : Fin 2) (r : Fin 4) (n : Fin 16384) (z : Fin 1) :
    sinkCol S (ix5 b g r n z) = S (ix1 (hd g r)) := by
  pointwise [sinkCol, sinks, hd]

def topW (s : FVec Ideal S2x2x4x16384x16384 .f32) : FVec Ideal S2x2x4x16384 .f32 :=
  Host.reduce FloatOps.maximumf s (constant S_ .f32 0xFF800000#32) reducesTo_S2x2x4x16384x16384_S2x2x4x16384_d4 h_S_
theorem topW_at (s : FVec Ideal S2x2x4x16384x16384 .f32) (b g : Fin 2) (r : Fin 4) (n : Fin 16384) :
    topW s (ix4 b g r n) = Finset.univ.sup fun k : Fin 16384 => (s (ix5 b g r n k) : EReal) := by
  have h : topW s (ix4 b g r n) = Finset.univ.fold max (Ideal.ofBits .f32 0xFF800000#32) fun k : Fin 16384 => (s (ix5 b g r n k) : EReal) := by
    pointwise [topW]
  rw [h, low]
  rfl
def topX (s : FVec Ideal S2x2x4x16384x256 .f32) : FVec Ideal S2x2x4x16384 .f32 :=
  Host.reduce FloatOps.maximumf s (constant S_ .f32 0xFF800000#32) reducesTo_S2x2x4x16384x256_S2x2x4x16384_d4 h_S_
theorem topX_at (s : FVec Ideal S2x2x4x16384x256 .f32) (b g : Fin 2) (r : Fin 4) (n : Fin 16384) :
    topX s (ix4 b g r n) = Finset.univ.sup fun k : Fin 256 => (s (ix5 b g r n k) : EReal) := by
  have h : topX s (ix4 b g r n) = Finset.univ.fold max (Ideal.ofBits .f32 0xFF800000#32) fun k : Fin 256 => (s (ix5 b g r n k) : EReal) := by
    pointwise [topX]
  rw [h, low]
  rfl

/-- The largest of a row's two maxima and its sink. -/
def rowTop (x y : FVec Ideal S2x2x4x16384 .f32) (σ : FVec Ideal S2x2x4x16384x1 .f32) :
    FVec Ideal S2x2x4x16384x1 .f32 :=
  maximumf (maximumf (broadcastInDim S2x2x4x16384x1 ![0, 1, 2, 3] bcast_S2x2x4x16384_S2x2x4x16384x1_0_1_2_3 x)
    (broadcastInDim S2x2x4x16384x1 ![0, 1, 2, 3] bcast_S2x2x4x16384_S2x2x4x16384x1_0_1_2_3 y)) σ
theorem rowTop_at (x y : FVec Ideal S2x2x4x16384 .f32) (σ : FVec Ideal S2x2x4x16384x1 .f32)
    (b g : Fin 2) (r : Fin 4) (n : Fin 16384) (z : Fin 1) :
    rowTop x y σ (ix5 b g r n z) = max (max (x (ix4 b g r n) : EReal) (y (ix4 b g r n))) (σ (ix5 b g r n z)) := by
  pointwise [rowTop]

def ex (s : FVec Ideal S2x2x4x16384x16384 .f32) (t : FVec Ideal S2x2x4x16384x1 .f32) : FVec Ideal S2x2x4x16384x16384 .f32 :=
  Host.exp (subf s (broadcastInDim S2x2x4x16384x16384 ![0, 1, 2, 3, 4] bcast_S2x2x4x16384x1_S2x2x4x16384x16384_0_1_2_3_4 t))
theorem ex_at (s : FVec Ideal S2x2x4x16384x16384 .f32) (t : FVec Ideal S2x2x4x16384x1 .f32) (b g : Fin 2) (r : Fin 4) (n k : Fin 16384) :
    ex s t (ix5 b g r n k) = Ideal.exp ((s (ix5 b g r n k) : EReal) - t (ix5 b g r n 0)) := by
  pointwise [ex]
def exCtx (s : FVec Ideal S2x2x4x16384x256 .f32) (t : FVec Ideal S2x2x4x16384x1 .f32) : FVec Ideal S2x2x4x16384x256 .f32 :=
  Host.exp (subf s (broadcastInDim S2x2x4x16384x256 ![0, 1, 2, 3, 4] bcast_S2x2x4x16384x1_S2x2x4x16384x256_0_1_2_3_4 t))
theorem exCtx_at (s : FVec Ideal S2x2x4x16384x256 .f32) (t : FVec Ideal S2x2x4x16384x1 .f32) (b g : Fin 2) (r : Fin 4) (n : Fin 16384) (k : Fin 256) :
    exCtx s t (ix5 b g r n k) = Ideal.exp ((s (ix5 b g r n k) : EReal) - t (ix5 b g r n 0)) := by
  pointwise [exCtx]

def den (p : FVec Ideal S2x2x4x16384x16384 .f32) (px : FVec Ideal S2x2x4x16384x256 .f32) (σ t : FVec Ideal S2x2x4x16384x1 .f32) :
    FVec Ideal S2x2x4x16384x1 .f32 :=
  addf (addf
    (broadcastInDim S2x2x4x16384x1 ![0, 1, 2, 3] bcast_S2x2x4x16384_S2x2x4x16384x1_0_1_2_3
      (Host.reduceAdd p (constant S_ .f32 0x00000000#32) reducesTo_S2x2x4x16384x16384_S2x2x4x16384_d4 h_S_ : FVec Ideal S2x2x4x16384 .f32))
    (broadcastInDim S2x2x4x16384x1 ![0, 1, 2, 3] bcast_S2x2x4x16384_S2x2x4x16384x1_0_1_2_3
      (Host.reduceAdd px (constant S_ .f32 0x00000000#32) reducesTo_S2x2x4x16384x256_S2x2x4x16384_d4 h_S_ : FVec Ideal S2x2x4x16384 .f32)))
    (Host.exp (subf σ t))
theorem den_at (p : FVec Ideal S2x2x4x16384x16384 .f32) (px : FVec Ideal S2x2x4x16384x256 .f32) (σ t : FVec Ideal S2x2x4x16384x1 .f32)
    (b g : Fin 2) (r : Fin 4) (n : Fin 16384) (z : Fin 1) :
    den p px σ t (ix5 b g r n z) = (∑ k : Fin 16384, (p (ix5 b g r n k) : EReal)) + (∑ k : Fin 256, (px (ix5 b g r n k) : EReal))
      + Ideal.exp ((σ (ix5 b g r n z) : EReal) - t (ix5 b g r n z)) := by
  pointwise [den]

def mixed (p : FVec Ideal S2x2x4x16384x16384 .f32) (D : FVec Ideal S2x2x4x16384x1 .f32) (W : FVec Ideal S2x16384x2x64 .f32) :
    FVec Ideal S2x16384x2x4x64 .f32 :=
  transpose S2x16384x2x4x64 [0, 4, 1, 3, 2]
    (Host.dotGeneral dot_S2x16384x2x64_S2x2x4x16384x16384_S2x2x64x4x16384_1_4_3_23_02_01 none W
      (Host.divf p (broadcastInDim S2x2x4x16384x16384 ![0, 1, 2, 3, 4] bcast_S2x2x4x16384x1_S2x2x4x16384x16384_0_1_2_3_4 D)) : FVec Ideal S2x2x64x4x16384 .f32)
    transposes_S2x2x64x4x16384_S2x16384x2x4x64_0_4_1_3_2
theorem mixed_at (p : FVec Ideal S2x2x4x16384x16384 .f32) (D : FVec Ideal S2x2x4x16384x1 .f32) (W : FVec Ideal S2x16384x2x64 .f32)
    (b : Fin 2) (n : Fin 16384) (g : Fin 2) (r : Fin 4) (d : Fin 64) : mixed p D W (ix5 b n g r d)
      = ∑ k : Fin 16384, (W (ix4 b k g d) : EReal) * Ideal.div (p (ix5 b g r n k)) (D (ix5 b g r n 0)) := by
  pointwise [mixed]
def mixedCtx (p : FVec Ideal S2x2x4x16384x256 .f32) (D : FVec Ideal S2x2x4x16384x1 .f32) (W : FVec Ideal S2x256x2x64 .f32) :
    FVec Ideal S2x16384x2x4x64 .f32 :=
  transpose S2x16384x2x4x64 [0, 4, 1, 3, 2]
    (Host.dotGeneral dot_S2x256x2x64_S2x2x4x16384x256_S2x2x64x4x16384_1_4_3_23_02_01 none W
      (Host.divf p (broadcastInDim S2x2x4x16384x256 ![0, 1, 2, 3, 4] bcast_S2x2x4x16384x1_S2x2x4x16384x256_0_1_2_3_4 D)) : FVec Ideal S2x2x64x4x16384 .f32)
    transposes_S2x2x64x4x16384_S2x16384x2x4x64_0_4_1_3_2
theorem mixedCtx_at (p : FVec Ideal S2x2x4x16384x256 .f32) (D : FVec Ideal S2x2x4x16384x1 .f32) (W : FVec Ideal S2x256x2x64 .f32)
    (b : Fin 2) (n : Fin 16384) (g : Fin 2) (r : Fin 4) (d : Fin 64) : mixedCtx p D W (ix5 b n g r d)
      = ∑ k : Fin 256, (W (ix4 b k g d) : EReal) * Ideal.div (p (ix5 b g r n k)) (D (ix5 b g r n 0)) := by
  pointwise [mixedCtx]

def joinLat (x y : FVec Ideal S2x16384x2x4x64 .f32) : FVec Ideal S2x16384x512 .f32 :=
  shapeCast S2x16384x512 (addf x y) shapeCasts_S2x16384x2x4x64_S2x16384x512
theorem joinLat_at (x y : FVec Ideal S2x16384x2x4x64 .f32) (b : Fin 2) (n : Fin 16384) (j : Fin 512) (g : Fin 2) (r : Fin 4)
    (d : Fin 64) (hj : j.val = (hd g r).val * 64 + d.val) :
    joinLat x y (ix3 b n j) = (x (ix5 b n g r d) : EReal) + y (ix5 b n g r d) := by
  have hh : (hd g r).val = g.val * 4 + r.val := rfl
  have h1 : (⟨j.val / 256, by omega⟩ : Fin 2) = g := Fin.ext (by simp only; omega)
  have h2 : (⟨j.val / 64 % 4, by omega⟩ : Fin 4) = r := Fin.ext (by simp only; omega)
  have h3 : (⟨j.val % 64, by omega⟩ : Fin 64) = d := Fin.ext (by simp only; omega)
  pointwise [joinLat]
  rw [h1, h2, h3]

/-! The context rows. -/

def splitC (Q : FVec Ideal S2x256x8x64 .f32) : FVec Ideal S2x256x2x4x64 .f32 :=
  shapeCast S2x256x2x4x64 Q shapeCasts_S2x256x8x64_S2x256x2x4x64
theorem splitC_at (Q : FVec Ideal S2x256x8x64 .f32) (b : Fin 2) (n : Fin 256) (g : Fin 2) (r : Fin 4) (d : Fin 64) :
    splitC Q (ix5 b n g r d) = Q (ix4 b n (hd g r) d) := by
  pointwise [splitC, hd]
def rawC (Q : FVec Ideal S2x256x2x4x64 .f32) (K : FVec Ideal S2x256x2x64 .f32) : FVec Ideal S2x2x4x256x256 .f32 :=
  mulf (transpose S2x2x4x256x256 [0, 1, 4, 3, 2]
    (Host.dotGeneral dot_S2x256x2x64_S2x256x2x4x64_S2x2x256x256x4_3_4_1_13_02_02 none K Q : FVec Ideal S2x2x256x256x4 .f32)
    transposes_S2x2x256x256x4_S2x2x4x256x256_0_1_4_3_2)
    (broadcastInDim S2x2x4x256x256 ![] bcast_S_S2x2x4x256x256 (constant S_ .f32 0x3E000000#32))
theorem rawC_at (Q : FVec Ideal S2x256x2x4x64 .f32) (K : FVec Ideal S2x256x2x64 .f32) (b g : Fin 2) (r : Fin 4) (n k : Fin 256) :
    rawC Q K (ix5 b g r n k) = (∑ d : Fin 64, (K (ix4 b k g d) : EReal) * (Q (ix5 b n g r d) : EReal)) * scale := by
  pointwise [rawC]
def logits (s : FVec Ideal S2x2x4x256x256 .f32) (S : FVec Ideal S8 .f32) : FVec Ideal S2x2x4x256x257 .f32 :=
  fn_main_v59 (F := Ideal) s (broadcastInDim S2x2x4x256x1 ![0, 1, 2, 3, 4] bcast_S1x2x4x1x1_S2x2x4x256x1_0_1_2_3_4 (sinks S))
theorem logits_lt (s : FVec Ideal S2x2x4x256x256 .f32) (S : FVec Ideal S8 .f32) (b g : Fin 2) (r : Fin 4) (n k : Fin 256) :
    logits s S (ix5 b g r n k.castSucc) = s (ix5 b g r n k) := by
  have hk : (k.castSucc : Fin 257).val < 256 := k.isLt
  pointwise [logits, fn_main_v59]
  rw [dif_pos hk]
  rfl
theorem logits_last (s : FVec Ideal S2x2x4x256x256 .f32) (S : FVec Ideal S8 .f32) (b g : Fin 2) (r : Fin 4) (n : Fin 256) :
    logits s S (ix5 b g r n (Fin.last 256)) = S (ix1 (hd g r)) := by
  have key : ∀ k : Fin 257, k = Fin.last 256 → logits s S (ix5 b g r n k) = S (ix1 (hd g r)) := by
    intro k hk
    have hn : ¬ k.val < 256 := by rw [hk]; simp
    pointwise [logits, fn_main_v59]
    rw [dif_neg hn]
    pointwise [sinks, hd]
  exact key _ rfl
def topC (s : FVec Ideal S2x2x4x256x257 .f32) : FVec Ideal S2x2x4x256 .f32 :=
  Host.reduce FloatOps.maximumf s (constant S_ .f32 0xFF800000#32) reducesTo_S2x2x4x256x257_S2x2x4x256_d4 h_S_
theorem topC_at (s : FVec Ideal S2x2x4x256x257 .f32) (b g : Fin 2) (r : Fin 4) (n : Fin 256) :
    topC s (ix4 b g r n) = Finset.univ.sup fun k : Fin 257 => (s (ix5 b g r n k) : EReal) := by
  have h : topC s (ix4 b g r n) = Finset.univ.fold max (Ideal.ofBits .f32 0xFF800000#32) fun k : Fin 257 => (s (ix5 b g r n k) : EReal) := by
    pointwise [topC]
  rw [h, low]
  rfl
def floorC (x : FVec Ideal S2x2x4x256 .f32) : FVec Ideal S2x2x4x256 .f32 :=
  maximumf (broadcastInDim S2x2x4x256 ![] bcast_S_S2x2x4x256 (constant S_ .f32 0xFF800000#32)) x
theorem floorC_at (x : FVec Ideal S2x2x4x256 .f32) (i : S2x2x4x256.Idx) : floorC x i = x i := by
  show max (Ideal.ofBits .f32 0xFF800000#32) (x i : EReal) = x i
  rw [low]
  exact max_eq_right bot_le
def exC (s : FVec Ideal S2x2x4x256x257 .f32) (t : FVec Ideal S2x2x4x256 .f32) : FVec Ideal S2x2x4x256x257 .f32 :=
  Host.exp (subf s (broadcastInDim S2x2x4x256x257 ![0, 1, 2, 3, 4] bcast_S2x2x4x256x1_S2x2x4x256x257_0_1_2_3_4
    (broadcastInDim S2x2x4x256x1 ![0, 1, 2, 3] bcast_S2x2x4x256_S2x2x4x256x1_0_1_2_3 t)))
theorem exC_at (s : FVec Ideal S2x2x4x256x257 .f32) (t : FVec Ideal S2x2x4x256 .f32) (b g : Fin 2) (r : Fin 4) (n : Fin 256) (k : Fin 257) :
    exC s t (ix5 b g r n k) = Ideal.exp ((s (ix5 b g r n k) : EReal) - t (ix4 b g r n)) := by
  pointwise [exC]
def shareC (p : FVec Ideal S2x2x4x256x257 .f32) : FVec Ideal S2x2x4x256x256 .f32 :=
  extractStridedSlice S2x2x4x256x256 ![0, 0, 0, 0, 0]
    (Host.divf p (broadcastInDim S2x2x4x256x257 ![0, 1, 2, 3, 4] bcast_S2x2x4x256x1_S2x2x4x256x257_0_1_2_3_4
      (broadcastInDim S2x2x4x256x1 ![0, 1, 2, 3] bcast_S2x2x4x256_S2x2x4x256x1_0_1_2_3
        (Host.reduceAdd p (constant S_ .f32 0x00000000#32) reducesTo_S2x2x4x256x257_S2x2x4x256_d4 h_S_ : FVec Ideal S2x2x4x256 .f32))) : FVec Ideal S2x2x4x256x257 .f32)
    slices_S2x2x4x256x257_S2x2x4x256x256_0_0_0_0_0
theorem shareC_at (p : FVec Ideal S2x2x4x256x257 .f32) (b g : Fin 2) (r : Fin 4) (n k : Fin 256) :
    shareC p (ix5 b g r n k) = Ideal.div (p (ix5 b g r n k.castSucc)) (∑ x : Fin 257, (p (ix5 b g r n x) : EReal)) := by
  pointwise [shareC]
  rfl
def joinC (p : FVec Ideal S2x2x4x256x256 .f32) (W : FVec Ideal S2x256x2x64 .f32) : FVec Ideal S2x256x512 .f32 :=
  shapeCast S2x256x512 (transpose S2x256x2x4x64 [0, 4, 1, 3, 2]
    (Host.dotGeneral dot_S2x256x2x64_S2x2x4x256x256_S2x2x64x4x256_1_4_3_23_02_01 none W p : FVec Ideal S2x2x64x4x256 .f32)
    transposes_S2x2x64x4x256_S2x256x2x4x64_0_4_1_3_2) shapeCasts_S2x256x2x4x64_S2x256x512
theorem joinC_at (p : FVec Ideal S2x2x4x256x256 .f32) (W : FVec Ideal S2x256x2x64 .f32) (b : Fin 2) (n : Fin 256) (j : Fin 512)
    (g : Fin 2) (r : Fin 4) (d : Fin 64) (hj : j.val = (hd g r).val * 64 + d.val) :
    joinC p W (ix3 b n j) = ∑ k : Fin 256, (W (ix4 b k g d) : EReal) * p (ix5 b g r n k) := by
  have hh : (hd g r).val = g.val * 4 + r.val := rfl
  have h1 : (⟨j.val / 256, by omega⟩ : Fin 2) = g := Fin.ext (by simp only; omega)
  have h2 : (⟨j.val / 64 % 4, by omega⟩ : Fin 4) = r := Fin.ext (by simp only; omega)
  have h3 : (⟨j.val % 64, by omega⟩ : Fin 64) = d := Fin.ext (by simp only; omega)
  pointwise [joinC]
  rw [h1, h2, h3]

/-! The whole. -/

def both (x : FVec Ideal S2x16384x512 .f32) (y : FVec Ideal S2x256x512 .f32) : FVec Ideal S2x16640x512 .bf16 :=
  truncf .bf16 (concatenate S2x16640x512 1 [⟨S2x16384x512, x⟩, ⟨S2x256x512, y⟩] concatenates_S2x16384x512_S2x256x512_S2x16640x512_d1)
    bitsLt_bf16_f32
theorem both_lat (x : FVec Ideal S2x16384x512 .f32) (y : FVec Ideal S2x256x512 .f32) (b : Fin 2) (n : Fin 16640) (j : Fin 512)
    (k : Fin 16384) (hk : n.val = k.val) : both x y (ix3 b n j) = x (ix3 b k j) := by
  have hn : n.val < 16384 := by omega
  have h1 : (⟨n.val, hn⟩ : Fin 16384) = k := Fin.ext hk
  pointwise [both]
  rw [dif_pos hn, h1]
theorem both_ctx (x : FVec Ideal S2x16384x512 .f32) (y : FVec Ideal S2x256x512 .f32) (b : Fin 2) (n : Fin 16640) (j : Fin 512)
    (k : Fin 256) (hk : n.val = 16384 + k.val) : both x y (ix3 b n j) = y (ix3 b k j) := by
  have hn : ¬ n.val < 16384 := by omega
  have h1 : (⟨n.val - 16384, by omega⟩ : Fin 256) = k := Fin.ext (by simp only; omega)
  pointwise [both]
  rw [dif_neg hn, h1]

/-- The latent rows. -/
def LAT (Q : FVec Ideal S2x16384x8x64 .f32) (K W : FVec Ideal S2x16384x2x64 .f32) (Kc Wc : FVec Ideal S2x256x2x64 .f32)
    (S : FVec Ideal S8 .f32) : FVec Ideal S2x16384x512 .f32 :=
  let s := windowed (raw (split Q) K)
  let sx := rawCtx (split Q) Kc
  let t := rowTop (topW s) (topX sx) (sinkCol S)
  let D := den (ex s t) (exCtx sx t) (sinkCol S) t
  joinLat (mixed (ex s t) D W) (mixedCtx (exCtx sx t) D Wc)

/-- The context rows. -/
def CTX (Q : FVec Ideal S2x256x8x64 .f32) (K W : FVec Ideal S2x256x2x64 .f32) (S : FVec Ideal S8 .f32) : FVec Ideal S2x256x512 .f32 :=
  let s := logits (rawC (splitC Q) K) S
  joinC (shareC (exC s (floorC (topC s)))) W

/-- The reference's result. -/
def REF (Q : FVec Ideal S2x16384x8x64 .f32) (K W : FVec Ideal S2x16384x2x64 .f32) (Qc : FVec Ideal S2x256x8x64 .f32)
    (Kc Wc : FVec Ideal S2x256x2x64 .f32) (S : FVec Ideal S8 .f32) : FVec Ideal S2x16640x512 .bf16 :=
  both (LAT Q K W Kc Wc S) (CTX Qc Kc Wc S)

variable (m : (ℓ : Loc nD τ sig) → Buf (Elt Ideal) ℓ)
theorem res_eq (c : Dev nD) : res_main_v76 m c =
    REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  rfl

end Cert.ReferenceIdeal.Value
-- ==== Proof.Head.lean ====
module
public import proofs.«01_k».proof.Proof.Gen.KernelIdeal.Skeleton
public import Idealize.ShloMosaic.Lib.Pointwise.Index
import Idealize.ShloMosaic.Lib.Pointwise
import Idealize.ShloMosaic.Lib.Pipeline.ValueKit
@[expose] public section
set_option maxRecDepth 16384
noncomputable section
namespace Cert.KernelIdeal.Value
open Cert.KernelIdeal Cert.KernelIdeal.Gen
open Idealize.ShloMosaic Idealize.ShloMosaic.TcCoe Idealize.SL.Sem

/-- The scores of 128 queries against one block of 128 keys. -/
def scores (q k : Vec Ideal S1x128x128 .bf16) : FVec Ideal S128x128 .f32 :=
  matmul dot_S128x128_S128x128_S128x128_1_1_0_0_n_n none (shapeCast S128x128 q shapeCasts_S1x128x128_S128x128 : FVec Ideal S128x128 .bf16)
    (shapeCast S128x128 k shapeCasts_S1x128x128_S128x128 : FVec Ideal S128x128 .bf16) (constant S128x128 .f32 0x00000000#32)

/-- The scores of 128 queries against the 256 context keys. -/
def ctxScores (q : Vec Ideal S1x128x128 .bf16) (k : Vec Ideal S1x256x128 .bf16) : FVec Ideal S128x256 .f32 :=
  matmul dot_S128x128_S256x128_S128x256_1_1_0_0_n_n none (shapeCast S128x128 q shapeCasts_S1x128x128_S128x128 : FVec Ideal S128x128 .bf16)
    (shapeCast S256x128 k shapeCasts_S1x256x128_S256x128 : FVec Ideal S256x128 .bf16) (constant S128x256 .f32 0x00000000#32)

/-- Scores outside the mask become the named mask value. -/
def masked (b : IVec S128x128 1) (s : FVec Ideal S128x128 .f32) : FVec Ideal S128x128 .f32 :=
  select b s (broadcast S128x128 (Named.named (F := Ideal) κ "mask" (0xF149F2CA#32 : BitVec (FTy.bits .f32))))

/-- The largest score of each row, the sink among them. -/
def rowMax (s1 s2 s3 : FVec Ideal S128x128 .f32) (sx : FVec Ideal S128x256 .f32) (σ : Elt Ideal .f32) :
    FVec Ideal S128x1 .f32 :=
  maximumf (maximumf
    (shapeCast S128x1 (multiReduction .maximumf [1] S128 (maximumf (maximumf s1 s2) s3) 0xFF800000#32
      reduces_S128x128_S128 (.inl rfl) rfl) shapeCasts_S128_S128x1)
    (shapeCast S128x1 (multiReduction .maximumf [1] S128 sx 0xFF800000#32
      reduces_S128x256_S128 (.inl rfl) rfl) shapeCasts_S128_S128x1)) (broadcast S128x1 σ)

/-- The exponentials of one block's scores. -/
def weights (s : FVec Ideal S128x128 .f32) (mx : FVec Ideal S128x1 .f32) : FVec Ideal S128x128 .f32 :=
  exp (subf s (broadcastTo S128x128 mx broadcasts_S128x1_S128x128))

/-- The exponentials of the context scores. -/
def ctxWeights (s : FVec Ideal S128x256 .f32) (mx : FVec Ideal S128x1 .f32) : FVec Ideal S128x256 .f32 :=
  exp (subf s (broadcastTo S128x256 mx broadcasts_S128x1_S128x256))

/-- The sum of all exponentials of each row. -/
def rowSum (p1 p2 p3 : FVec Ideal S128x128 .f32) (px : FVec Ideal S128x256 .f32) (σ : Elt Ideal .f32)
    (mx : FVec Ideal S128x1 .f32) : FVec Ideal S128x1 .f32 :=
  addf (addf
    (shapeCast S128x1 (multiReduction .add [1] S128 (addf (addf p1 p2) p3) 0x00000000#32
      reduces_S128x128_S128 (.inl rfl) rfl) shapeCasts_S128_S128x1)
    (shapeCast S128x1 (multiReduction .add [1] S128 px 0x00000000#32
      reduces_S128x256_S128 (.inl rfl) rfl) shapeCasts_S128_S128x1)) (exp (subf (broadcast S128x1 σ) mx))

/-- The exponentials of one block times its values. -/
def mix (p : FVec Ideal S128x128 .f32) (v : Vec Ideal S1x128x128 .bf16) : FVec Ideal S128x128 .f32 :=
  matmul dot_S128x128_S128x128_S128x128_1_0_0_1_n_n none (truncf .bf16 p bitsLt_bf16_f32)
    (shapeCast S128x128 v shapeCasts_S1x128x128_S128x128 : FVec Ideal S128x128 .bf16) (constant S128x128 .f32 0x00000000#32)

/-- The exponentials of the context times its values. -/
def ctxMix (p : FVec Ideal S128x256 .f32) (v : Vec Ideal S1x256x128 .bf16) : FVec Ideal S128x128 .f32 :=
  matmul dot_S128x256_S256x128_S128x128_1_0_0_1_n_n none (truncf .bf16 p bitsLt_bf16_f32)
    (shapeCast S256x128 v shapeCasts_S1x256x128_S256x128 : FVec Ideal S256x128 .bf16) (constant S128x128 .f32 0x00000000#32)

/-- What one head computes from its masked scores. -/
def normed (s1 s2 s3 : FVec Ideal S128x128 .f32) (sx : FVec Ideal S128x256 .f32) (σ : Elt Ideal .f32)
    (vp vc vn : Vec Ideal S1x128x128 .bf16) (vx : Vec Ideal S1x256x128 .bf16) : FVec Ideal S128x128 .f32 :=
  let mx := rowMax s1 s2 s3 sx σ
  divf (addf (addf (addf (mix (weights s1 mx) vp) (mix (weights s2 mx) vc)) (mix (weights s3 mx) vn))
      (ctxMix (ctxWeights sx mx) vx))
    (broadcastTo S128x128 (rowSum (weights s1 mx) (weights s2 mx) (weights s3 mx) (ctxWeights sx mx) σ mx)
      broadcasts_S128x1_S128x128)

/-- What one head computes at a grid point from the blocks it reads. -/
def head (i : grid0.Coords) (q kp kc kn : Vec Ideal S1x128x128 .bf16) (kx : Vec Ideal S1x256x128 .bf16)
    (σ : Elt Ideal .f32) (vp vc vn : Vec Ideal S1x128x128 .bf16) (vx : Vec Ideal S1x256x128 .bf16) :
    FVec Ideal S128x128 .f32 :=
  normed (masked (k0_pay2 i) (scores q kp)) (masked (k0_pay3 i) (scores q kc))
    (masked (k0_pay4 i) (scores q kn)) (ctxScores q kx) σ vp vc vn vx

/-- What a pair of heads stores. -/
def pair (a b : FVec Ideal S128x128 .f32) : FVec Ideal S1x128x128 .bf16 :=
  shapeCast S1x128x128 (truncf .bf16 (addf a b) bitsLt_bf16_f32) shapeCasts_S128x128_S1x128x128

theorem pair_at (a b : FVec Ideal S128x128 .f32) (z : Fin 1) (r l : Fin 128) :
    pair a b (ix3 z r l) = a (ix2 r l) + b (ix2 r l) := by pointwise [pair]

theorem scores_at (q k) (r l : Fin 128) : scores q k (ix2 r l) = ∑ d : Fin 128, q (ix3 0 r d) * k (ix3 0 l d) := by
  pointwise [scores]
theorem ctxScores_at (q k) (r : Fin 128) (l : Fin 256) : ctxScores q k (ix2 r l) = ∑ d : Fin 128, q (ix3 0 r d) * k (ix3 0 l d) := by
  pointwise [ctxScores]
theorem mask_named : Named.named (F := Ideal) κ "mask" (φ := .f32) 0xF149F2CA#32 = ⊥ := rfl

theorem masked_at (b s) (r l : Fin 128) : masked b s (ix2 r l) = if b (ix2 r l) = 1#1 then s (ix2 r l) else ⊥ := by
  pointwise [masked, mask_named]
  exact Scalar.select_def _ _ _

theorem weights_at (s mx) (r l : Fin 128) : weights s mx (ix2 r l) = Ideal.exp (s (ix2 r l) - mx (ix2 r 0)) := by
  pointwise [weights]
theorem ctxWeights_at (s mx) (r : Fin 128) (l : Fin 256): ctxWeights s mx (ix2 r l) = Ideal.exp (s (ix2 r l) - mx (ix2 r 0)) := by
  pointwise [ctxWeights]
theorem mix_at (p v) (r l : Fin 128) : mix p v (ix2 r l) = ∑ k : Fin 128, p (ix2 r k) * v (ix3 0 k l) := by
  pointwise [mix]
theorem ctxMix_at (p v) (r l : Fin 128) : ctxMix p v (ix2 r l) = ∑ k : Fin 256, p (ix2 r k) * v (ix3 0 k l) := by
  pointwise [ctxMix]
/-- The largest of one row's 128 triples of scores, its 256 context scores and its sink. -/
def top (s1 s2 s3 : Fin 128 → EReal) (sx : Fin 256 → EReal) (σ : EReal) : EReal :=
  max (max (Finset.univ.sup fun x => max (max (s1 x) (s2 x)) (s3 x)) (Finset.univ.sup sx)) σ

theorem neg_inf : Ideal.ofBits .f32 0xFF800000#32 = ⊥ := by simp [Ideal.ofBits, Ideal.ieee]

theorem fold_max {ι : Type} (s : Finset ι) (f : ι → EReal) : Finset.fold max ⊥ f s = s.sup f := rfl

theorem rowMax_at (s1 s2 s3 sx σ) (r : Fin 128) (z : Fin 1) : rowMax s1 s2 s3 sx σ (ix2 r z)
    = top (fun x => s1 (ix2 r x)) (fun x => s2 (ix2 r x)) (fun x => s3 (ix2 r x)) (fun x => sx (ix2 r x)) σ := by
  pointwise [rowMax]
  rw [neg_inf, fold_max, fold_max]; rfl

theorem rowSum_at (p1 p2 p3 px σ mx) (r : Fin 128) (z : Fin 1) : rowSum p1 p2 p3 px σ mx (ix2 r z)
    = ∑ x, (p1 (ix2 r x) + p2 (ix2 r x) + p3 (ix2 r x)) + ∑ x, px (ix2 r x) + Ideal.exp (σ - mx (ix2 r z)) := by
  pointwise [rowSum]

/-- A row's exponentials over their sum, times one lane of the values: what one head leaves in one lane. -/
def lane (s1 s2 s3 : Fin 128 → EReal) (sx : Fin 256 → EReal) (σ : EReal) (v1 v2 v3 : Fin 128 → EReal)
    (vx : Fin 256 → EReal) : EReal :=
  let t := top s1 s2 s3 sx σ
  Ideal.div (∑ x, Ideal.exp (s1 x - t) * v1 x + ∑ x, Ideal.exp (s2 x - t) * v2 x + ∑ x, Ideal.exp (s3 x - t) * v3 x
      + ∑ x, Ideal.exp (sx x - t) * vx x)
    (∑ x, (Ideal.exp (s1 x - t) + Ideal.exp (s2 x - t) + Ideal.exp (s3 x - t)) + ∑ x, Ideal.exp (sx x - t)
      + Ideal.exp (σ - t))

theorem and_one (a b : BitVec 1) : IntOp.andi a b = 1#1 ↔ a = 1#1 ∧ b = 1#1 := by
  revert a b; decide

theorem toInt_small (n : ℕ) (h : n < 1000) : (BitVec.ofNat 32 n).toInt = n := by
  rw [BitVec.toInt_eq_toNat_of_lt] <;> rw [BitVec.toNat_ofNat] <;> omega

theorem coord_lt (i : grid0.Coords) : (i 1).val < 130 := (i 1).isLt

theorem mask1_at (i : grid0.Coords) (r l : Fin 128) :
    (k0_pay2 i (ix2 r l) = 1#1) ↔ (r.val ≤ l.val ∧ 1 ≤ (i 1).val ∧ (i 1).val < 128) := by
  have := coord_lt i
  pointwise [k0_pay2]
  rw [and_one, and_one]
  simp only [Scalar.cmpi, IntOp.cmpi_sge, IntOp.cmpi_slt]
  rw [toInt_small _ (by omega), toInt_small _ (by omega), toInt_small _ (by omega)]
  rw [show (128#32 : BitVec 32).toInt = 128 from rfl, show (1#32 : BitVec 32).toInt = 1 from rfl]
  omega
theorem mask2_at (i : grid0.Coords) (r l : Fin 128) : (k0_pay3 i (ix2 r l) = 1#1) ↔ (i 1).val < 128 := by
  have := coord_lt i
  pointwise [k0_pay3]
  simp only [Scalar.cmpi, IntOp.cmpi_sge, IntOp.cmpi_slt]
  rw [toInt_small _ (by omega)]
  rw [show (128#32 : BitVec 32).toInt = 128 from rfl]
  omega
theorem mask3_at (i : grid0.Coords) (r l : Fin 128) :
    (k0_pay4 i (ix2 r l) = 1#1) ↔ (l.val ≤ r.val ∧ (i 1).val < 127) := by
  have := coord_lt i
  pointwise [k0_pay4]
  rw [and_one]
  simp only [Scalar.cmpi, IntOp.cmpi_sle, IntOp.cmpi_slt]
  rw [toInt_small _ (by omega), toInt_small _ (by omega), toInt_small _ (by omega)]
  rw [show (127#32 : BitVec 32).toInt = 127 from rfl]
  omega

theorem normed_at (s1 s2 s3 sx σ vp vc vn vx) (r l : Fin 128) : normed s1 s2 s3 sx σ vp vc vn vx (ix2 r l)
    = lane (fun x => s1 (ix2 r x)) (fun x => s2 (ix2 r x)) (fun x => s3 (ix2 r x)) (fun x => sx (ix2 r x)) σ
      (fun x => vp (ix3 0 x l)) (fun x => vc (ix3 0 x l)) (fun x => vn (ix3 0 x l)) (fun x => vx (ix3 0 x l)) := by
  pointwise [normed, weights_at, ctxWeights_at, mix_at, ctxMix_at, rowMax_at, rowSum_at]
  rfl

/-- One lane of one head, from the entries of the blocks it reads. -/
theorem head_at (i : grid0.Coords) (q kp kc kn kx σ vp vc vn vx) (r l : Fin 128) :
    head i q kp kc kn kx σ vp vc vn vx (ix2 r l)
    = lane (fun x => if r.val ≤ x.val ∧ 1 ≤ (i 1).val ∧ (i 1).val < 128 then ∑ d : Fin 128, q (ix3 0 r d) * kp (ix3 0 x d) else ⊥)
      (fun x => if (i 1).val < 128 then ∑ d : Fin 128, q (ix3 0 r d) * kc (ix3 0 x d) else ⊥)
      (fun x => if x.val ≤ r.val ∧ (i 1).val < 127 then ∑ d : Fin 128, q (ix3 0 r d) * kn (ix3 0 x d) else ⊥)
      (fun x => ∑ d : Fin 128, q (ix3 0 r d) * kx (ix3 0 x d)) σ
      (fun x => vp (ix3 0 x l)) (fun x => vc (ix3 0 x l)) (fun x => vn (ix3 0 x l)) (fun x => vx (ix3 0 x l)) := by
  unfold head
  rw [normed_at]
  simp only [masked_at, mask1_at, mask2_at, mask3_at, scores_at, ctxScores_at]

end Cert.KernelIdeal.Value
-- ==== Proof.Maths.lean ====
module
public import proofs.«01_k».proof.Proof.Head
import Idealize.ShloMosaic.Lib.Pointwise
@[expose] public section
set_option maxRecDepth 16384
noncomputable section
namespace Cert.KernelIdeal.Value
open Idealize.ShloMosaic

/-! The mathematics of one row of attention, on plain functions. -/

/-- A real number, as an extended one. -/
def IsReal (x : EReal) : Prop := ∃ r : ℝ, x = (r : EReal)

theorem IsReal.mul {x y : EReal} : IsReal x → IsReal y → IsReal (x * y) := by
  rintro ⟨a, rfl⟩ ⟨b, rfl⟩
  exact ⟨a * b, (EReal.coe_mul a b).symm⟩
theorem IsReal.add {x y : EReal} : IsReal x → IsReal y → IsReal (x + y) := by
  rintro ⟨a, rfl⟩ ⟨b, rfl⟩
  exact ⟨a + b, (EReal.coe_add a b).symm⟩
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih
theorem IsReal.of_ne {x : EReal} (h : x ≠ ⊤) (h' : x ≠ ⊥) : IsReal x := ⟨x.toReal, (EReal.coe_toReal h h').symm⟩
theorem IsReal.ne_top {x : EReal} : IsReal x → x ≠ ⊤ := by
  rintro ⟨a, rfl⟩
  exact EReal.coe_ne_top a
theorem IsReal.ne_bot {x : EReal} : IsReal x → x ≠ ⊥ := by
  rintro ⟨a, rfl⟩
  exact EReal.coe_ne_bot a

/-- A real factor that is not negative comes out of a sum, whatever the terms. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _
theorem add_mul_real (x y : EReal) (c : ℝ) (hc : 0 ≤ c) : (x + y) * (c : EReal) = x * c + y * c :=
  EReal.right_distrib_of_nonneg_of_ne_top (by exact_mod_cast hc) (EReal.coe_ne_top c) _ _

theorem exp_sub {x : EReal} (h : x ≠ ⊤) (t : ℝ) : ∃ r : ℝ, 0 ≤ r ∧ Ideal.exp (x - t) = (r : EReal) := by
  by_cases hx : x = ⊥
  · refine ⟨0, le_rfl, ?_⟩
    rw [hx, EReal.bot_sub]
    rfl
  · obtain ⟨a, rfl⟩ := IsReal.of_ne h hx
    exact ⟨Real.exp (a - t), (Real.exp_pos _).le, by rw [← EReal.coe_sub]; rfl⟩
theorem exp_sub_pos {x : EReal} (h : IsReal x) (t : ℝ) : ∃ r : ℝ, 0 < r ∧ Ideal.exp (x - t) = (r : EReal) := by
  obtain ⟨a, rfl⟩ := h
  exact ⟨Real.exp (a - t), Real.exp_pos _, by rw [← EReal.coe_sub]; rfl⟩

/-- A sum of reals none of which is negative. -/
theorem sum_nonneg_real {ι : Type} (s : Finset ι) (f : ι → EReal) (h : ∀ i, ∃ r : ℝ, 0 ≤ r ∧ f i = (r : EReal)) :
    ∃ r : ℝ, 0 ≤ r ∧ ∑ i ∈ s, f i = (r : EReal) := by
  classical
  induction s using Finset.induction_on with
  | empty => exact ⟨0, le_rfl, by simp⟩
  | insert a s ha ih =>
    obtain ⟨x, hx, ex⟩ := h a
    obtain ⟨y, hy, ey⟩ := ih
    exact ⟨x + y, add_nonneg hx hy, by rw [Finset.sum_insert ha, ex, ey, EReal.coe_add]⟩
theorem sum_pos_real {ι : Type} [Fintype ι] (i₀ : ι) (f : ι → EReal) (h : ∀ i, ∃ r : ℝ, 0 < r ∧ f i = (r : EReal)) :
    ∃ r : ℝ, 0 < r ∧ ∑ i, f i = (r : EReal) := by
  classical
  obtain ⟨y, hy, ey⟩ := sum_nonneg_real (Finset.univ.erase i₀) f fun i => (h i).imp fun r hr => ⟨hr.1.le, hr.2⟩
  obtain ⟨x, hx, ex⟩ := h i₀
  exact ⟨x + y, by linarith, by rw [← Finset.add_sum_erase _ _ (Finset.mem_univ i₀), ex, ey, EReal.coe_add]⟩

theorem sup_ne_top {ι : Type} (s : Finset ι) (f : ι → EReal) (h : ∀ i, f i ≠ ⊤) : s.sup f ≠ ⊤ := by
  have : s.sup f < ⊤ := (Finset.sup_lt_iff bot_lt_top).2 fun i _ => lt_top_iff_ne_top.2 (h i)
  exact this.ne

/-- The largest score of a row is a real number: one context score is. -/
theorem top_real (a : EReal) (ha : a ≠ ⊤) (sx : Fin 256 → EReal) (hx : ∀ x, IsReal (sx x)) (σ : EReal) (hσ : σ ≠ ⊤) :
    IsReal (max (max a (Finset.univ.sup sx)) σ) := by
  refine IsReal.of_ne ?_ ?_
  · have h := sup_ne_top Finset.univ sx fun x => (hx x).ne_top
    exact (max_lt (max_lt (lt_top_iff_ne_top.2 ha) (lt_top_iff_ne_top.2 h)) (lt_top_iff_ne_top.2 hσ)).ne
  · have h1 : sx 0 ≤ max (max a (Finset.univ.sup sx)) σ :=
      le_trans (Finset.le_sup (f := sx) (Finset.mem_univ 0)) (le_trans (le_max_right _ _) (le_max_left _ _))
    exact (lt_of_lt_of_le (bot_lt_iff_ne_bot.2 (hx 0).ne_bot) h1).ne'

/-- The sum of a row's exponentials is a positive real. -/
theorem den_real (a : EReal) (ha : ∃ r : ℝ, 0 ≤ r ∧ a = (r : EReal)) (sx : Fin 256 → EReal) (hx : ∀ x, IsReal (sx x))
    (σ : EReal) (hσ : σ ≠ ⊤) (t : ℝ) :
    ∃ r : ℝ, 0 < r ∧ a + ∑ x, Ideal.exp (sx x - t) + Ideal.exp (σ - t) = (r : EReal) := by
  obtain ⟨x, h0, rfl⟩ := ha
  obtain ⟨y, h1, e1⟩ := sum_pos_real (0 : Fin 256) (fun x => Ideal.exp (sx x - t)) fun x => exp_sub_pos (hx x) t
  obtain ⟨z, h2, e2⟩ := exp_sub hσ t
  exact ⟨x + y + z, by linarith, by rw [e1, e2, EReal.coe_add, EReal.coe_add]⟩

/-! A sum, and a maximum, over the keys a query sees, block by block. -/

def prevKey (i : Fin 130) (x : Fin 128) : Fin 16384 := ⟨min (i.val - 1) 127 * 128 + x.val, by omega⟩
def curKey (i : Fin 130) (x : Fin 128) : Fin 16384 := ⟨min i.val 127 * 128 + x.val, by omega⟩
def nextKey (i : Fin 130) (x : Fin 128) : Fin 16384 := ⟨min (i.val + 1) 127 * 128 + x.val, by omega⟩

/-- Only three blocks of a sum over 128 are not zero. -/
theorem sum_three {M : Type} [AddCommMonoid M] (g : Fin 128 → M) (i : ℕ) (hi : i < 128)
    (h : ∀ t : Fin 128, ¬ (i ≤ t.val + 1 ∧ t.val ≤ i + 1) → g t = 0) :
    ∑ t, g t = (if 1 ≤ i then g ⟨min (i - 1) 127, by omega⟩ else 0) + g ⟨min i 127, by omega⟩
      + (if i < 127 then g ⟨min (i + 1) 127, by omega⟩ else 0) := by
  have e : ∀ t : Fin 128, g t = (if t.val + 1 = i then g t else 0) + (if t.val = i then g t else 0)
      + (if t.val = i + 1 then g t else 0) := by
    intro t
    by_cases h1 : t.val + 1 = i
    · rw [if_pos h1, if_neg (by omega), if_neg (by omega), add_zero, add_zero]
    · by_cases h2 : t.val = i
      · rw [if_neg h1, if_pos h2, if_neg (by omega), add_zero, zero_add]
      · by_cases h3 : t.val = i + 1
        · rw [if_neg h1, if_neg h2, if_pos h3, add_zero, zero_add]
        · rw [if_neg h1, if_neg h2, if_neg h3, h t (by omega), add_zero, add_zero]
  rw [Finset.sum_congr rfl fun t _ => e t, Finset.sum_add_distrib, Finset.sum_add_distrib]
  congr 1
  · congr 1
    · by_cases h1 : 1 ≤ i
      · rw [if_pos h1, Finset.sum_eq_single (⟨min (i - 1) 127, by omega⟩ : Fin 128)]
        · rw [if_pos (by simp only; omega)]
        · intro t _ ht
          rw [if_neg fun h => ht (Fin.ext (by simp only; omega))]
        · intro hn; exact absurd (Finset.mem_univ _) hn
      · rw [if_neg h1]
        exact Finset.sum_eq_zero fun t _ => if_neg (by omega)
    · rw [Finset.sum_eq_single (⟨min i 127, by omega⟩ : Fin 128)]
      · rw [if_pos (by simp only; omega)]
      · intro t _ ht
        rw [if_neg fun h => ht (Fin.ext (by simp only; omega))]
      · intro hn; exact absurd (Finset.mem_univ _) hn
  · by_cases h1 : i < 127
    · rw [if_pos h1, Finset.sum_eq_single (⟨min (i + 1) 127, by omega⟩ : Fin 128)]
      · rw [if_pos (by simp only; omega)]
      · intro t _ ht
        rw [if_neg fun h => ht (Fin.ext (by simp only; omega))]
      · intro hn; exact absurd (Finset.mem_univ _) hn
    · rw [if_neg h1]
      exact Finset.sum_eq_zero fun t _ => if_neg (by have := t.isLt; omega)

/-- A sum over the keys whose terms outside a query's window are zero, as three sums of 128. -/
theorem sum_window {M : Type} [AddCommMonoid M] (f : Fin 16384 → M) (i : Fin 130) (r : Fin 128) (hi : i.val < 128)
    (h : ∀ k : Fin 16384, ¬ (k.val ≤ i.val * 128 + r.val + 128 ∧ i.val * 128 + r.val ≤ k.val + 128) → f k = 0) :
    ∑ k, f k = ∑ x : Fin 128, (if r.val ≤ x.val ∧ 1 ≤ i.val ∧ i.val < 128 then f (prevKey i x) else 0)
      + ∑ x : Fin 128, (if i.val < 128 then f (curKey i x) else 0)
      + ∑ x : Fin 128, (if x.val ≤ r.val ∧ i.val < 127 then f (nextKey i x) else 0) := by
  rw [Fin.sum_univ_tiles 128 128 (by norm_num) f]
  rw [sum_three (fun t : Fin 128 => ∑ x : Fin 128, f ⟨t.val * 128 + x.val, by omega⟩) i.val hi ?_]
  · congr 1
    · congr 1
      · by_cases h1 : 1 ≤ i.val
        · rw [if_pos h1]
          refine Finset.sum_congr rfl fun x _ => ?_
          by_cases h2 : r.val ≤ x.val
          · rw [if_pos ⟨h2, h1, hi⟩]; rfl
          · rw [if_neg fun hh => h2 hh.1]
            exact h _ (by simp only; omega)
        · rw [if_neg h1]
          exact (Finset.sum_eq_zero fun x _ => if_neg fun hh => h1 hh.2.1).symm
      · exact Finset.sum_congr rfl fun x _ => by rw [if_pos hi]; rfl
    · by_cases h1 : i.val < 127
      · rw [if_pos h1]
        refine Finset.sum_congr rfl fun x _ => ?_
        by_cases h2 : x.val ≤ r.val
        · rw [if_pos ⟨h2, h1⟩]; rfl
        · rw [if_neg fun hh => h2 hh.1]
          exact h _ (by simp only; omega)
      · rw [if_neg h1]
        exact (Finset.sum_eq_zero fun x _ => if_neg fun hh => h1 hh.2).symm
  · intro t ht
    exact Finset.sum_eq_zero fun x _ => h _ (by simp only; omega)

/-- The largest of the keys' scores, of which those outside a query's window are the least, is among its three blocks. -/
theorem sup_window (s : Fin 16384 → EReal) (i : Fin 130) (r : Fin 128) (hi : i.val < 128)
    (h : ∀ k : Fin 16384, ¬ (k.val ≤ i.val * 128 + r.val + 128 ∧ i.val * 128 + r.val ≤ k.val + 128) → s k = ⊥) :
    (Finset.univ.sup fun x : Fin 128 =>
      max (max (if r.val ≤ x.val ∧ 1 ≤ i.val ∧ i.val < 128 then s (prevKey i x) else ⊥)
        (if i.val < 128 then s (curKey i x) else ⊥)) (if x.val ≤ r.val ∧ i.val < 127 then s (nextKey i x) else ⊥))
      = Finset.univ.sup s := by
  refine le_antisymm (Finset.sup_le fun x _ => ?_) (Finset.sup_le fun k _ => ?_)
  · have key : ∀ (p : Prop) [Decidable p] (k : Fin 16384), (if p then s k else ⊥) ≤ Finset.univ.sup s := by
      intro p _ k
      by_cases hp : p
      · rw [if_pos hp]; exact Finset.le_sup (f := s) (Finset.mem_univ k)
      · rw [if_neg hp]; exact bot_le
    exact max_le (max_le (key _ _) (key _ _)) (key _ _)
  · by_cases hk : k.val ≤ i.val * 128 + r.val + 128 ∧ i.val * 128 + r.val ≤ k.val + 128
    · refine le_trans ?_ (Finset.le_sup (Finset.mem_univ (⟨k.val % 128, by omega⟩ : Fin 128)))
      have hk' := k.isLt
      rcases (by omega : k.val / 128 + 1 = i.val ∨ k.val / 128 = i.val ∨ k.val / 128 = i.val + 1) with h1 | h1 | h1
      · refine le_trans ?_ (le_max_left _ _)
        refine le_trans ?_ (le_max_left _ _)
        rw [if_pos ⟨by simp only; omega, by omega, hi⟩]
        exact le_of_eq (congrArg s (Fin.ext (by simp only [prevKey]; omega)))
      · refine le_trans ?_ (le_max_left _ _)
        refine le_trans ?_ (le_max_right _ _)
        rw [if_pos hi]
        exact le_of_eq (congrArg s (Fin.ext (by simp only [curKey]; omega)))
      · refine le_trans ?_ (le_max_right _ _)
        rw [if_pos ⟨by simp only; omega, by omega⟩]
        exact le_of_eq (congrArg s (Fin.ext (by simp only [nextKey]; omega)))
    · rw [h k hk]
      exact bot_le

/-- Attention of one query over latent keys, context keys and a sink: the reference's form, a share for each key. -/
def attend (s W : Fin 16384 → EReal) (sx Wx : Fin 256 → EReal) (σ : EReal) : EReal :=
  let t := max (max (Finset.univ.sup s) (Finset.univ.sup sx)) σ
  let D := ∑ k, Ideal.exp (s k - t) + ∑ x, Ideal.exp (sx x - t) + Ideal.exp (σ - t)
  ∑ k, W k * Ideal.div (Ideal.exp (s k - t)) D + ∑ x, Wx x * Ideal.div (Ideal.exp (sx x - t)) D

theorem ite_exp (p : Prop) [Decidable p] (a t : EReal) :
    Ideal.exp ((if p then a else ⊥) - t) = if p then Ideal.exp (a - t) else 0 := by
  split
  · rfl
  · rw [EReal.bot_sub]; rfl

/-- One lane of the kernel, at a latent query, is the reference's attention. -/
theorem lane_lat (s W : Fin 16384 → EReal) (sx Wx : Fin 256 → EReal) (σ : EReal) (i : Fin 130) (r : Fin 128) (hi : i.val < 128)
    (h : ∀ k : Fin 16384, ¬ (k.val ≤ i.val * 128 + r.val + 128 ∧ i.val * 128 + r.val ≤ k.val + 128) → s k = ⊥)
    (hs : ∀ k, s k ≠ ⊤) (hx : ∀ x, IsReal (sx x)) (hσ : σ ≠ ⊤) :
    lane (fun x => if r.val ≤ x.val ∧ 1 ≤ i.val ∧ i.val < 128 then s (prevKey i x) else ⊥)
      (fun x => if i.val < 128 then s (curKey i x) else ⊥)
      (fun x => if x.val ≤ r.val ∧ i.val < 127 then s (nextKey i x) else ⊥) sx σ
      (fun x => W (prevKey i x)) (fun x => W (curKey i x)) (fun x => W (nextKey i x)) Wx = attend s W sx Wx σ := by
  obtain ⟨t, ht⟩ := top_real (Finset.univ.sup s) (sup_ne_top _ s hs) sx hx σ hσ
  obtain ⟨δ, hδ, eδ⟩ := den_real (∑ k, Ideal.exp (s k - t))
    (sum_nonneg_real _ _ fun k => exp_sub (hs k) t) sx hx σ hσ t
  have z : ∀ k : Fin 16384, ¬ (k.val ≤ i.val * 128 + r.val + 128 ∧ i.val * 128 + r.val ≤ k.val + 128) →
      Ideal.exp (s k - t) = 0 := fun k hk => by rw [h k hk, EReal.bot_sub]; rfl
  have c0 : (0 : ℝ) ≤ 1 / δ := by positivity
  simp only [lane, attend, top]
  rw [sup_window s i r hi h, ht]
  simp only [ite_exp]
  rw [Finset.sum_add_distrib, Finset.sum_add_distrib, ← sum_window (fun k => Ideal.exp (s k - t)) i r hi z, eδ]
  simp only [Ideal.div_coe hδ.ne', ite_mul, zero_mul]
  rw [← sum_window (fun k => Ideal.exp (s k - t) * W k) i r hi fun k hk => by rw [z k hk, zero_mul]]
  rw [add_mul_real _ _ _ c0, sum_mul_real _ _ _ c0, sum_mul_real _ _ _ c0]
  refine congrArg₂ (· + ·) ?_ ?_
  · exact Finset.sum_congr rfl fun k _ => by rw [mul_comm (Ideal.exp _) (W k), mul_assoc]
  · exact Finset.sum_congr rfl fun k _ => by rw [mul_comm (Ideal.exp _) (Wx k), mul_assoc]

/-- Attention of one context query over the context keys and a sink, the sink the last of 257 logits. -/
def attendCtx (a : Fin 257 → EReal) (Wx : Fin 256 → EReal) : EReal :=
  ∑ k : Fin 256, Wx k * Ideal.div (Ideal.exp (a k.castSucc - Finset.univ.sup a))
    (∑ x, Ideal.exp (a x - Finset.univ.sup a))

theorem sup_last (a : Fin 257 → EReal) :
    Finset.univ.sup a = max (Finset.univ.sup fun k : Fin 256 => a k.castSucc) (a (Fin.last 256)) := by
  refine le_antisymm (Finset.sup_le fun k _ => ?_) (max_le (Finset.sup_le fun k _ => ?_) ?_)
  · refine Fin.lastCases ?_ (fun k => ?_) k
    · exact le_max_right _ _
    · exact le_trans (Finset.le_sup (f := fun k : Fin 256 => a k.castSucc) (Finset.mem_univ k)) (le_max_left _ _)
  · exact Finset.le_sup (Finset.mem_univ _)
  · exact Finset.le_sup (Finset.mem_univ _)

/-- One lane of the kernel, at a context query. -/
theorem lane_ctx (s1 s2 s3 v1 v2 v3 : Fin 128 → EReal) (a : Fin 257 → EReal) (Wx : Fin 256 → EReal)
    (h1 : ∀ x, s1 x = ⊥) (h2 : ∀ x, s2 x = ⊥) (h3 : ∀ x, s3 x = ⊥)
    (hx : ∀ x : Fin 256, IsReal (a x.castSucc)) (hσ : a (Fin.last 256) ≠ ⊤) :
    lane s1 s2 s3 (fun x => a x.castSucc) (a (Fin.last 256)) v1 v2 v3 Wx = attendCtx a Wx := by
  obtain ⟨t, ht⟩ := top_real ⊥ bot_ne_top (fun x => a x.castSucc) hx _ hσ
  obtain ⟨δ, hδ, eδ⟩ := den_real 0 ⟨0, le_rfl, rfl⟩ (fun x => a x.castSucc) hx _ hσ t
  have c0 : (0 : ℝ) ≤ 1 / δ := by positivity
  have e : Ideal.exp ⊥ = 0 := rfl
  have ht' : Finset.univ.sup a = t := by rw [sup_last, ← ht, max_eq_right bot_le]
  have hb : (Finset.univ.sup fun x : Fin 128 => max (max (s1 x) (s2 x)) (s3 x)) = ⊥ := by
    simp only [h1, h2, h3, max_self, Finset.sup_bot]
  have hd : ∑ x, Ideal.exp (a x - t) = δ := by rw [Fin.sum_univ_castSucc, ← eδ, zero_add]
  simp only [lane, attendCtx, top, hb, ht, ht', hd]
  simp only [h1, h2, h3, EReal.bot_sub, e, zero_mul, add_zero, Finset.sum_const_zero, eδ]
  simp only [Ideal.div_coe hδ.ne', zero_add]
  rw [sum_mul_real _ _ _ c0]
  exact Finset.sum_congr rfl fun k _ => by rw [mul_comm (Ideal.exp _) (Wx k), mul_assoc]

/-- A head whose values are zero leaves zero. -/
theorem lane_zero (s1 s2 s3 v1 v2 v3 : Fin 128 → EReal) (sx Wx : Fin 256 → EReal) (σ : EReal)
    (h1 : ∀ x, s1 x ≠ ⊤) (h2 : ∀ x, s2 x ≠ ⊤) (h3 : ∀ x, s3 x ≠ ⊤) (hx : ∀ x, IsReal (sx x)) (hσ : σ ≠ ⊤)
    (z1 : ∀ x, v1 x = 0) (z2 : ∀ x, v2 x = 0) (z3 : ∀ x, v3 x = 0) (zx : ∀ x, Wx x = 0) :
    lane s1 s2 s3 sx σ v1 v2 v3 Wx = 0 := by
  obtain ⟨t, ht⟩ := top_real (Finset.univ.sup fun x => max (max (s1 x) (s2 x)) (s3 x))
    (sup_ne_top _ _ fun x => (max_lt (max_lt (lt_top_iff_ne_top.2 (h1 x)) (lt_top_iff_ne_top.2 (h2 x)))
      (lt_top_iff_ne_top.2 (h3 x))).ne) sx hx σ hσ
  obtain ⟨δ, hδ, eδ⟩ := den_real (∑ x, (Ideal.exp (s1 x - t) + Ideal.exp (s2 x - t) + Ideal.exp (s3 x - t)))
    (sum_nonneg_real _ _ fun x => by
      obtain ⟨p, hp, ep⟩ := exp_sub (h1 x) t
      obtain ⟨q, hq, eq⟩ := exp_sub (h2 x) t
      obtain ⟨w, hw, ew⟩ := exp_sub (h3 x) t
      exact ⟨p + q + w, by linarith, by rw [ep, eq, ew, EReal.coe_add, EReal.coe_add]⟩) sx hx σ hσ t
  simp only [lane, top, ht, eδ, z1, z2, z3, zx, mul_zero, Finset.sum_const_zero, add_zero]
  rw [Ideal.div_coe hδ.ne', zero_mul]

end Cert.KernelIdeal.Value
-- ==== Proof.RefRow.lean ====
module
public import proofs.«01_k».proof.Proof.Ref
public import proofs.«01_k».proof.Proof.Maths
import Idealize.ShloMosaic.Lib.Pointwise
@[expose] public section
set_option maxRecDepth 16384
noncomputable section
namespace Cert.ReferenceIdeal.Value
open Cert.ReferenceIdeal Cert.ReferenceIdeal.Gen
open Idealize.ShloMosaic Idealize.ShloMosaic.TcCoe Idealize.SL.Sem
open Cert.KernelIdeal.Value (attend attendCtx)

/-- A latent row of the reference, one lane. -/
theorem LAT_at (Q : FVec Ideal S2x16384x8x64 .f32) (K W : FVec Ideal S2x16384x2x64 .f32) (Kc Wc : FVec Ideal S2x256x2x64 .f32)
    (S : FVec Ideal S8 .f32) (b : Fin 2) (n : Fin 16384) (j : Fin 512) (g : Fin 2) (r : Fin 4) (d : Fin 64)
    (hj : j.val = (hd g r).val * 64 + d.val) :
    LAT Q K W Kc Wc S (ix3 b n j) = attend
      (fun k => if k.val ≤ n.val + 128 ∧ n.val ≤ k.val + 128 then
        (∑ d : Fin 64, (K (ix4 b k g d) : EReal) * (Q (ix4 b n (hd g r) d) : EReal)) * scale else ⊥)
      (fun k => W (ix4 b k g d))
      (fun x => (∑ d : Fin 64, (Kc (ix4 b x g d) : EReal) * (Q (ix4 b n (hd g r) d) : EReal)) * scale)
      (fun x => Wc (ix4 b x g d)) (S (ix1 (hd g r))) := by
  simp only [LAT]
  rw [joinLat_at _ _ b n j g r d hj, mixed_at, mixedCtx_at]
  simp only [ex_at, exCtx_at, den_at, rowTop_at, topW_at, topX_at, sinkCol_at, windowed_at, raw_at, rawCtx_at, split_at]
  rfl

/-- A context row of the reference, one lane. -/
theorem CTX_at (Q : FVec Ideal S2x256x8x64 .f32) (K W : FVec Ideal S2x256x2x64 .f32) (S : FVec Ideal S8 .f32)
    (b : Fin 2) (n : Fin 256) (j : Fin 512) (g : Fin 2) (r : Fin 4) (d : Fin 64)
    (hj : j.val = (hd g r).val * 64 + d.val) :
    CTX Q K W S (ix3 b n j) = attendCtx (fun k => logits (rawC (splitC Q) K) S (ix5 b g r n k)) (fun k => W (ix4 b k g d)) := by
  simp only [CTX]
  rw [joinC_at _ _ b n j g r d hj]
  simp only [shareC_at, exC_at, floorC_at, topC_at]
  rfl

theorem logit_at (Q : FVec Ideal S2x256x8x64 .f32) (K : FVec Ideal S2x256x2x64 .f32) (S : FVec Ideal S8 .f32)
    (b g : Fin 2) (r : Fin 4) (n k : Fin 256) : logits (rawC (splitC Q) K) S (ix5 b g r n k.castSucc)
      = (∑ d : Fin 64, (K (ix4 b k g d) : EReal) * (Q (ix4 b n (hd g r) d) : EReal)) * scale := by
  rw [logits_lt, rawC_at]
  simp only [splitC_at]

/-- The scale is a real number, not a negative one. -/
theorem scale_real : ∃ c : ℝ, 0 ≤ c ∧ scale = (c : EReal) := by
  refine ⟨1 / 8, by norm_num, ?_⟩
  simp [scale, Ideal.ofBits, Ideal.ieee]
  rw [← EReal.coe_mul]
  congr 1
  norm_num

end Cert.ReferenceIdeal.Value
-- ==== Proof.Blocks.lean ====
/- The windowed attention call, its output array index by index: what a grid point stores is read from the blocks
   it was given (`Head.lean`), and the blocks are read from the arrays the call was given. -/
module
public import proofs.«01_k».proof.Proof.Gen.KernelIdeal.Value
public import proofs.«01_k».proof.Proof.Head
import Idealize.ShloMosaic.Lib.Pointwise
import Idealize.ShloMosaic.Lib.Pipeline.ValueKit
@[expose] public section
set_option maxRecDepth 16384
noncomputable section
namespace Cert.KernelIdeal.Value
open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![0] ∧ win0_1.index t = ![t.val / 130, t.val % 130, 0] ∧
    win0_2.index t = ![t.val / 130, min (t.val % 130 - 1) 127, 0] ∧
    win0_3.index t = ![t.val / 130, min (t.val % 130) 127, 0] ∧
    win0_4.index t = ![t.val / 130, min (t.val % 130 + 1) 127, 0] ∧
    win0_5.index t = ![t.val / 130, 64, 0] ∧
    win0_6.index t = ![t.val / 130, min (t.val % 130 - 1) 127, 0] ∧
    win0_7.index t = ![t.val / 130, min (t.val % 130) 127, 0] ∧
    win0_8.index t = ![t.val / 130, min (t.val % 130 + 1) 127, 0] ∧
    win0_9.index t = ![t.val / 130, 64, 0] ∧
    win0_10.index t = ![t.val / 130, t.val % 130, 0] :=
  (by decide +kernel : ∀ t : Fin grid0.N, _)

theorem coord : ∀ t : Fin cfg0.N, (grid0.coords t 1).val = t.val % 130 :=
  (by decide +kernel : ∀ t : Fin grid0.N, _)

theorem lt_N (t : Fin cfg0.N) : t.val < 260 := lt_of_lt_of_eq t.isLt N_0

/-- The batch element of a grid point. -/
def bat (t : Fin cfg0.N) : Fin 2 := ⟨t.val / 130, by have := lt_N t; omega⟩
/-- The block of rows of a grid point. -/
def row (t : Fin cfg0.N) : Fin 130 := ⟨t.val % 130, by omega⟩

/-- Token `x` of the block before, at, and after block `i`, held inside the latent sequence. -/
def prevTok (i : Fin 130) (x : Fin 128) : Fin 16640 := ⟨min (i.val - 1) 127 * 128 + x.val, by omega⟩
def curTok (i : Fin 130) (x : Fin 128) : Fin 16640 := ⟨min i.val 127 * 128 + x.val, by omega⟩
def nextTok (i : Fin 130) (x : Fin 128) : Fin 16640 := ⟨min (i.val + 1) 127 * 128 + x.val, by omega⟩
def ctxTok (x : Fin 256) : Fin 16640 := ⟨16384 + x.val, by omega⟩
/-- Token `r` of block `i`, the context's two blocks among them. -/
def tok (i : Fin 130) (r : Fin 128) : Fin 16640 := ⟨i.val * 128 + r.val, by omega⟩
/-- Lane `l` of the `p`-th 128 lanes. -/
def col (p : Fin 4) (l : Fin 128) : Fin 512 := ⟨p.val * 128 + l.val, by omega⟩

/-! The entry of each window's block, as an entry of the array the window is of. -/

theorem read0 (X : FVec Ideal S8 .f32) (t : Fin cfg0.N) (h : Fin 8) :
    (show FVec Ideal S8 .f32 from ((cfg0.win 0).blk t).view.read (Elt Ideal) X) (ix1 h) = X (ix1 h) := by
  blk_simp [idx t]
  blk_ext [idx t]

theorem read1 (X : FVec Ideal S2x16640x512 .bf16) (t : Fin cfg0.N) (z : Fin 1) (r : Fin 128) (d : Fin 512) :
    (show FVec Ideal S1x128x512 .bf16 from ((cfg0.win 1).blk t).view.read (Elt Ideal) X) (ix3 z r d)
      = X (ix3 (bat t) (tok (row t) r) d) := by
  blk_simp [idx t]
  blk_ext [idx t, bat, row, tok]

theorem read2 (X : FVec Ideal S2x16640x512 .bf16) (t : Fin cfg0.N) (z : Fin 1) (r : Fin 128) (d : Fin 512) :
    (show FVec Ideal S1x128x512 .bf16 from ((cfg0.win 2).blk t).view.read (Elt Ideal) X) (ix3 z r d)
      = X (ix3 (bat t) (prevTok (row t) r) d) := by
  blk_simp [idx t]
  blk_ext [idx t, bat, row, prevTok]

theorem read3 (X : FVec Ideal S2x16640x512 .bf16) (t : Fin cfg0.N) (z : Fin 1) (r : Fin 128) (d : Fin 512) :
    (show FVec Ideal S1x128x512 .bf16 from ((cfg0.win 3).blk t).view.read (Elt Ideal) X) (ix3 z r d)
      = X (ix3 (bat t) (curTok (row t) r) d) := by
  blk_simp [idx t]
  blk_ext [idx t, bat, row, curTok]

theorem read4 (X : FVec Ideal S2x16640x512 .bf16) (t : Fin cfg0.N) (z : Fin 1) (r : Fin 128) (d : Fin 512) :
    (show FVec Ideal S1x128x512 .bf16 from ((cfg0.win 4).blk t).view.read (Elt Ideal) X) (ix3 z r d)
      = X (ix3 (bat t) (nextTok (row t) r) d) := by
  blk_simp [idx t]
  blk_ext [idx t, bat, row, nextTok]

theorem read5 (X : FVec Ideal S2x16640x512 .bf16) (t : Fin cfg0.N) (z : Fin 1) (r : Fin 256) (d : Fin 512) :
    (show FVec Ideal S1x256x512 .bf16 from ((cfg0.win 5).blk t).view.read (Elt Ideal) X) (ix3 z r d)
      = X (ix3 (bat t) (ctxTok r) d) := by
  blk_simp [idx t]
  blk_ext [idx t, bat, ctxTok]

theorem read6 (X : FVec Ideal S2x16640x512 .bf16) (t : Fin cfg0.N) (z : Fin 1) (r : Fin 128) (d : Fin 512) :
    (show FVec Ideal S1x128x512 .bf16 from ((cfg0.win 6).blk t).view.read (Elt Ideal) X) (ix3 z r d)
      = X (ix3 (bat t) (prevTok (row t) r) d) := by
  blk_simp [idx t]
  blk_ext [idx t, bat, row, prevTok]

theorem read7 (X : FVec Ideal S2x16640x512 .bf16) (t : Fin cfg0.N) (z : Fin 1) (r : Fin 128) (d : Fin 512) :
    (show FVec Ideal S1x128x512 .bf16 from ((cfg0.win 7).blk t).view.read (Elt Ideal) X) (ix3 z r d)
      = X (ix3 (bat t) (curTok (row t) r) d) := by
  blk_simp [idx t]
  blk_ext [idx t, bat, row, curTok]

theorem read8 (X : FVec Ideal S2x16640x512 .bf16) (t : Fin cfg0.N) (z : Fin 1) (r : Fin 128) (d : Fin 512) :
    (show FVec Ideal S1x128x512 .bf16 from ((cfg0.win 8).blk t).view.read (Elt Ideal) X) (ix3 z r d)
      = X (ix3 (bat t) (nextTok (row t) r) d) := by
  blk_simp [idx t]
  blk_ext [idx t, bat, row, nextTok]

theorem read9 (X : FVec Ideal S2x16640x512 .bf16) (t : Fin cfg0.N) (z : Fin 1) (r : Fin 256) (d : Fin 512) :
    (show FVec Ideal S1x256x512 .bf16 from ((cfg0.win 9).blk t).view.read (Elt Ideal) X) (ix3 z r d)
      = X (ix3 (bat t) (ctxTok r) d) := by
  blk_simp [idx t]
  blk_ext [idx t, bat, ctxTok]

theorem iblk0 (c : Dev nD) (t : Fin cfg0.N) (h : Fin 8) : iblk m c 0 t (ix1 h) = V m c main_arg6 (ix1 h) :=
  read0 (V m c main_arg6) t h

theorem iblk1 (c : Dev nD) (t : Fin cfg0.N) (z : Fin 1) (r : Fin 128) (d : Fin 512) :
    iblk m c 1 t (ix3 z r d) = V m c main_v4 (ix3 (bat t) (tok (row t) r) d) := read1 (V m c main_v4) t z r d

theorem iblk2 (c : Dev nD) (t : Fin cfg0.N) (z : Fin 1) (r : Fin 128) (d : Fin 512) :
    iblk m c 2 t (ix3 z r d) = V m c main_v12 (ix3 (bat t) (prevTok (row t) r) d) := read2 (V m c main_v12) t z r d

theorem iblk3 (c : Dev nD) (t : Fin cfg0.N) (z : Fin 1) (r : Fin 128) (d : Fin 512) :
    iblk m c 3 t (ix3 z r d) = V m c main_v12 (ix3 (bat t) (curTok (row t) r) d) := read3 (V m c main_v12) t z r d

theorem iblk4 (c : Dev nD) (t : Fin cfg0.N) (z : Fin 1) (r : Fin 128) (d : Fin 512) :
    iblk m c 4 t (ix3 z r d) = V m c main_v12 (ix3 (bat t) (nextTok (row t) r) d) := read4 (V m c main_v12) t z r d

theorem iblk5 (c : Dev nD) (t : Fin cfg0.N) (z : Fin 1) (r : Fin 256) (d : Fin 512) :
    iblk m c 5 t (ix3 z r d) = V m c main_v12 (ix3 (bat t) (ctxTok r) d) := read5 (V m c main_v12) t z r d

theorem iblk6 (c : Dev nD) (t : Fin cfg0.N) (z : Fin 1) (r : Fin 128) (d : Fin 512) :
    iblk m c 6 t (ix3 z r d) = V m c main_v20 (ix3 (bat t) (prevTok (row t) r) d) := read6 (V m c main_v20) t z r d

theorem iblk7 (c : Dev nD) (t : Fin cfg0.N) (z : Fin 1) (r : Fin 128) (d : Fin 512) :
    iblk m c 7 t (ix3 z r d) = V m c main_v20 (ix3 (bat t) (curTok (row t) r) d) := read7 (V m c main_v20) t z r d

theorem iblk8 (c : Dev nD) (t : Fin cfg0.N) (z : Fin 1) (r : Fin 128) (d : Fin 512) :
    iblk m c 8 t (ix3 z r d) = V m c main_v20 (ix3 (bat t) (nextTok (row t) r) d) := read8 (V m c main_v20) t z r d

theorem iblk9 (c : Dev nD) (t : Fin cfg0.N) (z : Fin 1) (r : Fin 256) (d : Fin 512) :
    iblk m c 9 t (ix3 z r d) = V m c main_v20 (ix3 (bat t) (ctxTok r) d) := read9 (V m c main_v20) t z r d

/-- One lane of one head at one row: `p` names the head's 128 query lanes, `u` its 128 key and value lanes. -/
def one (Q K W : FVec Ideal S2x16640x512 .bf16) (σ : EReal) (b : Fin 2) (i : Fin 130) (r : Fin 128) (p u : Fin 4)
    (l : Fin 128) : EReal :=
  lane (fun x => if r.val ≤ x.val ∧ 1 ≤ i.val ∧ i.val < 128 then
        ∑ d : Fin 128, Q (ix3 b (tok i r) (col p d)) * K (ix3 b (prevTok i x) (col u d)) else ⊥)
    (fun x => if i.val < 128 then ∑ d : Fin 128, Q (ix3 b (tok i r) (col p d)) * K (ix3 b (curTok i x) (col u d)) else ⊥)
    (fun x => if x.val ≤ r.val ∧ i.val < 127 then
        ∑ d : Fin 128, Q (ix3 b (tok i r) (col p d)) * K (ix3 b (nextTok i x) (col u d)) else ⊥)
    (fun x => ∑ d : Fin 128, Q (ix3 b (tok i r) (col p d)) * K (ix3 b (ctxTok x) (col u d))) σ
    (fun x => W (ix3 b (prevTok i x) (col u l))) (fun x => W (ix3 b (curTok i x) (col u l)))
    (fun x => W (ix3 b (nextTok i x) (col u l))) (fun x => W (ix3 b (ctxTok x) (col u l)))

/-- The key and value lanes of the `e`-th head of the pair `p`. -/
def side (p : Fin 4) (e : Fin 2) : Fin 4 := ⟨p.val / 2 * 2 + e.val, by omega⟩
/-- The `e`-th head of the pair `p`. -/
def headOf (p : Fin 4) (e : Fin 2) : Fin 8 := ⟨p.val * 2 + e.val, by omega⟩

/-- One lane of a pair of heads: the sum of the two. -/
def both (Q K W : FVec Ideal S2x16640x512 .bf16) (S : FVec Ideal S8 .f32) (b : Fin 2) (i : Fin 130) (r : Fin 128)
    (p : Fin 4) (l : Fin 128) : EReal :=
  one Q K W (S (ix1 (headOf p 0))) b i r p (side p 0) l + one Q K W (S (ix1 (headOf p 1))) b i r p (side p 1) l

/-- The whole output array. -/
def OUT (Q K W : FVec Ideal S2x16640x512 .bf16) (S : FVec Ideal S8 .f32) : FVec Ideal S2x16640x512 .bf16 := fun j =>
  both Q K W S (j 0) ⟨(j 1 : ℕ) / 128, by have := (j 1).isLt; change (j 1 : ℕ) < 16640 at this; omega⟩
    ⟨(j 1 : ℕ) % 128, by omega⟩
    ⟨(j 2 : ℕ) / 128, by have := (j 2).isLt; change (j 2 : ℕ) < 512 at this; omega⟩ ⟨(j 2 : ℕ) % 128, by omega⟩

theorem OUT_at (Q K W S) (b : Fin 2) (i : Fin 130) (r : Fin 128) (p : Fin 4) (l : Fin 128) (j : S2x16640x512.Idx)
    (h0 : (j 0 : ℕ) = b) (h1 : (j 1 : ℕ) = i.val * 128 + r.val) (h2 : (j 2 : ℕ) = p.val * 128 + l.val) :
    OUT Q K W S j = both Q K W S b i r p l := by
  unfold OUT
  congr 1 <;> apply Fin.ext <;> simp only [] <;> omega

theorem first_col (x : Fin 128) (h : x.val < 512) : (⟨x.val, h⟩ : Fin 512) = col 0 x := Fin.ext (by simp [col])

theorem coords_one (t : Fin cfg0.N) : (grid0.coords t 1).val = (row t).val := coord t

set_option maxHeartbeats 2000000 in
/-- The call's output array after the run. -/
theorem final (c : Dev nD) :
    (dats m 0 c).arrAt 10 cfg0.N = OUT (V m c main_v4) (V m c main_v12) (V m c main_v20) (V m c main_arg6) := by
  refine (dats m 0 c).arrAt_eq_of_covers 10 _ (by decide +kernel) fun t hf y => ?_
  blk_simp
  rw [after0_10]; unfold Gen.outsAt0; frame_out
  canon_tiles x h
  case piece0 =>
    open_payloads
    refine Eq.trans (b := pair (head (grid0.coords t) _ _ _ _ _ _ _ _ _ _) (head (grid0.coords t) _ _ _ _ _ _ _ _ _ _) x) rfl ?_
    idx_vars x
    rw [OUT_at (V m c main_v4) (V m c main_v12) (V m c main_v20) (V m c main_arg6) (bat t) (row t) x1 3 x2]
    · rw [pair_at, head_at, head_at]
      pointwise [h0, h1, h2]
      simp only [coords_one, iblk0, iblk1, iblk2, iblk3, iblk4, iblk5, iblk6, iblk7, iblk8, iblk9]
      rfl
    all_goals blk_simp [idx t, bat, row]
    all_goals simp only [show ((3 : Fin 4) : ℕ) = 3 from rfl, show ((2 : Fin 4) : ℕ) = 2 from rfl, show ((1 : Fin 4) : ℕ) = 1 from rfl, show ((0 : Fin 4) : ℕ) = 0 from rfl]
    all_goals omega
  case piece1 =>
    open_payloads
    refine Eq.trans (b := pair (head (grid0.coords t) _ _ _ _ _ _ _ _ _ _) (head (grid0.coords t) _ _ _ _ _ _ _ _ _ _) x) rfl ?_
    idx_vars x
    rw [OUT_at (V m c main_v4) (V m c main_v12) (V m c main_v20) (V m c main_arg6) (bat t) (row t) x1 2 x2]
    · rw [pair_at, head_at, head_at]
      pointwise [h0, h1, h2]
      simp only [coords_one, iblk0, iblk1, iblk2, iblk3, iblk4, iblk5, iblk6, iblk7, iblk8, iblk9]
      rfl
    all_goals blk_simp [idx t, bat, row]
    all_goals simp only [show ((3 : Fin 4) : ℕ) = 3 from rfl, show ((2 : Fin 4) : ℕ) = 2 from rfl, show ((1 : Fin 4) : ℕ) = 1 from rfl, show ((0 : Fin 4) : ℕ) = 0 from rfl]
    all_goals omega
  case piece2 =>
    open_payloads
    refine Eq.trans (b := pair (head (grid0.coords t) _ _ _ _ _ _ _ _ _ _) (head (grid0.coords t) _ _ _ _ _ _ _ _ _ _) x) rfl ?_
    idx_vars x
    rw [OUT_at (V m c main_v4) (V m c main_v12) (V m c main_v20) (V m c main_arg6) (bat t) (row t) x1 1 x2]
    · rw [pair_at, head_at, head_at]
      pointwise [h0, h1, h2]
      simp only [coords_one, iblk0, iblk1, iblk2, iblk3, iblk4, iblk5, iblk6, iblk7, iblk8, iblk9, first_col]
      rfl
    all_goals blk_simp [idx t, bat, row]
    all_goals simp only [show ((3 : Fin 4) : ℕ) = 3 from rfl, show ((2 : Fin 4) : ℕ) = 2 from rfl, show ((1 : Fin 4) : ℕ) = 1 from rfl, show ((0 : Fin 4) : ℕ) = 0 from rfl]
    all_goals omega
  case piece3 =>
    open_payloads
    refine Eq.trans (b := pair (head (grid0.coords t) _ _ _ _ _ _ _ _ _ _) (head (grid0.coords t) _ _ _ _ _ _ _ _ _ _) x) rfl ?_
    idx_vars x
    rw [OUT_at (V m c main_v4) (V m c main_v12) (V m c main_v20) (V m c main_arg6) (bat t) (row t) x1 0 x2]
    · rw [pair_at, head_at, head_at]
      pointwise [h0, h1, h2]
      simp only [coords_one, iblk0, iblk1, iblk2, iblk3, iblk4, iblk5, iblk6, iblk7, iblk8, iblk9, first_col]
      rfl
    all_goals blk_simp [idx t, bat, row]
    all_goals simp only [show ((3 : Fin 4) : ℕ) = 3 from rfl, show ((2 : Fin 4) : ℕ) = 2 from rfl, show ((1 : Fin 4) : ℕ) = 1 from rfl, show ((0 : Fin 4) : ℕ) = 0 from rfl]
    all_goals omega

end Cert.KernelIdeal.Value
-- ==== Proof.Host.lean ====
module
public import proofs.«01_k».proof.Proof.Blocks
public import proofs.«01_k».proof.Proof.Gen.KernelIdeal.Value
public import Idealize.ShloMosaic.Lib.Pointwise.Index
import Idealize.ShloMosaic.Lib.Pointwise
import Idealize.ShloMosaic.Lib.Claim
public import Idealize.ShloMosaic.Lib.StableHlo.RunRead
import Idealize.ShloMosaic.Lib.Pipeline.ValueKit
@[expose] public section
set_option maxRecDepth 16384
noncomputable section
namespace Cert.KernelIdeal.Value
open Cert.KernelIdeal Cert.KernelIdeal.Gen
open Idealize.ShloMosaic Idealize.ShloMosaic.TcCoe Idealize.SL.Sem

variable (m : (ℓ : Loc nD τ sig) → Buf (Elt Ideal) ℓ)

/-- The queries of all tokens. -/
def heads (X : FVec Ideal S2x16384x8x64 .f32) (Y : FVec Ideal S2x256x8x64 .f32) : FVec Ideal S2x16640x8x64 .f32 :=
  concatenate S2x16640x8x64 1 [⟨S2x16384x8x64, X⟩, ⟨S2x256x8x64, Y⟩] concatenates_S2x16384x8x64_S2x256x8x64_S2x16640x8x64_d1

/-- A token's queries as one row of 512 lanes. -/
def flat (T : FVec Ideal S2x16640x8x64 .f32) : FVec Ideal S2x16640x512 .f32 :=
  shapeCast S2x16640x512 T shapeCasts_S2x16640x8x64_S2x16640x512

/-- Scaled by one eighth. -/
def eighth (T : FVec Ideal S2x16640x512 .f32) : FVec Ideal S2x16640x512 .bf16 :=
  truncf .bf16 (mulf T (broadcastInDim S2x16640x512 ![] bcast_S_S2x16640x512 (constant S_ .f32 0x3E000000#32))) bitsLt_bf16_f32

/-- The queries as the kernel receives them. -/
def quer (X : FVec Ideal S2x16384x8x64 .f32) (Y : FVec Ideal S2x256x8x64 .f32) : FVec Ideal S2x16640x512 .bf16 :=
  eighth (flat (heads X Y))

theorem heads_lat (X : FVec Ideal S2x16384x8x64 .f32) (Y : FVec Ideal S2x256x8x64 .f32) (b : Fin 2) (n : Fin 16640) (p : Fin 8)
    (d : Fin 64) (k : Fin 16384) (hk : n.val = k.val) : heads X Y (ix4 b n p d) = X (ix4 b k p d) := by
  have hn : n.val < 16384 := by omega
  have h1 : (⟨n.val, hn⟩ : Fin 16384) = k := Fin.ext hk
  pointwise [heads]
  rw [dif_pos hn, h1]
theorem heads_ctx (X : FVec Ideal S2x16384x8x64 .f32) (Y : FVec Ideal S2x256x8x64 .f32) (b : Fin 2) (n : Fin 16640) (p : Fin 8)
    (d : Fin 64) (k : Fin 256) (hk : n.val = 16384 + k.val) : heads X Y (ix4 b n p d) = Y (ix4 b k p d) := by
  have hn : ¬ n.val < 16384 := by omega
  have h1 : (⟨n.val - 16384, by omega⟩ : Fin 256) = k := Fin.ext (by simp only; omega)
  pointwise [heads]
  rw [dif_neg hn, h1]
theorem flat_at (X : FVec Ideal S2x16640x8x64 .f32) (b : Fin 2) (n : Fin 16640) (j : Fin 512) (p : Fin 8) (d : Fin 64)
    (hj : j.val = p.val * 64 + d.val) : flat X (ix3 b n j) = X (ix4 b n p d) := by
  have h2 : (⟨j.val / 64, by omega⟩ : Fin 8) = p := Fin.ext (by simp only; omega)
  have h3 : (⟨j.val % 64, by omega⟩ : Fin 64) = d := Fin.ext (by simp only; omega)
  pointwise [flat]
  rw [h2, h3]
theorem eighth_at (T : FVec Ideal S2x16640x512 .f32) (i : S2x16640x512.Idx) :
    eighth T i = (show EReal from T i) * Ideal.ofBits .f32 0x3E000000#32 := rfl

theorem quer_lat (X : FVec Ideal S2x16384x8x64 .f32) (Y : FVec Ideal S2x256x8x64 .f32) (b : Fin 2) (n : Fin 16640) (j : Fin 512)
    (k : Fin 16384) (p : Fin 8) (d : Fin 64) (hk : n.val = k.val) (hj : j.val = p.val * 64 + d.val) :
    quer X Y (ix3 b n j) = (show EReal from X (ix4 b k p d)) * Ideal.ofBits .f32 0x3E000000#32 := by
  rw [quer, eighth_at, flat_at _ b n j p d hj, heads_lat X Y b n p d k hk]

theorem quer_ctx (X : FVec Ideal S2x16384x8x64 .f32) (Y : FVec Ideal S2x256x8x64 .f32) (b : Fin 2) (n : Fin 16640) (j : Fin 512)
    (k : Fin 256) (p : Fin 8) (d : Fin 64) (hk : n.val = 16384 + k.val) (hj : j.val = p.val * 64 + d.val) :
    quer X Y (ix3 b n j) = (show EReal from Y (ix4 b k p d)) * Ideal.ofBits .f32 0x3E000000#32 := by
  rw [quer, eighth_at, flat_at _ b n j p d hj, heads_ctx X Y b n p d k hk]

/-- One group's keys (or values), over all tokens. -/
def group (X : FVec Ideal S2x16384x2x64 .f32) (Y : FVec Ideal S2x256x2x64 .f32) : FVec Ideal S2x16640x2x64 .f32 :=
  concatenate S2x16640x2x64 1 [⟨S2x16384x2x64, X⟩, ⟨S2x256x2x64, Y⟩] concatenates_S2x16384x2x64_S2x256x2x64_S2x16640x2x64_d1

def group0 (T : FVec Ideal S2x16640x2x64 .f32) : FVec Ideal S2x16640x64 .f32 :=
  shapeCast S2x16640x64 (extractStridedSlice S2x16640x1x64 ![0, 0, 0, 0] T slices_S2x16640x2x64_S2x16640x1x64_0_0_0_0)
    shapeCasts_S2x16640x1x64_S2x16640x64
def group1 (T : FVec Ideal S2x16640x2x64 .f32) : FVec Ideal S2x16640x64 .f32 :=
  shapeCast S2x16640x64 (extractStridedSlice S2x16640x1x64 ![0, 0, 1, 0] T slices_S2x16640x2x64_S2x16640x1x64_0_0_1_0)
    shapeCasts_S2x16640x1x64_S2x16640x64
def blank : FVec Ideal S2x16640x64 .f32 :=
  broadcastInDim S2x16640x64 ![] bcast_S_S2x16640x64 (constant S_ .f32 0x00000000#32)

/-- Eight arrays of 64 lanes side by side. -/
def beside (a b c d e f g h : FVec Ideal S2x16640x64 .f32) : FVec Ideal S2x16640x512 .bf16 :=
  truncf .bf16 (concatenate S2x16640x512 2 [⟨S2x16640x64, a⟩, ⟨S2x16640x64, b⟩, ⟨S2x16640x64, c⟩, ⟨S2x16640x64, d⟩, ⟨S2x16640x64, e⟩, ⟨S2x16640x64, f⟩, ⟨S2x16640x64, g⟩, ⟨S2x16640x64, h⟩] concatenates_S2x16640x64_S2x16640x64_S2x16640x64_S2x16640x64_S2x16640x64_S2x16640x64_S2x16640x64_S2x16640x64_S2x16640x512_d2) bitsLt_bf16_f32

/-- The two halves of the lanes with one group's keys, and zeros elsewhere. -/
def wide (X : FVec Ideal S2x16384x2x64 .f32) (Y : FVec Ideal S2x256x2x64 .f32) : FVec Ideal S2x16640x512 .bf16 :=
  beside (group0 (group X Y)) blank blank (group0 (group X Y)) (group1 (group X Y)) blank blank (group1 (group X Y))

/-- Eight arrays of 64 lanes side by side, read in part `s`. -/
theorem beside_at (a b c d e f g h : FVec Ideal S2x16640x64 .f32) (z : Fin 2) (n : Fin 16640) (s : Fin 8) (l : Fin 64)
    (j : Fin 512) (hj : j.val = s.val * 64 + l.val) :
    beside a b c d e f g h (ix3 z n j) = (![a, b, c, d, e, f, g, h] s) (ix3 z n l) := by
  have k : ∀ x (hx : x < 64), x = l.val → (⟨x, hx⟩ : Fin 64) = l := fun x hx e => Fin.ext e
  have hl := l.isLt
  pointwise [beside]
  match s, hj with
  | 0, hj =>
    replace hj : j.val = 0 * 64 + l.val := hj
    rw [dif_pos (by omega), k _ _ (by omega)]
    rfl
  | 1, hj =>
    replace hj : j.val = 1 * 64 + l.val := hj
    rw [dif_neg (by omega), dif_pos (by omega), k _ _ (by omega)]
    rfl
  | 2, hj =>
    replace hj : j.val = 2 * 64 + l.val := hj
    rw [dif_neg (by omega), dif_neg (by omega), dif_pos (by omega), k _ _ (by omega)]
    rfl
  | 3, hj =>
    replace hj : j.val = 3 * 64 + l.val := hj
    rw [dif_neg (by omega), dif_neg (by omega), dif_neg (by omega), dif_pos (by omega), k _ _ (by omega)]
    rfl
  | 4, hj =>
    replace hj : j.val = 4 * 64 + l.val := hj
    rw [dif_neg (by omega), dif_neg (by omega), dif_neg (by omega), dif_neg (by omega), dif_pos (by omega), k _ _ (by omega)]
    rfl
  | 5, hj =>
    replace hj : j.val = 5 * 64 + l.val := hj
    rw [dif_neg (by omega), dif_neg (by omega), dif_neg (by omega), dif_neg (by omega), dif_neg (by omega), dif_pos (by omega), k _ _ (by omega)]
    rfl
  | 6, hj =>
    replace hj : j.val = 6 * 64 + l.val := hj
    rw [dif_neg (by omega), dif_neg (by omega), dif_neg (by omega), dif_neg (by omega), dif_neg (by omega), dif_neg (by omega), dif_pos (by omega), k _ _ (by omega)]
    rfl
  | 7, hj =>
    replace hj : j.val = 7 * 64 + l.val := hj
    rw [dif_neg (by omega), dif_neg (by omega), dif_neg (by omega), dif_neg (by omega), dif_neg (by omega), dif_neg (by omega), dif_neg (by omega), k _ _ (by omega)]
    rfl

theorem group_lat (X : FVec Ideal S2x16384x2x64 .f32) (Y : FVec Ideal S2x256x2x64 .f32) (b : Fin 2) (n : Fin 16640)
    (k : Fin 16384) (g : Fin 2) (d : Fin 64) (hk : n.val = k.val) : group X Y (ix4 b n g d) = X (ix4 b k g d) := by
  have hn : n.val < 16384 := by omega
  have h1 : (⟨n.val, hn⟩ : Fin 16384) = k := Fin.ext hk
  pointwise [group]
  rw [dif_pos hn, h1]
theorem group_ctx (X : FVec Ideal S2x16384x2x64 .f32) (Y : FVec Ideal S2x256x2x64 .f32) (b : Fin 2) (n : Fin 16640)
    (k : Fin 256) (g : Fin 2) (d : Fin 64) (hk : n.val = 16384 + k.val) : group X Y (ix4 b n g d) = Y (ix4 b k g d) := by
  have hn : ¬ n.val < 16384 := by omega
  have h1 : (⟨n.val - 16384, by omega⟩ : Fin 256) = k := Fin.ext (by simp only; omega)
  pointwise [group]
  rw [dif_neg hn, h1]

theorem group0_at (T : FVec Ideal S2x16640x2x64 .f32) (b : Fin 2) (n : Fin 16640) (d : Fin 64) :
    group0 T (ix3 b n d) = T (ix4 b n 0 d) := by
  pointwise [group0]
theorem group1_at (T : FVec Ideal S2x16640x2x64 .f32) (b : Fin 2) (n : Fin 16640) (d : Fin 64) :
    group1 T (ix3 b n d) = T (ix4 b n 1 d) := by
  pointwise [group1]
theorem blank_at (b : Fin 2) (n : Fin 16640) (d : Fin 64) : blank (ix3 b n d) = 0 := by
  pointwise [blank]

/-- Where the eight pieces of the wide keys lie: the group's own where the head's half is the lane's, blank elsewhere. -/
theorem beside_own (A B O : FVec Ideal S2x16640x64 .bf16) (z : Fin 2) (n : Fin 16640) (g e h : Fin 2)
    (l : Fin 64) (j : Fin 512) (hj : j.val = g.val * 256 + e.val * 128 + h.val * 64 + l.val) :
    beside A O O A B O O B (ix3 z n j) = (if h = e then (if g = 0 then A else B) else O) (ix3 z n l) := by
  have hl := l.isLt
  rcases (by omega : g = 0 ∨ g = 1) with rfl | rfl <;> rcases (by omega : e = 0 ∨ e = 1) with rfl | rfl <;>
    rcases (by omega : h = 0 ∨ h = 1) with rfl | rfl
  · exact beside_at A O O A B O O B z n 0 l j (by show j.val = 0 * 64 + l.val; omega)
  · exact beside_at A O O A B O O B z n 1 l j (by show j.val = 1 * 64 + l.val; omega)
  · exact beside_at A O O A B O O B z n 2 l j (by show j.val = 2 * 64 + l.val; omega)
  · exact beside_at A O O A B O O B z n 3 l j (by show j.val = 3 * 64 + l.val; omega)
  · exact beside_at A O O A B O O B z n 4 l j (by show j.val = 4 * 64 + l.val; omega)
  · exact beside_at A O O A B O O B z n 5 l j (by show j.val = 5 * 64 + l.val; omega)
  · exact beside_at A O O A B O O B z n 6 l j (by show j.val = 6 * 64 + l.val; omega)
  · exact beside_at A O O A B O O B z n 7 l j (by show j.val = 7 * 64 + l.val; omega)

/-- One head's key (or value) lanes: the group's own where the lane belongs to the head's half, zero elsewhere. -/
theorem wide_at (X : FVec Ideal S2x16384x2x64 .f32) (Y : FVec Ideal S2x256x2x64 .f32) (z : Fin 2) (n : Fin 16640) (g e h : Fin 2)
    (l : Fin 64) (j : Fin 512) (hj : j.val = g.val * 256 + e.val * 128 + h.val * 64 + l.val) :
    wide X Y (ix3 z n j) = if h = e then group X Y (ix4 z n g l) else 0 := by
  rw [wide, beside_own _ _ _ z n g e h l j hj]
  by_cases he : h = e
  · rw [if_pos he, if_pos he]
    by_cases hg : g = 0
    · rw [if_pos hg, group0_at, hg]
    · rw [if_neg hg, group1_at, show g = 1 by omega]
  · rw [if_neg he, if_neg he, blank_at]

theorem wide_lat (X : FVec Ideal S2x16384x2x64 .f32) (Y : FVec Ideal S2x256x2x64 .f32) (z : Fin 2) (n : Fin 16640) (g e h : Fin 2)
    (l : Fin 64) (j : Fin 512) (k : Fin 16384) (hk : n.val = k.val)
    (hj : j.val = g.val * 256 + e.val * 128 + h.val * 64 + l.val) :
    wide X Y (ix3 z n j) = if h = e then X (ix4 z k g l) else 0 := by
  rw [wide_at X Y z n g e h l j hj, group_lat X Y z n k g l hk]

theorem wide_ctx (X : FVec Ideal S2x16384x2x64 .f32) (Y : FVec Ideal S2x256x2x64 .f32) (z : Fin 2) (n : Fin 16640) (g e h : Fin 2)
    (l : Fin 64) (j : Fin 512) (k : Fin 256) (hk : n.val = 16384 + k.val)
    (hj : j.val = g.val * 256 + e.val * 128 + h.val * 64 + l.val) :
    wide X Y (ix3 z n j) = if h = e then Y (ix4 z k g l) else 0 := by
  rw [wide_at X Y z n g e h l j hj, group_ctx X Y z n k g l hk]

set_option maxHeartbeats 4000000 in
theorem q_eq (c : Dev nD) : V m c main_v4
     = quer (m ((c : Thread nD τ).loc main_arg0)) (m ((c : Thread nD τ).loc main_arg3)) := by
  unfold_abbrev_sides
  after_reads_simp
  rfl

/-- The operands of the eight-part concatenation, as the line before it leaves them. -/
theorem k_first (c : Dev nD) : StableHlo.upto (hostOps0 (F := Ideal)) (fun b => m (c, b)) 13 (Proc.devRef .tc main_v8)
    = group0 (group (m ((c : Thread nD τ).loc main_arg1)) (m ((c : Thread nD τ).loc main_arg4))) := by
  after_reads_simp
  rfl
theorem k_second (c : Dev nD) : StableHlo.upto (hostOps0 (F := Ideal)) (fun b => m (c, b)) 13 (Proc.devRef .tc main_v10)
    = group1 (group (m ((c : Thread nD τ).loc main_arg1)) (m ((c : Thread nD τ).loc main_arg4))) := by
  after_reads_simp
  rfl
theorem k_blank (c : Dev nD) : StableHlo.upto (hostOps0 (F := Ideal)) (fun b => m (c, b)) 13 (Proc.devRef .tc main_v6)
    = blank := by
  after_reads_simp
  rfl

set_option maxHeartbeats 4000000 in
theorem k_eq (c : Dev nD) : V m c main_v12
     = wide (m ((c : Thread nD τ).loc main_arg1)) (m ((c : Thread nD τ).loc main_arg4)) := by
  unfold_abbrev_sides
  after_reads_simp
  change beside (StableHlo.upto (hostOps0 (F := Ideal)) (fun b => m (c, b)) 13 (Proc.devRef .tc main_v8))
    (StableHlo.upto (hostOps0 (F := Ideal)) (fun b => m (c, b)) 13 (Proc.devRef .tc main_v6))
    (StableHlo.upto (hostOps0 (F := Ideal)) (fun b => m (c, b)) 13 (Proc.devRef .tc main_v6))
    (StableHlo.upto (hostOps0 (F := Ideal)) (fun b => m (c, b)) 13 (Proc.devRef .tc main_v8))
    (StableHlo.upto (hostOps0 (F := Ideal)) (fun b => m (c, b)) 13 (Proc.devRef .tc main_v10))
    (StableHlo.upto (hostOps0 (F := Ideal)) (fun b => m (c, b)) 13 (Proc.devRef .tc main_v6))
    (StableHlo.upto (hostOps0 (F := Ideal)) (fun b => m (c, b)) 13 (Proc.devRef .tc main_v6))
    (StableHlo.upto (hostOps0 (F := Ideal)) (fun b => m (c, b)) 13 (Proc.devRef .tc main_v10)) = _
  rw [k_first, k_second, k_blank]
  rfl

/-- The operands of the eight-part concatenation, as the line before it leaves them. -/
theorem v_first (c : Dev nD) : StableHlo.upto (hostOps0 (F := Ideal)) (fun b => m (c, b)) 22 (Proc.devRef .tc main_v16)
    = group0 (group (m ((c : Thread nD τ).loc main_arg2)) (m ((c : Thread nD τ).loc main_arg5))) := by
  after_reads_simp
  rfl
theorem v_second (c : Dev nD) : StableHlo.upto (hostOps0 (F := Ideal)) (fun b => m (c, b)) 22 (Proc.devRef .tc main_v18)
    = group1 (group (m ((c : Thread nD τ).loc main_arg2)) (m ((c : Thread nD τ).loc main_arg5))) := by
  after_reads_simp
  rfl
theorem v_blank (c : Dev nD) : StableHlo.upto (hostOps0 (F := Ideal)) (fun b => m (c, b)) 22 (Proc.devRef .tc main_v14)
    = blank := by
  after_reads_simp
  rfl

set_option maxHeartbeats 4000000 in
theorem v_eq (c : Dev nD) : V m c main_v20
     = wide (m ((c : Thread nD τ).loc main_arg2)) (m ((c : Thread nD τ).loc main_arg5)) := by
  unfold_abbrev_sides
  after_reads_simp
  change beside (StableHlo.upto (hostOps0 (F := Ideal)) (fun b => m (c, b)) 22 (Proc.devRef .tc main_v16))
    (StableHlo.upto (hostOps0 (F := Ideal)) (fun b => m (c, b)) 22 (Proc.devRef .tc main_v14))
    (StableHlo.upto (hostOps0 (F := Ideal)) (fun b => m (c, b)) 22 (Proc.devRef .tc main_v14))
    (StableHlo.upto (hostOps0 (F := Ideal)) (fun b => m (c, b)) 22 (Proc.devRef .tc main_v16))
    (StableHlo.upto (hostOps0 (F := Ideal)) (fun b => m (c, b)) 22 (Proc.devRef .tc main_v18))
    (StableHlo.upto (hostOps0 (F := Ideal)) (fun b => m (c, b)) 22 (Proc.devRef .tc main_v14))
    (StableHlo.upto (hostOps0 (F := Ideal)) (fun b => m (c, b)) 22 (Proc.devRef .tc main_v14))
    (StableHlo.upto (hostOps0 (F := Ideal)) (fun b => m (c, b)) 22 (Proc.devRef .tc main_v18)) = _
  rw [v_first, v_second, v_blank]
  rfl

end Cert.KernelIdeal.Value
-- ==== Proof.Equal.lean ====
module
public import proofs.«01_k».proof.Proof.RefRow
public import proofs.«01_k».proof.Proof.Host
public import proofs.«01_k».proof.Proof.Maths
import Idealize.ShloMosaic.Lib.Pointwise
@[expose] public section
set_option maxRecDepth 16384
noncomputable section
namespace Cert.KernelIdeal.Value
open Cert.KernelIdeal Cert.KernelIdeal.Gen
open Idealize.ShloMosaic Idealize.ShloMosaic.TcCoe Idealize.SL.Sem
open Cert.ReferenceIdeal.Value (scale scale_real hd LAT CTX REF LAT_at CTX_at logit_at logits logits_last rawC splitC)

theorem lane_congr {s1 s2 s3 v1 v2 v3 s1' s2' s3' v1' v2' v3' : Fin 128 → EReal} {sx vx sx' vx' : Fin 256 → EReal} {σ σ' : EReal}
    (h1 : ∀ x, s1 x = s1' x) (h2 : ∀ x, s2 x = s2' x) (h3 : ∀ x, s3 x = s3' x) (hx : ∀ x, sx x = sx' x) (hσ : σ = σ')
    (w1 : ∀ x, v1 x = v1' x) (w2 : ∀ x, v2 x = v2' x) (w3 : ∀ x, v3 x = v3' x) (wx : ∀ x, vx x = vx' x) :
    lane s1 s2 s3 sx σ v1 v2 v3 vx = lane s1' s2' s3' sx' σ' v1' v2' v3' vx' := by
  obtain rfl : s1 = s1' := funext h1
  obtain rfl : s2 = s2' := funext h2
  obtain rfl : s3 = s3' := funext h3
  obtain rfl : sx = sx' := funext hx
  obtain rfl : v1 = v1' := funext w1
  obtain rfl : v2 = v2' := funext w2
  obtain rfl : v3 = v3' := funext w3
  obtain rfl : vx = vx' := funext wx
  rw [hσ]

/-- A sum over 128 lanes, the keys of which are zero but in the half `e`, is a sum over that half; the scale comes out. -/
theorem half_sum (F K : Fin 128 → EReal) (q : Fin 2 → Fin 64 → EReal) (k : Fin 64 → EReal) (e : Fin 2)
    (hF : ∀ (h : Fin 2) (d : Fin 64) (l : Fin 128), l.val = h.val * 64 + d.val → F l = q h d * scale)
    (hK : ∀ (h : Fin 2) (d : Fin 64) (l : Fin 128), l.val = h.val * 64 + d.val → K l = if h = e then k d else 0) :
    ∑ l, F l * K l = (∑ d, k d * q e d) * scale := by
  obtain ⟨c, hc, ec⟩ := scale_real
  have a : ∀ h : Fin 2, ∑ d : Fin 64, F ⟨h.val * 64 + d.val, by omega⟩ * K ⟨h.val * 64 + d.val, by omega⟩
      = if h = e then ∑ d, k d * q e d * scale else 0 := by
    intro h
    by_cases he : h = e
    · rw [if_pos he]
      refine Finset.sum_congr rfl fun d _ => ?_
      rw [hF h d _ rfl, hK h d _ rfl, if_pos he, he, mul_comm _ (k d), mul_assoc]
    · rw [if_neg he]
      refine Finset.sum_eq_zero fun d _ => ?_
      rw [hK h d _ rfl, if_neg he, mul_zero]
  rw [Fin.sum_univ_tiles 2 64 (by norm_num), Finset.sum_congr rfl fun h _ => a h, Finset.sum_ite_eq' Finset.univ e,
    if_pos (Finset.mem_univ e), ec, sum_mul_real _ _ _ hc]

variable (X : FVec Ideal S2x16384x8x64 .f32) (Xc : FVec Ideal S2x256x8x64 .f32)
  (K W : FVec Ideal S2x16384x2x64 .f32) (Kc Wc : FVec Ideal S2x256x2x64 .f32)

/-- The key group of a pair of heads. -/
def grp (p : Fin 4) : Fin 2 := ⟨p.val / 2, by omega⟩

/-- A latent query's score against a latent key, a latent query's against a context key, and a context query's against a
context key. -/
abbrev scL (b : Fin 2) (n k : Fin 16384) (p : Fin 4) (e : Fin 2) : EReal :=
  (∑ d : Fin 64, (K (ix4 b k (grp p) d) : EReal) * (X (ix4 b n (headOf p e) d) : EReal)) * scale
abbrev scX (b : Fin 2) (n : Fin 16384) (k : Fin 256) (p : Fin 4) (e : Fin 2) : EReal :=
  (∑ d : Fin 64, (Kc (ix4 b k (grp p) d) : EReal) * (X (ix4 b n (headOf p e) d) : EReal)) * scale
abbrev scC (b : Fin 2) (n k : Fin 256) (p : Fin 4) (e : Fin 2) : EReal :=
  (∑ d : Fin 64, (Kc (ix4 b k (grp p) d) : EReal) * (Xc (ix4 b n (headOf p e) d) : EReal)) * scale

theorem side_lane (p : Fin 4) (e h : Fin 2) (d : Fin 64) (l : Fin 128) (hl : l.val = h.val * 64 + d.val) :
    (col (side p e) l).val = (grp p).val * 256 + e.val * 128 + h.val * 64 + d.val := by
  simp only [col, side, grp]; omega
theorem head_lane (p : Fin 4) (h : Fin 2) (d : Fin 64) (l : Fin 128) (hl : l.val = h.val * 64 + d.val) :
    (col p l).val = (headOf p h).val * 64 + d.val := by
  simp only [col, headOf]; omega

theorem score_latent (b : Fin 2) (N M : Fin 16640) (n k : Fin 16384) (p : Fin 4) (e : Fin 2) (hn : N.val = n.val) (hk : M.val = k.val) :
    ∑ d : Fin 128, (quer X Xc (ix3 b N (col p d)) : EReal) * wide K Kc (ix3 b M (col (side p e) d)) = scL X K b n k p e :=
  half_sum _ _ (fun h d => X (ix4 b n (headOf p h) d)) (fun d => K (ix4 b k (grp p) d)) e
    (fun h d l hl => quer_lat X Xc b N _ n (headOf p h) d hn (head_lane p h d l hl))
    (fun h d l hl => wide_lat K Kc b M (grp p) e h d _ k hk (side_lane p e h d l hl))
theorem score_mixed (b : Fin 2) (N M : Fin 16640) (n : Fin 16384) (k : Fin 256) (p : Fin 4) (e : Fin 2) (hn : N.val = n.val)
    (hk : M.val = 16384 + k.val) :
    ∑ d : Fin 128, (quer X Xc (ix3 b N (col p d)) : EReal) * wide K Kc (ix3 b M (col (side p e) d)) = scX X Kc b n k p e :=
  half_sum _ _ (fun h d => X (ix4 b n (headOf p h) d)) (fun d => Kc (ix4 b k (grp p) d)) e
    (fun h d l hl => quer_lat X Xc b N _ n (headOf p h) d hn (head_lane p h d l hl))
    (fun h d l hl => wide_ctx K Kc b M (grp p) e h d _ k hk (side_lane p e h d l hl))
theorem score_context (b : Fin 2) (N M : Fin 16640) (n k : Fin 256) (p : Fin 4) (e : Fin 2) (hn : N.val = 16384 + n.val)
    (hk : M.val = 16384 + k.val) :
    ∑ d : Fin 128, (quer X Xc (ix3 b N (col p d)) : EReal) * wide K Kc (ix3 b M (col (side p e) d)) = scC Xc Kc b n k p e :=
  half_sum _ _ (fun h d => Xc (ix4 b n (headOf p h) d)) (fun d => Kc (ix4 b k (grp p) d)) e
    (fun h d l hl => quer_ctx X Xc b N _ n (headOf p h) d hn (head_lane p h d l hl))
    (fun h d l hl => wide_ctx K Kc b M (grp p) e h d _ k hk (side_lane p e h d l hl))

theorem real_score {q k : Fin 64 → EReal} (hq : ∀ d, IsReal (q d)) (hk : ∀ d, IsReal (k d)) :
    IsReal ((∑ d, k d * q d) * scale) := by
  obtain ⟨c, -, ec⟩ := scale_real
  exact (IsReal.sum _ _ fun d => (hk d).mul (hq d)).mul ⟨c, ec⟩

theorem ite_ne_top (p : Prop) [Decidable p] (a : EReal) (h : p → a ≠ ⊤) : (if p then a else ⊥) ≠ ⊤ := by
  by_cases hp : p
  · rw [if_pos hp]; exact h hp
  · rw [if_neg hp]; exact bot_ne_top

theorem ite_score (p w : Prop) [Decidable p] [Decidable w] (a a' : EReal) (h : p → w) (e : a = a') :
    (if p then a else ⊥) = if p then (if w then a' else ⊥) else ⊥ := by
  by_cases hp : p
  · rw [if_pos hp, if_pos hp, if_pos (h hp), e]
  · rw [if_neg hp, if_neg hp]

section Real
variable (hX : ∀ i, IsReal (X i)) (hXc : ∀ i, IsReal (Xc i)) (hK : ∀ i, IsReal (K i)) (hKc : ∀ i, IsReal (Kc i))
include hX hXc hK hKc

/-- At a latent query, the head whose lane it is. -/
theorem own_lat (σ : EReal) (hσ : σ ≠ ⊤) (b : Fin 2) (i : Fin 130) (r : Fin 128) (n : Fin 16384) (p : Fin 4) (e : Fin 2)
    (l : Fin 128) (d : Fin 64) (hi : i.val < 128) (hn : i.val * 128 + r.val = n.val) (hl : l.val = e.val * 64 + d.val) :
    one (quer X Xc) (wide K Kc) (wide W Wc) σ b i r p (side p e) l
      = attend (fun k => if k.val ≤ n.val + 128 ∧ n.val ≤ k.val + 128 then scL X K b n k p e else ⊥)
        (fun k => W (ix4 b k (grp p) d)) (fun x => scX X Kc b n x p e) (fun x => Wc (ix4 b x (grp p) d)) σ := by
  rw [← lane_lat (fun k => if k.val ≤ n.val + 128 ∧ n.val ≤ k.val + 128 then scL X K b n k p e else ⊥)
    (fun k => W (ix4 b k (grp p) d)) (fun x => scX X Kc b n x p e) (fun x => Wc (ix4 b x (grp p) d)) σ i r hi
    (fun k hk => if_neg (by omega))
    (fun k => ite_ne_top _ _ fun _ => (real_score (fun _ => hX _) (fun _ => hK _)).ne_top)
    (fun x => real_score (fun _ => hX _) (fun _ => hKc _)) hσ]
  refine lane_congr ?_ ?_ ?_ ?_ rfl ?_ ?_ ?_ ?_
  · exact fun x => ite_score _ _ _ _ (fun h => by simp only [prevKey]; omega)
      (score_latent X Xc K Kc b (tok i r) (prevTok i x) n (prevKey i x) p e hn rfl)
  · exact fun x => ite_score _ _ _ _ (fun h => by simp only [curKey]; omega)
      (score_latent X Xc K Kc b (tok i r) (curTok i x) n (curKey i x) p e hn rfl)
  · exact fun x => ite_score _ _ _ _ (fun h => by simp only [nextKey]; omega)
      (score_latent X Xc K Kc b (tok i r) (nextTok i x) n (nextKey i x) p e hn rfl)
  · exact fun x => score_mixed X Xc K Kc b (tok i r) (ctxTok x) n x p e hn rfl
  · exact fun x => (wide_lat W Wc b (prevTok i x) (grp p) e e d _ (prevKey i x) rfl (side_lane p e e d l hl)).trans (if_pos rfl)
  · exact fun x => (wide_lat W Wc b (curTok i x) (grp p) e e d _ (curKey i x) rfl (side_lane p e e d l hl)).trans (if_pos rfl)
  · exact fun x => (wide_lat W Wc b (nextTok i x) (grp p) e e d _ (nextKey i x) rfl (side_lane p e e d l hl)).trans (if_pos rfl)
  · exact fun x => (wide_ctx W Wc b (ctxTok x) (grp p) e e d _ x rfl (side_lane p e e d l hl)).trans (if_pos rfl)

/-- At a context query, the head whose lane it is. -/
theorem own_ctx (σ : EReal) (hσ : σ ≠ ⊤) (b : Fin 2) (i : Fin 130) (r : Fin 128) (n : Fin 256) (p : Fin 4) (e : Fin 2)
    (l : Fin 128) (d : Fin 64) (a : Fin 257 → EReal) (ha : ∀ k : Fin 256, a k.castSucc = scC Xc Kc b n k p e)
    (hlast : a (Fin.last 256) = σ)
    (hi : 128 ≤ i.val) (hn : i.val * 128 + r.val = 16384 + n.val) (hl : l.val = e.val * 64 + d.val) :
    one (quer X Xc) (wide K Kc) (wide W Wc) σ b i r p (side p e) l = attendCtx a (fun x => Wc (ix4 b x (grp p) d)) := by
  subst hlast
  rw [← lane_ctx (fun _ => ⊥) (fun _ => ⊥) (fun _ => ⊥) (fun x => wide W Wc (ix3 b (prevTok i x) (col (side p e) l)))
    (fun x => wide W Wc (ix3 b (curTok i x) (col (side p e) l))) (fun x => wide W Wc (ix3 b (nextTok i x) (col (side p e) l)))
    a _ (fun _ => rfl) (fun _ => rfl) (fun _ => rfl)
    (fun x => by rw [ha]; exact real_score (fun _ => hXc _) (fun _ => hKc _)) hσ]
  refine lane_congr ?_ ?_ ?_ ?_ rfl ?_ ?_ ?_ ?_
  · exact fun x => if_neg (by omega)
  · exact fun x => if_neg (by omega)
  · exact fun x => if_neg (by omega)
  · exact fun x => (score_context X Xc K Kc b (tok i r) (ctxTok x) n x p e hn rfl).trans (ha x).symm
  · exact fun x => rfl
  · exact fun x => rfl
  · exact fun x => rfl
  · exact fun x => (wide_ctx W Wc b (ctxTok x) (grp p) e e d _ x rfl (side_lane p e e d l hl)).trans (if_pos rfl)

/-- The other head of the pair leaves nothing in the lane. -/
theorem other (σ : EReal) (hσ : σ ≠ ⊤) (b : Fin 2) (i : Fin 130) (r : Fin 128) (p : Fin 4) (e h : Fin 2)
    (l : Fin 128) (d : Fin 64) (he : ¬ h = e) (hl : l.val = h.val * 64 + d.val) :
    one (quer X Xc) (wide K Kc) (wide W Wc) σ b i r p (side p e) l = 0 := by
  have hr := r.isLt
  refine lane_zero _ _ _ _ _ _ _ _ σ ?_ ?_ ?_ ?_ hσ ?_ ?_ ?_ ?_
  · refine fun x => ite_ne_top _ _ fun hh => ?_
    rw [score_latent X Xc K Kc b (tok i r) (prevTok i x) ⟨i.val * 128 + r.val, by omega⟩ (prevKey i x) p e rfl rfl]
    exact (real_score (fun _ => hX _) (fun _ => hK _)).ne_top
  · refine fun x => ite_ne_top _ _ fun hh => ?_
    rw [score_latent X Xc K Kc b (tok i r) (curTok i x) ⟨i.val * 128 + r.val, by omega⟩ (curKey i x) p e rfl rfl]
    exact (real_score (fun _ => hX _) (fun _ => hK _)).ne_top
  · refine fun x => ite_ne_top _ _ fun hh => ?_
    rw [score_latent X Xc K Kc b (tok i r) (nextTok i x) ⟨i.val * 128 + r.val, by omega⟩ (nextKey i x) p e rfl rfl]
    exact (real_score (fun _ => hX _) (fun _ => hK _)).ne_top
  · intro x
    by_cases hi : i.val < 128
    · rw [score_mixed X Xc K Kc b (tok i r) (ctxTok x) ⟨i.val * 128 + r.val, by omega⟩ x p e rfl rfl]
      exact real_score (fun _ => hX _) (fun _ => hKc _)
    · have hi' := i.isLt
      rw [score_context X Xc K Kc b (tok i r) (ctxTok x) ⟨i.val * 128 + r.val - 16384, by omega⟩ x p e
        (by simp only [tok]; omega) rfl]
      exact real_score (fun _ => hXc _) (fun _ => hKc _)
  · exact fun x => (wide_lat W Wc b (prevTok i x) (grp p) e h d _ (prevKey i x) rfl (side_lane p e h d l hl)).trans (if_neg he)
  · exact fun x => (wide_lat W Wc b (curTok i x) (grp p) e h d _ (curKey i x) rfl (side_lane p e h d l hl)).trans (if_neg he)
  · exact fun x => (wide_lat W Wc b (nextTok i x) (grp p) e h d _ (nextKey i x) rfl (side_lane p e h d l hl)).trans (if_neg he)
  · exact fun x => (wide_ctx W Wc b (ctxTok x) (grp p) e h d _ x rfl (side_lane p e h d l hl)).trans (if_neg he)

/-- A pair's two heads together are, in a lane, the head whose lane it is. -/
theorem both_own (S : FVec Ideal S8 .f32) (hS : ∀ i, S i ≠ ⊤) (b : Fin 2) (i : Fin 130) (r : Fin 128) (p : Fin 4) (e : Fin 2)
    (l : Fin 128) (d : Fin 64) (hl : l.val = e.val * 64 + d.val) :
    both (quer X Xc) (wide K Kc) (wide W Wc) S b i r p l
      = one (quer X Xc) (wide K Kc) (wide W Wc) (S (ix1 (headOf p e))) b i r p (side p e) l := by
  rcases (by omega : e = 0 ∨ e = 1) with rfl | rfl
  · rw [both, other X Xc K W Kc Wc hX hXc hK hKc _ (hS _) b i r p 1 0 l d (by decide) hl, add_zero]
  · rw [both, other X Xc K W Kc Wc hX hXc hK hKc _ (hS _) b i r p 0 1 l d (by decide) hl, zero_add]

/-- The kernel's output is the reference's. -/
theorem out_eq (S : FVec Ideal S8 .f32) (hS : ∀ i, S i ≠ ⊤) :
    OUT (quer X Xc) (wide K Kc) (wide W Wc) S = REF X K W Xc Kc Wc S := by
  funext j
  obtain ⟨b, N, c, rfl⟩ : ∃ (b : Fin 2) (N : Fin 16640) (c : Fin 512), j = ix3 b N c := ⟨j 0, j 1, j 2, eq_ix3 j⟩
  have hN := N.isLt
  have hc := c.isLt
  obtain ⟨i, hi⟩ : ∃ i : Fin 130, i.val = N.val / 128 := ⟨⟨N.val / 128, by omega⟩, rfl⟩
  obtain ⟨r, hr⟩ : ∃ r : Fin 128, r.val = N.val % 128 := ⟨⟨N.val % 128, by omega⟩, rfl⟩
  obtain ⟨p, hp⟩ : ∃ p : Fin 4, p.val = c.val / 128 := ⟨⟨c.val / 128, by omega⟩, rfl⟩
  obtain ⟨l, hl⟩ : ∃ l : Fin 128, l.val = c.val % 128 := ⟨⟨c.val % 128, by omega⟩, rfl⟩
  obtain ⟨e, he⟩ : ∃ e : Fin 2, e.val = l.val / 64 := ⟨⟨l.val / 64, by omega⟩, rfl⟩
  obtain ⟨d, hd'⟩ : ∃ d : Fin 64, d.val = l.val % 64 := ⟨⟨l.val % 64, by omega⟩, rfl⟩
  obtain ⟨q, hq⟩ : ∃ q : Fin 4, q.val = p.val % 2 * 2 + e.val := ⟨⟨p.val % 2 * 2 + e.val, by omega⟩, rfl⟩
  have eh : hd (grp p) q = headOf p e := Fin.ext (by simp only [hd, grp, headOf]; omega)
  have ehv : (headOf p e).val = p.val * 2 + e.val := rfl
  have hj : c.val = (hd (grp p) q).val * 64 + d.val := by rw [eh, ehv]; omega
  rw [OUT_at _ _ _ S b i r p l (ix3 b N c) rfl (by show N.val = _; omega) (by show c.val = _; omega),
    both_own X Xc K W Kc Wc hX hXc hK hKc S hS b i r p e l d (by omega)]
  by_cases hlt : N.val < 16384
  · rw [own_lat X Xc K W Kc Wc hX hXc hK hKc _ (hS _) b i r ⟨N.val, hlt⟩ p e l d (by omega) (by simp only; omega) (by omega),
      REF, Cert.ReferenceIdeal.Value.both_lat _ _ b N c ⟨N.val, hlt⟩ rfl,
      LAT_at X K W Kc Wc S b ⟨N.val, hlt⟩ c (grp p) q d hj, eh]
  · rw [REF, Cert.ReferenceIdeal.Value.both_ctx _ _ b N c ⟨N.val - 16384, by omega⟩ (by simp only; omega),
      CTX_at Xc Kc Wc S b _ c (grp p) q d hj]
    refine own_ctx X Xc K W Kc Wc hX hXc hK hKc _ (hS _) b i r ⟨N.val - 16384, by omega⟩ p e l d _ (fun k => ?_) ?_ (by omega)
      (by simp only; omega) (by omega)
    · rw [logit_at, eh]
    · rw [logits_last, eh]

end Real
end Cert.KernelIdeal.Value
-- ==== Proof.Finite.lean ====
module
public import proofs.«01_k».proof.Defs
public import proofs.«01_k».proof.Proof.Maths
import Idealize.ShloMosaic.Lib.Pointwise
@[expose] public section
set_option maxRecDepth 16384
noncomputable section
namespace Cert.Pre_finite_scores
open Idealize.ShloMosaic
open Cert.KernelIdeal.Value (IsReal)

/-- The side conditions that the precondition states. -/
instance facts : Cert.Pre_finite_scores.Facts where
  bcast_S_S2x16384x8x64 := by decide
  bcast_S_S2x16384x2x64 := by decide
  bcast_S_S2x256x8x64 := by decide
  bcast_S_S2x256x2x64 := by decide
  bcast_S_S8 := by decide

theorem inf_top : Ideal.ofBits .f32 0x7F800000#32 = ⊤ := by simp [Ideal.ofBits, Ideal.ieee]

theorem lt_of_test (x y : EReal) (h : Ideal.cmp .olt x y = 1#1) : x < y := by
  by_contra hn
  simp [Ideal.cmp, hn] at h

theorem real_of_abs (x : EReal) (h : max x (-x) < ⊤) : IsReal x := by
  refine IsReal.of_ne ?_ ?_ <;> rintro rfl <;> simp at h

/-- What an array all of whose tests came out true holds. -/
theorem real_of_test {s : Shape} (a : FVec Ideal s .f32) (hb : S_.BroadcastsInDim s (![] : Fin 0 → Fin s.rank))
    (h : cmpf .olt (Host.absf a) (broadcastInDim s ![] hb (constant S_ .f32 0x7F800000#32)) = fun _ => 1#1) (i : s.Idx) :
    IsReal (a i) := by
  have := congrFun h i
  refine real_of_abs _ ?_
  rw [← inf_top]
  exact lt_of_test _ _ this
theorem lt_top_of_test {s : Shape} (a : FVec Ideal s .f32) (hb : S_.BroadcastsInDim s (![] : Fin 0 → Fin s.rank))
    (h : cmpf .olt a (broadcastInDim s ![] hb (constant S_ .f32 0x7F800000#32)) = fun _ => 1#1) (i : s.Idx) :
    (a i : EReal) ≠ ⊤ := by
  have := congrFun h i
  refine ne_of_lt ?_
  rw [← inf_top]
  exact lt_of_test _ _ this

end Cert.Pre_finite_scores
-- ==== Proof.Normed.lean ====
/- A row of the stream normed, scaled and shifted: the one formula that kernel and reference both read. -/
module
public import Idealize.ShloMosaic.PureOps.Ideal
public import Idealize.ShloMosaic.Lib.Pointwise.Index
@[expose] public section
noncomputable section
namespace Cert.Normed
open Idealize.ShloMosaic

/-- One lane of a row over its root mean square, times gain and `1 + scale`, plus the shift. -/
def normed (x g sc sh : Fin 2048 → EReal) (d : Fin 2048) : EReal :=
  x d * Ideal.rsqrt (Ideal.div (∑ e : Fin 2048, x e * x e) (Ideal.ofBits .f32 0x45000000#32) + Ideal.ofBits .f32 0x358637BD#32)
    * g d * (1 + sc d) + sh d

theorem normed_congr {x g sc sh x' g' sc' sh' : Fin 2048 → EReal} (d : Fin 2048) (hx : ∀ e, x e = x' e) (hg : ∀ e, g e = g' e)
    (hc : ∀ e, sc e = sc' e) (hs : ∀ e, sh e = sh' e) : normed x g sc sh d = normed x' g' sc' sh' d := by
  obtain rfl := funext hx
  obtain rfl := funext hg
  obtain rfl := funext hc
  obtain rfl := funext hs
  rfl

/-- One entry of the row times the weights. -/
def proj (x g sc sh w : Fin 2048 → EReal) : EReal := ∑ e : Fin 2048, normed x g sc sh e * w e

/-- Lane `d` of the shift, and of the scale. -/
def shiftLane (d : Fin 2048) : Fin 12288 := ⟨d.val, by omega⟩
def scaleLane (d : Fin 2048) : Fin 12288 := ⟨2048 + d.val, by omega⟩

/-- Token `r` of block `i`. -/
def tok (i : Fin 65) (r : Fin 256) : Fin 16640 := ⟨i.val * 256 + r.val, by omega⟩
/-- The modulation's row for a token: its batch element's, or the context's. -/
def modRow (b : Fin 2) (n : Fin 16640) : Fin 8 := if 16384 ≤ n.val then 2 else ⟨b.val, by omega⟩
/-- Lane `d` of the first gate, of the second shift and of the second scale in a row of the modulation. -/
def gateLane (d : Fin 2048) : Fin 12288 := ⟨4096 + d.val, by omega⟩
def shiftLane2 (d : Fin 2048) : Fin 12288 := ⟨6144 + d.val, by omega⟩
def scaleLane2 (d : Fin 2048) : Fin 12288 := ⟨8192 + d.val, by omega⟩

/-- Column `e` of the `k`-th of four mixers. -/
def part (k : Fin 4) (e : Fin 512) : Fin 2048 := ⟨k.val * 512 + e.val, by omega⟩
/-- One entry of the four mixers' rows times the weights. -/
def mixed (a b c d : Fin 512 → EReal) (w : Fin 2048 → EReal) : EReal :=
  (∑ e : Fin 512, a e * w (part 0 e)) + (∑ e : Fin 512, b e * w (part 1 e)) + (∑ e : Fin 512, c e * w (part 2 e))
    + (∑ e : Fin 512, d e * w (part 3 e))
/-- A row with the gated product of the mixers added. -/
def stepped (x g : Fin 2048 → EReal) (a b c d : Fin 512 → EReal) (w : Fin 2048 → Fin 2048 → EReal) (j : Fin 2048) : EReal :=
  x j + g j * mixed a b c d (fun e => w e j)

/-- A sum over all columns, mixer by mixer. -/
theorem sum_parts (f : Fin 2048 → EReal) : ∑ e : Fin 2048, f e = (∑ e : Fin 512, f (part 0 e)) + (∑ e : Fin 512, f (part 1 e))
    + (∑ e : Fin 512, f (part 2 e)) + (∑ e : Fin 512, f (part 3 e)) := by
  have h : ∑ x : Fin 4 × Fin 512, f (part x.1 x.2) = ∑ e : Fin 2048, f e := by
    refine Fintype.sum_bijective (fun x : Fin 4 × Fin 512 => part x.1 x.2) ⟨fun x y e => ?_, fun e => ?_⟩ _ _ fun _ => rfl
    · obtain ⟨⟨a, ha⟩, ⟨b, hb⟩⟩ := x
      obtain ⟨⟨a', ha'⟩, ⟨b', hb'⟩⟩ := y
      have e' := congrArg Fin.val e
      simp only [part] at e'
      have h1 : a = a' := by omega
      have h2 : b = b' := by omega
      subst h1 h2
      rfl
    · exact ⟨(⟨e.val / 512, by omega⟩, ⟨e.val % 512, by omega⟩), Fin.ext (by simp only [part]; omega)⟩
  rw [← h, Fintype.sum_prod_type, Fin.sum_univ_four]

end Cert.Normed
-- ==== Proof.InBlocks.lean ====
/- The in-projection call, its four output arrays index by index: every token's row is normed, scaled and shifted by its
   batch element's row of the modulation (the context's tokens by the context's row), and multiplied by each part of the weights. -/
module
public import proofs.«01_k».proof.Proof.Gen.Kernel2Ideal.Value
public import proofs.«01_k».proof.Proof.Normed
import Idealize.ShloMosaic.Lib.Pointwise
import Idealize.ShloMosaic.Lib.Pipeline.ValueKit
@[expose] public section
set_option maxRecDepth 16384
noncomputable section
namespace Cert.Kernel2Ideal.Value
open Cert.Kernel2Ideal Cert.Kernel2Ideal.Gen Cert.Normed
open Idealize.ShloMosaic Idealize.ShloMosaic.TcCoe Idealize.SL.Sem
open Idealize.ShloMosaic.Pipeline (Dat)

/-! What the body computes from its blocks. -/

/-- The normed and modulated rows of a block. -/
theorem pay4_at (x : Vec Ideal S1x256x2048 .f32) (g : Vec Ideal S1x2048 .f32) (sh sc : Vec Ideal S1x1x2048 .f32)
    (r : Fin 256) (d : Fin 2048) :
    k0_pay4 x g sh sc (ix2 r d) = normed (fun e => x (ix3 0 r e)) (fun e => g (ix2 0 e)) (fun e => sc (ix3 0 0 e))
      (fun e => sh (ix3 0 0 e)) d := by
  pointwise [k0_pay4]
  rfl

theorem pay5_at (x : Vec Ideal S1x256x2048 .f32) (g : Vec Ideal S1x2048 .f32) (sh sc : Vec Ideal S1x1x2048 .f32)
    (w : Vec Ideal S2048x1920 .bf16) (z : Fin 1) (r : Fin 256) (j : Fin 1920) :
    k0_pay5 x g sh sc w (ix3 z r j) = ∑ e : Fin 2048, (k0_pay4 x g sh sc (ix2 r e) : EReal) * (w (ix2 e j) : EReal) := by
  unfold k0_pay5
  generalize k0_pay4 x g sh sc = h
  pointwise []

theorem pay1_at (h : FVec Ideal S256x2048 .bf16) (w : Vec Ideal S2048x512 .bf16) (z : Fin 1) (r : Fin 256) (j : Fin 512) :
    k0_pay1 h w (ix3 z r j) = ∑ e : Fin 2048, (h (ix2 r e) : EReal) * (w (ix2 e j) : EReal) := by
  pointwise [k0_pay1]

theorem pay2_at (h : FVec Ideal S256x2048 .bf16) (w : Vec Ideal S2048x1024 .bf16) (z : Fin 1) (r : Fin 256) (j : Fin 1024) :
    k0_pay2 h w (ix3 z r j) = ∑ e : Fin 2048, (h (ix2 r e) : EReal) * (w (ix2 e j) : EReal) := by
  pointwise [k0_pay2]

theorem pay3_at (h : FVec Ideal S256x2048 .bf16) (w : Vec Ideal S2048x768 .bf16) (z : Fin 1) (r : Fin 256) (j : Fin 768) :
    k0_pay3 h w (ix3 z r j) = ∑ e : Fin 2048, (h (ix2 r e) : EReal) * (w (ix2 e j) : EReal) := by
  pointwise [k0_pay3]

variable (m : (ℓ : Loc nD τ sig) → Buf (Elt Ideal) ℓ)

/-- Where each window's block lies at grid point `t`. -/
theorem idx : ∀ t : Fin cfg0.N, win0_0.index t = ![t.val / 65, t.val % 65, 0] ∧
    win0_1.index t = ![if t.val % 65 = 64 then 2 else t.val / 65, 0, 0] ∧
    win0_2.index t = ![0, 0] ∧ win0_3.index t = ![0, 0] ∧ win0_4.index t = ![0, 0] ∧ win0_5.index t = ![0, 0] ∧
    win0_6.index t = ![0, 0] ∧ win0_7.index t = ![t.val / 65, t.val % 65, 0] ∧
    win0_8.index t = ![t.val / 65, t.val % 65, 0] ∧ win0_9.index t = ![t.val / 65, t.val % 65, 0] ∧
    win0_10.index t = ![t.val / 65, t.val % 65, 0] :=
  (by decide +kernel : ∀ t : Fin grid0.N, _)

theorem lt_N (t : Fin cfg0.N) : t.val < 130 := lt_of_lt_of_eq t.isLt N_0

/-- The batch element of a grid point. -/
def bat (t : Fin cfg0.N) : Fin 2 := ⟨t.val / 65, by have := lt_N t; omega⟩
/-- The block of rows of a grid point. -/
def row (t : Fin cfg0.N) : Fin 65 := ⟨t.val % 65, by omega⟩
theorem modRow_tok (t : Fin cfg0.N) (r : Fin 256) :
    (modRow (bat t) (tok (row t) r)).val = if t.val % 65 = 64 then 2 else t.val / 65 := by
  have h : (16384 ≤ (tok (row t) r).val) ↔ t.val % 65 = 64 := by simp only [tok, row]; omega
  unfold modRow
  by_cases e : t.val % 65 = 64
  · rw [if_pos (h.2 e), if_pos e]; rfl
  · rw [if_neg (fun x => e (h.1 x)), if_neg e]; rfl

/-! The entry of each window's block, as an entry of the array the window is of. -/

theorem read0 (X : FVec Ideal S2x16640x2048 .f32) (t : Fin cfg0.N) (z : Fin 1) (r : Fin 256) (d : Fin 2048) :
    (show FVec Ideal S1x256x2048 .f32 from ((cfg0.win 0).blk t).view.read (Elt Ideal) X) (ix3 z r d)
      = X (ix3 (bat t) (tok (row t) r) d) := by
  blk_simp [idx t]
  blk_ext [idx t, bat, row, tok]

theorem read1 (X : FVec Ideal S8x1x12288 .f32) (t : Fin cfg0.N) (y z : Fin 1) (r : Fin 256) (d : Fin 12288) :
    (show FVec Ideal S1x1x12288 .f32 from ((cfg0.win 1).blk t).view.read (Elt Ideal) X) (ix3 y z d)
      = X (ix3 (modRow (bat t) (tok (row t) r)) 0 d) := by
  have h := modRow_tok t r
  blk_simp [idx t]
  blk_ext [idx t, h]

theorem read2 (X : FVec Ideal S1x2048 .f32) (t : Fin cfg0.N) (z : Fin 1) (d : Fin 2048) :
    (show FVec Ideal S1x2048 .f32 from ((cfg0.win 2).blk t).view.read (Elt Ideal) X) (ix2 z d) = X (ix2 0 d) := by
  blk_simp [idx t]
  blk_ext [idx t]

theorem read3 (X : FVec Ideal S2048x1920 .bf16) (t : Fin cfg0.N) (e : Fin 2048) (j : Fin 1920) :
    (show FVec Ideal S2048x1920 .bf16 from ((cfg0.win 3).blk t).view.read (Elt Ideal) X) (ix2 e j) = X (ix2 e j) := by
  blk_simp [idx t]
  blk_ext [idx t]

theorem read4 (X : FVec Ideal S2048x512 .bf16) (t : Fin cfg0.N) (e : Fin 2048) (j : Fin 512) :
    (show FVec Ideal S2048x512 .bf16 from ((cfg0.win 4).blk t).view.read (Elt Ideal) X) (ix2 e j) = X (ix2 e j) := by
  blk_simp [idx t]
  blk_ext [idx t]

theorem read5 (X : FVec Ideal S2048x1024 .bf16) (t : Fin cfg0.N) (e : Fin 2048) (j : Fin 1024) :
    (show FVec Ideal S2048x1024 .bf16 from ((cfg0.win 5).blk t).view.read (Elt Ideal) X) (ix2 e j) = X (ix2 e j) := by
  blk_simp [idx t]
  blk_ext [idx t]

theorem read6 (X : FVec Ideal S2048x768 .bf16) (t : Fin cfg0.N) (e : Fin 2048) (j : Fin 768) :
    (show FVec Ideal S2048x768 .bf16 from ((cfg0.win 6).blk t).view.read (Elt Ideal) X) (ix2 e j) = X (ix2 e j) := by
  blk_simp [idx t]
  blk_ext [idx t]

theorem iblk0 (c : Dev nD) (t : Fin cfg0.N) (z : Fin 1) (r : Fin 256) (d : Fin 2048) :
    iblk m c 0 t (ix3 z r d) = V m c main_v0 (ix3 (bat t) (tok (row t) r) d) := read0 (V m c main_v0) t z r d
theorem iblk1 (c : Dev nD) (t : Fin cfg0.N) (y z : Fin 1) (r : Fin 256) (d : Fin 12288) :
    iblk m c 1 t (ix3 y z d) = V m c main_v12 (ix3 (modRow (bat t) (tok (row t) r)) 0 d) :=
  read1 (V m c main_v12) t y z r d
theorem iblk2 (c : Dev nD) (t : Fin cfg0.N) (z : Fin 1) (d : Fin 2048) :
    iblk m c 2 t (ix2 z d) = V m c main_v13 (ix2 0 d) := read2 (V m c main_v13) t z d
theorem iblk3 (c : Dev nD) (t : Fin cfg0.N) (e : Fin 2048) (j : Fin 1920) :
    iblk m c 3 t (ix2 e j) = V m c main_v5 (ix2 e j) := read3 (V m c main_v5) t e j
theorem iblk4 (c : Dev nD) (t : Fin cfg0.N) (e : Fin 2048) (j : Fin 512) :
    iblk m c 4 t (ix2 e j) = V m c main_v6 (ix2 e j) := read4 (V m c main_v6) t e j
theorem iblk5 (c : Dev nD) (t : Fin cfg0.N) (e : Fin 2048) (j : Fin 1024) :
    iblk m c 5 t (ix2 e j) = V m c main_v7 (ix2 e j) := read5 (V m c main_v7) t e j
theorem iblk6 (c : Dev nD) (t : Fin cfg0.N) (e : Fin 2048) (j : Fin 768) :
    iblk m c 6 t (ix2 e j) = V m c main_v8 (ix2 e j) := read6 (V m c main_v8) t e j

/-- A token's modulated row, from the arrays the call is given. -/
def hidden (S : FVec Ideal S2x16640x2048 .f32) (M : FVec Ideal S8x1x12288 .f32) (G : FVec Ideal S1x2048 .f32) (b : Fin 2)
    (n : Fin 16640) (d : Fin 2048) : EReal :=
  normed (fun e => S (ix3 b n e)) (fun e => G (ix2 0 e)) (fun e => M (ix3 (modRow b n) 0 (scaleLane e)))
    (fun e => M (ix3 (modRow b n) 0 (shiftLane e))) d

theorem ld_shift (x : Vec Ideal S1x1x12288 .f32) (e : Fin 2048) :
    View.ld x r0_2 (ix3 0 0 e) = x (ix3 0 0 (shiftLane e)) := by
  rw [View.ld_unit]
  pointwise [shiftLane]
theorem ld_scale (x : Vec Ideal S1x1x12288 .f32) (e : Fin 2048) :
    View.ld x r0_3 (ix3 0 0 e) = x (ix3 0 0 (scaleLane e)) := by
  rw [View.ld_unit]
  pointwise [scaleLane]

/-- The modulated rows of a block, from the block of the modulation. -/
theorem pay4_ld (x : Vec Ideal S1x256x2048 .f32) (g : Vec Ideal S1x2048 .f32) (M : Vec Ideal S1x1x12288 .f32)
    (r : Fin 256) (d : Fin 2048) :
    k0_pay4 x g (View.ld M r0_2) (View.ld M r0_3) (ix2 r d) = normed (fun e => x (ix3 0 r e)) (fun e => g (ix2 0 e))
      (fun e => M (ix3 0 0 (scaleLane e))) (fun e => M (ix3 0 0 (shiftLane e))) d := by
  rw [pay4_at]
  exact congrArg₂ (fun a b => normed (fun e => x (ix3 0 r e)) (fun e => g (ix2 0 e)) a b d)
    (funext fun e => ld_scale M e) (funext fun e => ld_shift M e)

/-- The same row, from the arrays that the blocks were cut from. -/
theorem hid_of (x : Vec Ideal S1x256x2048 .f32) (g : Vec Ideal S1x2048 .f32) (M : Vec Ideal S1x1x12288 .f32)
    (S : FVec Ideal S2x16640x2048 .f32) (N : FVec Ideal S8x1x12288 .f32) (G : FVec Ideal S1x2048 .f32) (b : Fin 2) (n : Fin 16640)
    (r : Fin 256) (hx : ∀ e, x (ix3 0 r e) = S (ix3 b n e)) (hg : ∀ e, g (ix2 0 e) = G (ix2 0 e))
    (hM : ∀ d, M (ix3 0 0 d) = N (ix3 (modRow b n) 0 d)) (e : Fin 2048) :
    k0_pay4 x g (View.ld M r0_2) (View.ld M r0_3) (ix2 r e) = hidden S N G b n e := by
  rw [pay4_ld]
  simp only [hx, hg, hM]
  rfl

/-- The body keeps the modulated rows for the parts after the first. -/
theorem pay6_eq (x0 : Vec Ideal S1x256x2048 .f32) (x1 : Vec Ideal S1x1x12288 .f32) (x2 : Vec Ideal S1x2048 .f32)
    (x3 : Vec Ideal S2048x1920 .bf16) (x4 : Vec Ideal S2048x512 .bf16) (x5 : Vec Ideal S2048x1024 .bf16)
    (x6 : Vec Ideal S2048x768 .bf16) :
    k0_pay6 x0 x1 x2 x3 x4 x5 x6 = k0_pay4 x0 x2 (View.ld x1 r0_2) (View.ld x1 r0_3) := by
  unfold k0_pay6
  rw [View.ld_unit_zero (by decide) _ x0, View.ld_unit_zero (by decide) _ x2]

end Cert.Kernel2Ideal.Value
-- ==== Proof.InOut.lean ====
/- The in-projection call's four output arrays: what a grid point leaves, and the whole arrays. -/
module
public import proofs.«01_k».proof.Proof.Gen.Kernel2Ideal.Value
public import proofs.«01_k».proof.Proof.InBlocks
import Idealize.ShloMosaic.Lib.Pointwise
import Idealize.ShloMosaic.Lib.Pipeline.ValueKit
@[expose] public section
set_option maxRecDepth 16384
noncomputable section
namespace Cert.Kernel2Ideal.Value
open Cert.Kernel2Ideal Cert.Kernel2Ideal.Gen Cert.Normed
open Idealize.ShloMosaic Idealize.ShloMosaic.TcCoe Idealize.SL.Sem
open Idealize.ShloMosaic.Pipeline (Dat)

variable (m : (ℓ : Loc nD τ sig) → Buf (Elt Ideal) ℓ)

/-- The call's array of 1920 columns. -/
def OUT1920 (S : FVec Ideal S2x16640x2048 .f32) (M : FVec Ideal S8x1x12288 .f32) (G : FVec Ideal S1x2048 .f32)
    (W : FVec Ideal S2048x1920 .bf16) : FVec Ideal S2x16640x1920 .f32 := fun j =>
  ∑ e : Fin 2048, hidden S M G (j 0) (j 1) e * (W (ix2 e (j 2)) : EReal)
theorem OUT1920_at (S : FVec Ideal S2x16640x2048 .f32) (M : FVec Ideal S8x1x12288 .f32) (G : FVec Ideal S1x2048 .f32)
    (W : FVec Ideal S2048x1920 .bf16) (b : Fin 2) (n : Fin 16640) (k : Fin 1920) (j : S2x16640x1920.Idx)
    (h0 : (j 0 : ℕ) = b) (h1 : (j 1 : ℕ) = n) (h2 : (j 2 : ℕ) = k) :
    OUT1920 S M G W j = ∑ e : Fin 2048, hidden S M G b n e * (W (ix2 e k) : EReal) := by
  obtain rfl : j 0 = b := Fin.ext h0
  obtain rfl : j 1 = n := Fin.ext h1
  obtain rfl : j 2 = k := Fin.ext h2
  rfl

/-- What the body leaves of it at one grid point. -/
theorem out1920_of (x0 : Vec Ideal S1x256x2048 .f32) (x1 : Vec Ideal S1x1x12288 .f32) (x2 : Vec Ideal S1x2048 .f32) (x3 : Vec Ideal S2048x1920 .bf16)
    (x4 : Vec Ideal S2048x512 .bf16) (x5 : Vec Ideal S2048x1024 .bf16) (x6 : Vec Ideal S2048x768 .bf16)
    (S : FVec Ideal S2x16640x2048 .f32) (N : FVec Ideal S8x1x12288 .f32) (G : FVec Ideal S1x2048 .f32) (W : FVec Ideal S2048x1920 .bf16)
    (b : Fin 2) (n : Fin 16640) (z : Fin 1) (r : Fin 256) (j : Fin 1920)
    (hx : ∀ e, x0 (ix3 0 r e) = S (ix3 b n e)) (hM : ∀ d, x1 (ix3 0 0 d) = N (ix3 (modRow b n) 0 d))
    (hg : ∀ e, x2 (ix2 0 e) = G (ix2 0 e)) (hw : ∀ e j, x3 (ix2 e j) = W (ix2 e j)) :
    out0_7 x0 x1 x2 x3 x4 x5 x6 (ix3 z r j) = ∑ e : Fin 2048, hidden S N G b n e * (W (ix2 e j) : EReal) := by
  frame_out
  rw [pay5_at]
  exact Finset.sum_congr rfl fun e _ => congrArg₂ (· * ·) (hid_of x0 x2 x1 S N G b n r hx hg hM e) (hw e j)

theorem final1920 (c : Dev nD) : (dats m 0 c).arrAt 7 cfg0.N
    = OUT1920 (V m c main_v0) (V m c main_v12) (V m c main_v13) (V m c main_v5) := by
  refine (dats m 0 c).arrAt_eq_of_covers 7 _ (by decide +kernel) fun t hf y => ?_
  blk_simp
  rw [after0_7]
  idx_vars y
  rw [OUT1920_at _ _ _ _ (bat t) (tok (row t) y1) y2]
  · exact out1920_of _ _ _ _ _ _ _ _ _ _ _ _ _ _ _ _ (fun e => iblk0 m c t 0 y1 e) (fun d => iblk1 m c t 0 0 y1 d)
      (fun e => iblk2 m c t 0 e) (fun e j => iblk3 m c t e j)
  all_goals blk_simp [idx t, bat, row, tok]

/-- The call's array of 512 columns. -/
def OUT512 (S : FVec Ideal S2x16640x2048 .f32) (M : FVec Ideal S8x1x12288 .f32) (G : FVec Ideal S1x2048 .f32)
    (W : FVec Ideal S2048x512 .bf16) : FVec Ideal S2x16640x512 .f32 := fun j =>
  ∑ e : Fin 2048, hidden S M G (j 0) (j 1) e * (W (ix2 e (j 2)) : EReal)
theorem OUT512_at (S : FVec Ideal S2x16640x2048 .f32) (M : FVec Ideal S8x1x12288 .f32) (G : FVec Ideal S1x2048 .f32)
    (W : FVec Ideal S2048x512 .bf16) (b : Fin 2) (n : Fin 16640) (k : Fin 512) (j : S2x16640x512.Idx)
    (h0 : (j 0 : ℕ) = b) (h1 : (j 1 : ℕ) = n) (h2 : (j 2 : ℕ) = k) :
    OUT512 S M G W j = ∑ e : Fin 2048, hidden S M G b n e * (W (ix2 e k) : EReal) := by
  obtain rfl : j 0 = b := Fin.ext h0
  obtain rfl : j 1 = n := Fin.ext h1
  obtain rfl : j 2 = k := Fin.ext h2
  rfl

/-- What the body leaves of it at one grid point. -/
theorem out512_of (x0 : Vec Ideal S1x256x2048 .f32) (x1 : Vec Ideal S1x1x12288 .f32) (x2 : Vec Ideal S1x2048 .f32) (x3 : Vec Ideal S2048x1920 .bf16)
    (x4 : Vec Ideal S2048x512 .bf16) (x5 : Vec Ideal S2048x1024 .bf16) (x6 : Vec Ideal S2048x768 .bf16)
    (S : FVec Ideal S2x16640x2048 .f32) (N : FVec Ideal S8x1x12288 .f32) (G : FVec Ideal S1x2048 .f32) (W : FVec Ideal S2048x512 .bf16)
    (b : Fin 2) (n : Fin 16640) (z : Fin 1) (r : Fin 256) (j : Fin 512)
    (hx : ∀ e, x0 (ix3 0 r e) = S (ix3 b n e)) (hM : ∀ d, x1 (ix3 0 0 d) = N (ix3 (modRow b n) 0 d))
    (hg : ∀ e, x2 (ix2 0 e) = G (ix2 0 e)) (hw : ∀ e j, x4 (ix2 e j) = W (ix2 e j)) :
    out0_8 x0 x1 x2 x3 x4 x5 x6 (ix3 z r j) = ∑ e : Fin 2048, hidden S N G b n e * (W (ix2 e j) : EReal) := by
  frame_out
  rw [pay6_eq, pay1_at]
  exact Finset.sum_congr rfl fun e _ => congrArg₂ (· * ·) (hid_of x0 x2 x1 S N G b n r hx hg hM e) (hw e j)

theorem final512 (c : Dev nD) : (dats m 0 c).arrAt 8 cfg0.N
    = OUT512 (V m c main_v0) (V m c main_v12) (V m c main_v13) (V m c main_v6) := by
  refine (dats m 0 c).arrAt_eq_of_covers 8 _ (by decide +kernel) fun t hf y => ?_
  blk_simp
  rw [after0_8]
  idx_vars y
  rw [OUT512_at _ _ _ _ (bat t) (tok (row t) y1) y2]
  · exact out512_of _ _ _ _ _ _ _ _ _ _ _ _ _ _ _ _ (fun e => iblk0 m c t 0 y1 e) (fun d => iblk1 m c t 0 0 y1 d)
      (fun e => iblk2 m c t 0 e) (fun e j => iblk4 m c t e j)
  all_goals blk_simp [idx t, bat, row, tok]

/-- The call's array of 1024 columns. -/
def OUT1024 (S : FVec Ideal S2x16640x2048 .f32) (M : FVec Ideal S8x1x12288 .f32) (G : FVec Ideal S1x2048 .f32)
    (W : FVec Ideal S2048x1024 .bf16) : FVec Ideal S2x16640x1024 .f32 := fun j =>
  ∑ e : Fin 2048, hidden S M G (j 0) (j 1) e * (W (ix2 e (j 2)) : EReal)
theorem OUT1024_at (S : FVec Ideal S2x16640x2048 .f32) (M : FVec Ideal S8x1x12288 .f32) (G : FVec Ideal S1x2048 .f32)
    (W : FVec Ideal S2048x1024 .bf16) (b : Fin 2) (n : Fin 16640) (k : Fin 1024) (j : S2x16640x1024.Idx)
    (h0 : (j 0 : ℕ) = b) (h1 : (j 1 : ℕ) = n) (h2 : (j 2 : ℕ) = k) :
    OUT1024 S M G W j = ∑ e : Fin 2048, hidden S M G b n e * (W (ix2 e k) : EReal) := by
  obtain rfl : j 0 = b := Fin.ext h0
  obtain rfl : j 1 = n := Fin.ext h1
  obtain rfl : j 2 = k := Fin.ext h2
  rfl

/-- What the body leaves of it at one grid point. -/
theorem out1024_of (x0 : Vec Ideal S1x256x2048 .f32) (x1 : Vec Ideal S1x1x12288 .f32) (x2 : Vec Ideal S1x2048 .f32) (x3 : Vec Ideal S2048x1920 .bf16)
    (x4 : Vec Ideal S2048x512 .bf16) (x5 : Vec Ideal S2048x1024 .bf16) (x6 : Vec Ideal S2048x768 .bf16)
    (S : FVec Ideal S2x16640x2048 .f32) (N : FVec Ideal S8x1x12288 .f32) (G : FVec Ideal S1x2048 .f32) (W : FVec Ideal S2048x1024 .bf16)
    (b : Fin 2) (n : Fin 16640) (z : Fin 1) (r : Fin 256) (j : Fin 1024)
    (hx : ∀ e, x0 (ix3 0 r e) = S (ix3 b n e)) (hM : ∀ d, x1 (ix3 0 0 d) = N (ix3 (modRow b n) 0 d))
    (hg : ∀ e, x2 (ix2 0 e) = G (ix2 0 e)) (hw : ∀ e j, x5 (ix2 e j) = W (ix2 e j)) :
    out0_9 x0 x1 x2 x3 x4 x5 x6 (ix3 z r j) = ∑ e : Fin 2048, hidden S N G b n e * (W (ix2 e j) : EReal) := by
  frame_out
  rw [pay6_eq, pay2_at]
  exact Finset.sum_congr rfl fun e _ => congrArg₂ (· * ·) (hid_of x0 x2 x1 S N G b n r hx hg hM e) (hw e j)

theorem final1024 (c : Dev nD) : (dats m 0 c).arrAt 9 cfg0.N
    = OUT1024 (V m c main_v0) (V m c main_v12) (V m c main_v13) (V m c main_v7) := by
  refine (dats m 0 c).arrAt_eq_of_covers 9 _ (by decide +kernel) fun t hf y => ?_
  blk_simp
  rw [after0_9]
  idx_vars y
  rw [OUT1024_at _ _ _ _ (bat t) (tok (row t) y1) y2]
  · exact out1024_of _ _ _ _ _ _ _ _ _ _ _ _ _ _ _ _ (fun e => iblk0 m c t 0 y1 e) (fun d => iblk1 m c t 0 0 y1 d)
      (fun e => iblk2 m c t 0 e) (fun e j => iblk5 m c t e j)
  all_goals blk_simp [idx t, bat, row, tok]

/-- The call's array of 768 columns. -/
def OUT768 (S : FVec Ideal S2x16640x2048 .f32) (M : FVec Ideal S8x1x12288 .f32) (G : FVec Ideal S1x2048 .f32)
    (W : FVec Ideal S2048x768 .bf16) : FVec Ideal S2x16640x768 .f32 := fun j =>
  ∑ e : Fin 2048, hidden S M G (j 0) (j 1) e * (W (ix2 e (j 2)) : EReal)
theorem OUT768_at (S : FVec Ideal S2x16640x2048 .f32) (M : FVec Ideal S8x1x12288 .f32) (G : FVec Ideal S1x2048 .f32)
    (W : FVec Ideal S2048x768 .bf16) (b : Fin 2) (n : Fin 16640) (k : Fin 768) (j : S2x16640x768.Idx)
    (h0 : (j 0 : ℕ) = b) (h1 : (j 1 : ℕ) = n) (h2 : (j 2 : ℕ) = k) :
    OUT768 S M G W j = ∑ e : Fin 2048, hidden S M G b n e * (W (ix2 e k) : EReal) := by
  obtain rfl : j 0 = b := Fin.ext h0
  obtain rfl : j 1 = n := Fin.ext h1
  obtain rfl : j 2 = k := Fin.ext h2
  rfl

/-- What the body leaves of it at one grid point. -/
theorem out768_of (x0 : Vec Ideal S1x256x2048 .f32) (x1 : Vec Ideal S1x1x12288 .f32) (x2 : Vec Ideal S1x2048 .f32) (x3 : Vec Ideal S2048x1920 .bf16)
    (x4 : Vec Ideal S2048x512 .bf16) (x5 : Vec Ideal S2048x1024 .bf16) (x6 : Vec Ideal S2048x768 .bf16)
    (S : FVec Ideal S2x16640x2048 .f32) (N : FVec Ideal S8x1x12288 .f32) (G : FVec Ideal S1x2048 .f32) (W : FVec Ideal S2048x768 .bf16)
    (b : Fin 2) (n : Fin 16640) (z : Fin 1) (r : Fin 256) (j : Fin 768)
    (hx : ∀ e, x0 (ix3 0 r e) = S (ix3 b n e)) (hM : ∀ d, x1 (ix3 0 0 d) = N (ix3 (modRow b n) 0 d))
    (hg : ∀ e, x2 (ix2 0 e) = G (ix2 0 e)) (hw : ∀ e j, x6 (ix2 e j) = W (ix2 e j)) :
    out0_10 x0 x1 x2 x3 x4 x5 x6 (ix3 z r j) = ∑ e : Fin 2048, hidden S N G b n e * (W (ix2 e j) : EReal) := by
  frame_out
  rw [pay6_eq, pay3_at]
  exact Finset.sum_congr rfl fun e _ => congrArg₂ (· * ·) (hid_of x0 x2 x1 S N G b n r hx hg hM e) (hw e j)

theorem final768 (c : Dev nD) : (dats m 0 c).arrAt 10 cfg0.N
    = OUT768 (V m c main_v0) (V m c main_v12) (V m c main_v13) (V m c main_v8) := by
  refine (dats m 0 c).arrAt_eq_of_covers 10 _ (by decide +kernel) fun t hf y => ?_
  blk_simp
  rw [after0_10]
  idx_vars y
  rw [OUT768_at _ _ _ _ (bat t) (tok (row t) y1) y2]
  · exact out768_of _ _ _ _ _ _ _ _ _ _ _ _ _ _ _ _ (fun e => iblk0 m c t 0 y1 e) (fun d => iblk1 m c t 0 0 y1 d)
      (fun e => iblk2 m c t 0 e) (fun e j => iblk6 m c t e j)
  all_goals blk_simp [idx t, bat, row, tok]

end Cert.Kernel2Ideal.Value
-- ==== Proof.InHost.lean ====
/- The in-projection call's arrays as the host prepares them, and its outputs in terms of the arguments. -/
module
public import proofs.«01_k».proof.Proof.InOut
public import Idealize.ShloMosaic.Lib.Pointwise.Index
import Idealize.ShloMosaic.Lib.Pointwise
import Idealize.ShloMosaic.Lib.Claim
public import Idealize.ShloMosaic.Lib.StableHlo.RunRead
import Idealize.ShloMosaic.Lib.Pipeline.ValueKit
@[expose] public section
set_option maxRecDepth 16384
noncomputable section
namespace Cert.Kernel2Ideal.Value
open Cert.Kernel2Ideal Cert.Kernel2Ideal.Gen Cert.Normed
open Idealize.ShloMosaic Idealize.ShloMosaic.TcCoe Idealize.SL.Sem

variable (m : (ℓ : Loc nD τ sig) → Buf (Elt Ideal) ℓ)

/-- The latent tokens followed by the context's. -/
def stream (X : FVec Ideal S2x16384x2048 .f32) (Y : FVec Ideal S2x256x2048 .f32) : FVec Ideal S2x16640x2048 .f32 :=
  concatenate S2x16640x2048 1 [⟨S2x16384x2048, X⟩, ⟨S2x256x2048, Y⟩] concatenates_S2x16384x2048_S2x256x2048_S2x16640x2048_d1
theorem stream_lat (X : FVec Ideal S2x16384x2048 .f32) (Y : FVec Ideal S2x256x2048 .f32) (b : Fin 2) (n : Fin 16640) (d : Fin 2048)
    (k : Fin 16384) (hk : n.val = k.val) : stream X Y (ix3 b n d) = X (ix3 b k d) := by
  have hn : n.val < 16384 := by omega
  have h1 : (⟨n.val, hn⟩ : Fin 16384) = k := Fin.ext hk
  pointwise [stream]
  rw [dif_pos hn, h1]
theorem stream_ctx (X : FVec Ideal S2x16384x2048 .f32) (Y : FVec Ideal S2x256x2048 .f32) (b : Fin 2) (n : Fin 16640) (d : Fin 2048)
    (k : Fin 256) (hk : n.val = 16384 + k.val) : stream X Y (ix3 b n d) = Y (ix3 b k d) := by
  have hn : ¬ n.val < 16384 := by omega
  have h1 : (⟨n.val - 16384, by omega⟩ : Fin 256) = k := Fin.ext (by simp only; omega)
  pointwise [stream]
  rw [dif_neg hn, h1]

/-- The modulation's rows: one for each batch element, the context's, and five of zeros. -/
def rows (N : FVec Ideal S2x12288 .f32) (C : FVec Ideal S12288 .f32) : FVec Ideal S8x12288 .f32 :=
  concatenate S8x12288 0 [⟨S2x12288, N⟩, ⟨S1x12288, broadcastInDim S1x12288 ![1] bcast_S12288_S1x12288_1 C⟩,
    ⟨S5x12288, broadcastInDim S5x12288 ![] bcast_S_S5x12288 (constant S_ .f32 0x00000000#32)⟩]
    concatenates_S2x12288_S1x12288_S5x12288_S8x12288_d0
def mods (N : FVec Ideal S2x12288 .f32) (C : FVec Ideal S12288 .f32) : FVec Ideal S8x1x12288 .f32 :=
  shapeCast S8x1x12288 (rows N C) shapeCasts_S8x12288_S8x1x12288
theorem mods_eq (N : FVec Ideal S2x12288 .f32) (C : FVec Ideal S12288 .f32) (r : Fin 8) (z : Fin 1) (d : Fin 12288) :
    mods N C (ix3 r z d) = rows N C (ix2 r d) := by
  pointwise [mods]
theorem rows_lat (N : FVec Ideal S2x12288 .f32) (C : FVec Ideal S12288 .f32) (r : Fin 8) (b : Fin 2) (d : Fin 12288)
    (h : r.val = b.val) : rows N C (ix2 r d) = N (ix2 b d) := by
  have hn : r.val < 2 := by omega
  have h1 : (⟨r.val, hn⟩ : Fin 2) = b := Fin.ext h
  pointwise [rows]
  rw [dif_pos hn, h1]
theorem rows_ctx (N : FVec Ideal S2x12288 .f32) (C : FVec Ideal S12288 .f32) (d : Fin 12288) :
    rows N C (ix2 2 d) = C (ix1 d) := by
  pointwise [rows]

/-- The gain as one row. -/
def gainRow (G : FVec Ideal S2048 .f32) : FVec Ideal S1x2048 .f32 := shapeCast S1x2048 G shapeCasts_S2048_S1x2048
theorem gainRow_at (G : FVec Ideal S2048 .f32) (z : Fin 1) (d : Fin 2048) : gainRow G (ix2 z d) = G (ix1 d) := by
  pointwise [gainRow]

theorem stream_eq (c : Dev nD) : V m c main_v0
    = stream (m ((c : Thread nD τ).loc main_arg0)) (m ((c : Thread nD τ).loc main_arg1)) := by
  unfold_abbrev_sides
  after_reads_simp
  rfl
theorem gain_eq (c : Dev nD) : V m c main_v13 = gainRow (m ((c : Thread nD τ).loc main_arg4)) := by
  unfold_abbrev_sides
  after_reads_simp
  rfl
theorem mods_arr (c : Dev nD) : V m c main_v12
    = mods (m ((c : Thread nD τ).loc main_arg2)) (m ((c : Thread nD τ).loc main_arg3)) := by
  unfold_abbrev_sides
  after_reads_simp
  rfl

/-- A latent token's modulated row, and a context token's. -/
theorem hidden_lat (X : FVec Ideal S2x16384x2048 .f32) (Y : FVec Ideal S2x256x2048 .f32) (N : FVec Ideal S2x12288 .f32)
    (C : FVec Ideal S12288 .f32) (G : FVec Ideal S2048 .f32) (b : Fin 2) (n : Fin 16640) (k : Fin 16384) (hk : n.val = k.val) :
    hidden (stream X Y) (mods N C) (gainRow G) b n = normed (fun e => X (ix3 b k e)) (fun e => G (ix1 e))
      (fun e => N (ix2 b (scaleLane e))) (fun e => N (ix2 b (shiftLane e))) := by
  have h : (modRow b n).val = b.val := by
    unfold modRow
    rw [if_neg (by omega)]
  funext d
  unfold hidden
  simp only [stream_lat X Y b n _ k hk, mods_eq, rows_lat N C (modRow b n) b _ h, gainRow_at]
theorem hidden_ctx (X : FVec Ideal S2x16384x2048 .f32) (Y : FVec Ideal S2x256x2048 .f32) (N : FVec Ideal S2x12288 .f32)
    (C : FVec Ideal S12288 .f32) (G : FVec Ideal S2048 .f32) (b : Fin 2) (n : Fin 16640) (k : Fin 256) (hk : n.val = 16384 + k.val) :
    hidden (stream X Y) (mods N C) (gainRow G) b n = normed (fun e => Y (ix3 b k e)) (fun e => G (ix1 e))
      (fun e => C (ix1 (scaleLane e))) (fun e => C (ix1 (shiftLane e))) := by
  have h : modRow b n = 2 := by
    unfold modRow
    rw [if_pos (by omega)]
  funext d
  unfold hidden
  simp only [stream_ctx X Y b n _ k hk, mods_eq, h, rows_ctx, gainRow_at]

/-- The weights' 1920 columns from column 0 on. -/
def part1920 (A : FVec Ideal S2048x4224 .f32) : FVec Ideal S2048x1920 .bf16 :=
  truncf .bf16 (extractStridedSlice S2048x1920 ![0, 0] A slices_S2048x4224_S2048x1920_0_0) bitsLt_bf16_f32
theorem part1920_at (A : FVec Ideal S2048x4224 .f32) (e : Fin 2048) (j : Fin 1920) (q : Fin 4224) (h : q.val = 0 + j.val) :
    part1920 A (ix2 e j) = A (ix2 e q) := by
  pointwise [part1920]
  exact congrArg (fun x => A (ix2 e x)) (Fin.ext (by simp only; omega))
theorem part1920_eq (c : Dev nD) : V m c main_v5 = part1920 (m ((c : Thread nD τ).loc main_arg5)) := by
  unfold_abbrev_sides
  after_reads_simp
  rfl

/-- The weights' 512 columns from column 1920 on. -/
def part512 (A : FVec Ideal S2048x4224 .f32) : FVec Ideal S2048x512 .bf16 :=
  truncf .bf16 (extractStridedSlice S2048x512 ![0, 1920] A slices_S2048x4224_S2048x512_0_1920) bitsLt_bf16_f32
theorem part512_at (A : FVec Ideal S2048x4224 .f32) (e : Fin 2048) (j : Fin 512) (q : Fin 4224) (h : q.val = 1920 + j.val) :
    part512 A (ix2 e j) = A (ix2 e q) := by
  pointwise [part512]
  exact congrArg (fun x => A (ix2 e x)) (Fin.ext (by simp only; omega))
theorem part512_eq (c : Dev nD) : V m c main_v6 = part512 (m ((c : Thread nD τ).loc main_arg5)) := by
  unfold_abbrev_sides
  after_reads_simp
  rfl

/-- The weights' 1024 columns from column 2432 on. -/
def part1024 (A : FVec Ideal S2048x4224 .f32) : FVec Ideal S2048x1024 .bf16 :=
  truncf .bf16 (extractStridedSlice S2048x1024 ![0, 2432] A slices_S2048x4224_S2048x1024_0_2432) bitsLt_bf16_f32
theorem part1024_at (A : FVec Ideal S2048x4224 .f32) (e : Fin 2048) (j : Fin 1024) (q : Fin 4224) (h : q.val = 2432 + j.val) :
    part1024 A (ix2 e j) = A (ix2 e q) := by
  pointwise [part1024]
  exact congrArg (fun x => A (ix2 e x)) (Fin.ext (by simp only; omega))
theorem part1024_eq (c : Dev nD) : V m c main_v7 = part1024 (m ((c : Thread nD τ).loc main_arg5)) := by
  unfold_abbrev_sides
  after_reads_simp
  rfl

/-- The weights' 768 columns from column 3456 on. -/
def part768 (A : FVec Ideal S2048x4224 .f32) : FVec Ideal S2048x768 .bf16 :=
  truncf .bf16 (extractStridedSlice S2048x768 ![0, 3456] A slices_S2048x4224_S2048x768_0_3456) bitsLt_bf16_f32
theorem part768_at (A : FVec Ideal S2048x4224 .f32) (e : Fin 2048) (j : Fin 768) (q : Fin 4224) (h : q.val = 3456 + j.val) :
    part768 A (ix2 e j) = A (ix2 e q) := by
  pointwise [part768]
  exact congrArg (fun x => A (ix2 e x)) (Fin.ext (by simp only; omega))
theorem part768_eq (c : Dev nD) : V m c main_v8 = part768 (m ((c : Thread nD τ).loc main_arg5)) := by
  unfold_abbrev_sides
  after_reads_simp
  rfl

end Cert.Kernel2Ideal.Value
-- ==== Proof.InRef.lean ====
/- The reference of the in-projection, index by index. -/
module
public import proofs.«01_k».proof.Proof.Gen.Reference2Ideal.Run
public import proofs.«01_k».proof.Proof.Normed
public import Idealize.ShloMosaic.PureOps.Ideal
public import Idealize.ShloMosaic.Lib.Pointwise.Index
import Idealize.ShloMosaic.Lib.Pointwise
import Idealize.ShloMosaic.Lib.Claim
@[expose] public section
set_option maxRecDepth 16384
noncomputable section
namespace Cert.Reference2Ideal.Value
open Cert.Reference2Ideal Cert.Reference2Ideal.Gen Cert.Normed
open Idealize.ShloMosaic Idealize.ShloMosaic.TcCoe Idealize.SL.Sem

/-- The root of a token's mean square, inverted. -/
def inv_x (X : FVec Ideal S2x16384x2048 .f32) : FVec Ideal S2x16384x1 .f32 :=
  Host.rsqrt (addf (Host.divf (broadcastInDim S2x16384x1 ![0, 1] bcast_S2x16384_S2x16384x1_0_1 (Host.reduceAdd (mulf X X)
      (constant S_ .f32 0x00000000#32) reducesTo_S2x16384x2048_S2x16384_d2 h_S_))
    (broadcastInDim S2x16384x1 ![] bcast_S_S2x16384x1 (constant S_ .f32 0x45000000#32)))
    (broadcastInDim S2x16384x1 ![] bcast_S_S2x16384x1 (constant S_ .f32 0x358637BD#32)))
theorem inv_x_at (X : FVec Ideal S2x16384x2048 .f32) (b : Fin 2) (n : Fin 16384) (z : Fin 1) :
    inv_x X (ix3 b n z) = Ideal.rsqrt (Ideal.div (∑ e : Fin 2048, (X (ix3 b n e) : EReal) * (X (ix3 b n e) : EReal))
      (Ideal.ofBits .f32 0x45000000#32) + Ideal.ofBits .f32 0x358637BD#32) := by
  pointwise [inv_x]

/-- The normed row with its gain. -/
def gained_x (X : FVec Ideal S2x16384x2048 .f32) (G : FVec Ideal S2048 .f32) : FVec Ideal S2x16384x2048 .f32 :=
  mulf (mulf X (broadcastInDim S2x16384x2048 ![0, 1, 2] bcast_S2x16384x1_S2x16384x2048_0_1_2 (inv_x X)))
    (broadcastInDim S2x16384x2048 ![0, 1, 2] bcast_S1x1x2048_S2x16384x2048_0_1_2 (broadcastInDim S1x1x2048 ![2] bcast_S2048_S1x1x2048_2 G))
theorem gained_x_at (X : FVec Ideal S2x16384x2048 .f32) (G : FVec Ideal S2048 .f32) (b : Fin 2) (n : Fin 16384) (d : Fin 2048) :
    gained_x X G (ix3 b n d) = (X (ix3 b n d) : EReal) * (inv_x X (ix3 b n 0) : EReal) * (G (ix1 d) : EReal) := by
  unfold gained_x
  generalize inv_x X = I
  pointwise []

/-- The root of a token's mean square, inverted. -/
def inv_c (X : FVec Ideal S2x256x2048 .f32) : FVec Ideal S2x256x1 .f32 :=
  Host.rsqrt (addf (Host.divf (broadcastInDim S2x256x1 ![0, 1] bcast_S2x256_S2x256x1_0_1 (Host.reduceAdd (mulf X X)
      (constant S_ .f32 0x00000000#32) reducesTo_S2x256x2048_S2x256_d2 h_S_))
    (broadcastInDim S2x256x1 ![] bcast_S_S2x256x1 (constant S_ .f32 0x45000000#32)))
    (broadcastInDim S2x256x1 ![] bcast_S_S2x256x1 (constant S_ .f32 0x358637BD#32)))
theorem inv_c_at (X : FVec Ideal S2x256x2048 .f32) (b : Fin 2) (n : Fin 256) (z : Fin 1) :
    inv_c X (ix3 b n z) = Ideal.rsqrt (Ideal.div (∑ e : Fin 2048, (X (ix3 b n e) : EReal) * (X (ix3 b n e) : EReal))
      (Ideal.ofBits .f32 0x45000000#32) + Ideal.ofBits .f32 0x358637BD#32) := by
  pointwise [inv_c]

/-- The normed row with its gain. -/
def gained_c (X : FVec Ideal S2x256x2048 .f32) (G : FVec Ideal S2048 .f32) : FVec Ideal S2x256x2048 .f32 :=
  mulf (mulf X (broadcastInDim S2x256x2048 ![0, 1, 2] bcast_S2x256x1_S2x256x2048_0_1_2 (inv_c X)))
    (broadcastInDim S2x256x2048 ![0, 1, 2] bcast_S1x1x2048_S2x256x2048_0_1_2 (broadcastInDim S1x1x2048 ![2] bcast_S2048_S1x1x2048_2 G))
theorem gained_c_at (X : FVec Ideal S2x256x2048 .f32) (G : FVec Ideal S2048 .f32) (b : Fin 2) (n : Fin 256) (d : Fin 2048) :
    gained_c X G (ix3 b n d) = (X (ix3 b n d) : EReal) * (inv_c X (ix3 b n 0) : EReal) * (G (ix1 d) : EReal) := by
  unfold gained_c
  generalize inv_c X = I
  pointwise []

/-- One plus the latents' scale, their shift, and the context's. -/
def scale_x (N : FVec Ideal S2x12288 .f32) : FVec Ideal S2x1x2048 .f32 :=
  addf (broadcastInDim S2x1x2048 ![] bcast_S_S2x1x2048 (constant S_ .f32 0x3F800000#32)) (extractStridedSlice S2x1x2048 ![0, 0, 2048] (broadcastInDim S2x1x12288 ![0, 2] bcast_S2x12288_S2x1x12288_0_2 N) slices_S2x1x12288_S2x1x2048_0_0_2048)
def shift_x (N : FVec Ideal S2x12288 .f32) : FVec Ideal S2x1x2048 .f32 :=
  extractStridedSlice S2x1x2048 ![0, 0, 0] (broadcastInDim S2x1x12288 ![0, 2] bcast_S2x12288_S2x1x12288_0_2 N) slices_S2x1x12288_S2x1x2048_0_0_0
def scale_c (C : FVec Ideal S12288 .f32) : FVec Ideal S1x1x2048 .f32 :=
  broadcastInDim S1x1x2048 ![2] bcast_S2048_S1x1x2048_2 (addf (broadcastInDim S2048 ![] bcast_S_S2048 (constant S_ .f32 0x3F800000#32)) (extractStridedSlice S2048 ![2048] C slices_S12288_S2048_2048))
def shift_c (C : FVec Ideal S12288 .f32) : FVec Ideal S1x1x2048 .f32 :=
  broadcastInDim S1x1x2048 ![2] bcast_S2048_S1x1x2048_2 (extractStridedSlice S2048 ![0] C slices_S12288_S2048_0)
theorem scale_x_at (N : FVec Ideal S2x12288 .f32) (b : Fin 2) (z : Fin 1) (d : Fin 2048) :
    scale_x N (ix3 b z d) = 1 + (N (ix2 b (scaleLane d)) : EReal) := by
  pointwise [scale_x, scaleLane]
theorem shift_x_at (N : FVec Ideal S2x12288 .f32) (b : Fin 2) (z : Fin 1) (d : Fin 2048) :
    shift_x N (ix3 b z d) = N (ix2 b (shiftLane d)) := by
  pointwise [shift_x, shiftLane]
theorem scale_c_at (C : FVec Ideal S12288 .f32) (y z : Fin 1) (d : Fin 2048) :
    scale_c C (ix3 y z d) = 1 + (C (ix1 (scaleLane d)) : EReal) := by
  pointwise [scale_c, scaleLane]
theorem shift_c_at (C : FVec Ideal S12288 .f32) (y z : Fin 1) (d : Fin 2048) :
    shift_c C (ix3 y z d) = C (ix1 (shiftLane d)) := by
  pointwise [shift_c, shiftLane]

/-- The modulated rows, and their product with all the weights. -/
def hid_x (X : FVec Ideal S2x16384x2048 .f32) (N : FVec Ideal S2x12288 .f32) (G : FVec Ideal S2048 .f32) : FVec Ideal S2x16384x2048 .f32 :=
  addf (mulf (gained_x X G) (broadcastInDim S2x16384x2048 ![0, 1, 2] bcast_S2x1x2048_S2x16384x2048_0_1_2 (scale_x N)))
    (broadcastInDim S2x16384x2048 ![0, 1, 2] bcast_S2x1x2048_S2x16384x2048_0_1_2 (shift_x N))
theorem hid_x_at (X : FVec Ideal S2x16384x2048 .f32) (N : FVec Ideal S2x12288 .f32) (G : FVec Ideal S2048 .f32) (b : Fin 2) (n : Fin 16384)
    (d : Fin 2048) : hid_x X N G (ix3 b n d) = normed (fun e => X (ix3 b n e)) (fun e => G (ix1 e))
      (fun e => N (ix2 b (scaleLane e))) (fun e => N (ix2 b (shiftLane e))) d := by
  have h : hid_x X N G (ix3 b n d) = (gained_x X G (ix3 b n d) : EReal) * (scale_x N (ix3 b 0 d) : EReal)
      + (shift_x N (ix3 b 0 d) : EReal) := by
    unfold hid_x
    generalize gained_x X G = A
    generalize scale_x N = B
    generalize shift_x N = D
    pointwise []
  rw [h, gained_x_at, inv_x_at, scale_x_at, shift_x_at]
  rfl
def all_x (H : FVec Ideal S2x16384x2048 .f32) (A : FVec Ideal S2048x4224 .f32) : FVec Ideal S2x16384x4224 .f32 :=
  Host.dotGeneral dot_S2x16384x2048_S2048x4224_S2x16384x4224_2_0_01_1_n_n none H A
theorem all_x_at (H : FVec Ideal S2x16384x2048 .f32) (A : FVec Ideal S2048x4224 .f32) (b : Fin 2) (n : Fin 16384) (q : Fin 4224) :
    all_x H A (ix3 b n q) = ∑ e : Fin 2048, (H (ix3 b n e) : EReal) * (A (ix2 e q) : EReal) := by
  pointwise [all_x]

/-- The modulated rows, and their product with all the weights. -/
def hid_c (X : FVec Ideal S2x256x2048 .f32) (C : FVec Ideal S12288 .f32) (G : FVec Ideal S2048 .f32) : FVec Ideal S2x256x2048 .f32 :=
  addf (mulf (gained_c X G) (broadcastInDim S2x256x2048 ![0, 1, 2] bcast_S1x1x2048_S2x256x2048_0_1_2 (scale_c C)))
    (broadcastInDim S2x256x2048 ![0, 1, 2] bcast_S1x1x2048_S2x256x2048_0_1_2 (shift_c C))
theorem hid_c_at (X : FVec Ideal S2x256x2048 .f32) (C : FVec Ideal S12288 .f32) (G : FVec Ideal S2048 .f32) (b : Fin 2) (n : Fin 256)
    (d : Fin 2048) : hid_c X C G (ix3 b n d) = normed (fun e => X (ix3 b n e)) (fun e => G (ix1 e))
      (fun e => C (ix1 (scaleLane e))) (fun e => C (ix1 (shiftLane e))) d := by
  have h : hid_c X C G (ix3 b n d) = (gained_c X G (ix3 b n d) : EReal) * (scale_c C (ix3 0 0 d) : EReal)
      + (shift_c C (ix3 0 0 d) : EReal) := by
    unfold hid_c
    generalize gained_c X G = A
    generalize scale_c C = B
    generalize shift_c C = D
    pointwise []
  rw [h, gained_c_at, inv_c_at, scale_c_at, shift_c_at]
  rfl
def all_c (H : FVec Ideal S2x256x2048 .f32) (A : FVec Ideal S2048x4224 .f32) : FVec Ideal S2x256x4224 .f32 :=
  Host.dotGeneral dot_S2x256x2048_S2048x4224_S2x256x4224_2_0_01_1_n_n none H A
theorem all_c_at (H : FVec Ideal S2x256x2048 .f32) (A : FVec Ideal S2048x4224 .f32) (b : Fin 2) (n : Fin 256) (q : Fin 4224) :
    all_c H A (ix3 b n q) = ∑ e : Fin 2048, (H (ix3 b n e) : EReal) * (A (ix2 e q) : EReal) := by
  pointwise [all_c]

/-- The reference's array of 1920 columns. -/
def cat1920 (P : FVec Ideal S2x16384x4224 .f32) (Q : FVec Ideal S2x256x4224 .f32) : FVec Ideal S2x16640x1920 .f32 :=
  concatenate S2x16640x1920 1 [⟨S2x16384x1920, extractStridedSlice S2x16384x1920 ![0, 0, 0] P slices_S2x16384x4224_S2x16384x1920_0_0_0⟩,
    ⟨S2x256x1920, extractStridedSlice S2x256x1920 ![0, 0, 0] Q slices_S2x256x4224_S2x256x1920_0_0_0⟩]
    concatenates_S2x16384x1920_S2x256x1920_S2x16640x1920_d1
theorem cat1920_lat (P : FVec Ideal S2x16384x4224 .f32) (Q : FVec Ideal S2x256x4224 .f32) (b : Fin 2) (n : Fin 16640) (j : Fin 1920)
    (k : Fin 16384) (q : Fin 4224) (hk : n.val = k.val) (hq : q.val = 0 + j.val) : cat1920 P Q (ix3 b n j) = P (ix3 b k q) := by
  have hn : n.val < 16384 := by omega
  pointwise [cat1920]
  rw [dif_pos hn]
  exact congrArg₂ (fun x y => P (ix3 b x y)) (Fin.ext hk) (Fin.ext (by simp only; omega))
theorem cat1920_ctx (P : FVec Ideal S2x16384x4224 .f32) (Q : FVec Ideal S2x256x4224 .f32) (b : Fin 2) (n : Fin 16640) (j : Fin 1920)
    (k : Fin 256) (q : Fin 4224) (hk : n.val = 16384 + k.val) (hq : q.val = 0 + j.val) : cat1920 P Q (ix3 b n j) = Q (ix3 b k q) := by
  have hn : ¬ n.val < 16384 := by omega
  pointwise [cat1920]
  rw [dif_neg hn]
  exact congrArg₂ (fun x y => Q (ix3 b x y)) (Fin.ext (by simp only; omega)) (Fin.ext (by simp only; omega))

/-- The reference's array of 512 columns. -/
def cat512 (P : FVec Ideal S2x16384x4224 .f32) (Q : FVec Ideal S2x256x4224 .f32) : FVec Ideal S2x16640x512 .f32 :=
  concatenate S2x16640x512 1 [⟨S2x16384x512, extractStridedSlice S2x16384x512 ![0, 0, 1920] P slices_S2x16384x4224_S2x16384x512_0_0_1920⟩,
    ⟨S2x256x512, extractStridedSlice S2x256x512 ![0, 0, 1920] Q slices_S2x256x4224_S2x256x512_0_0_1920⟩]
    concatenates_S2x16384x512_S2x256x512_S2x16640x512_d1
theorem cat512_lat (P : FVec Ideal S2x16384x4224 .f32) (Q : FVec Ideal S2x256x4224 .f32) (b : Fin 2) (n : Fin 16640) (j : Fin 512)
    (k : Fin 16384) (q : Fin 4224) (hk : n.val = k.val) (hq : q.val = 1920 + j.val) : cat512 P Q (ix3 b n j) = P (ix3 b k q) := by
  have hn : n.val < 16384 := by omega
  pointwise [cat512]
  rw [dif_pos hn]
  exact congrArg₂ (fun x y => P (ix3 b x y)) (Fin.ext hk) (Fin.ext (by simp only; omega))
theorem cat512_ctx (P : FVec Ideal S2x16384x4224 .f32) (Q : FVec Ideal S2x256x4224 .f32) (b : Fin 2) (n : Fin 16640) (j : Fin 512)
    (k : Fin 256) (q : Fin 4224) (hk : n.val = 16384 + k.val) (hq : q.val = 1920 + j.val) : cat512 P Q (ix3 b n j) = Q (ix3 b k q) := by
  have hn : ¬ n.val < 16384 := by omega
  pointwise [cat512]
  rw [dif_neg hn]
  exact congrArg₂ (fun x y => Q (ix3 b x y)) (Fin.ext (by simp only; omega)) (Fin.ext (by simp only; omega))

/-- The reference's array of 1024 columns. -/
def cat1024 (P : FVec Ideal S2x16384x4224 .f32) (Q : FVec Ideal S2x256x4224 .f32) : FVec Ideal S2x16640x1024 .f32 :=
  concatenate S2x16640x1024 1 [⟨S2x16384x1024, extractStridedSlice S2x16384x1024 ![0, 0, 2432] P slices_S2x16384x4224_S2x16384x1024_0_0_2432⟩,
    ⟨S2x256x1024, extractStridedSlice S2x256x1024 ![0, 0, 2432] Q slices_S2x256x4224_S2x256x1024_0_0_2432⟩]
    concatenates_S2x16384x1024_S2x256x1024_S2x16640x1024_d1
theorem cat1024_lat (P : FVec Ideal S2x16384x4224 .f32) (Q : FVec Ideal S2x256x4224 .f32) (b : Fin 2) (n : Fin 16640) (j : Fin 1024)
    (k : Fin 16384) (q : Fin 4224) (hk : n.val = k.val) (hq : q.val = 2432 + j.val) : cat1024 P Q (ix3 b n j) = P (ix3 b k q) := by
  have hn : n.val < 16384 := by omega
  pointwise [cat1024]
  rw [dif_pos hn]
  exact congrArg₂ (fun x y => P (ix3 b x y)) (Fin.ext hk) (Fin.ext (by simp only; omega))
theorem cat1024_ctx (P : FVec Ideal S2x16384x4224 .f32) (Q : FVec Ideal S2x256x4224 .f32) (b : Fin 2) (n : Fin 16640) (j : Fin 1024)
    (k : Fin 256) (q : Fin 4224) (hk : n.val = 16384 + k.val) (hq : q.val = 2432 + j.val) : cat1024 P Q (ix3 b n j) = Q (ix3 b k q) := by
  have hn : ¬ n.val < 16384 := by omega
  pointwise [cat1024]
  rw [dif_neg hn]
  exact congrArg₂ (fun x y => Q (ix3 b x y)) (Fin.ext (by simp only; omega)) (Fin.ext (by simp only; omega))

/-- The reference's array of 768 columns. -/
def cat768 (P : FVec Ideal S2x16384x4224 .f32) (Q : FVec Ideal S2x256x4224 .f32) : FVec Ideal S2x16640x768 .f32 :=
  concatenate S2x16640x768 1 [⟨S2x16384x768, extractStridedSlice S2x16384x768 ![0, 0, 3456] P slices_S2x16384x4224_S2x16384x768_0_0_3456⟩,
    ⟨S2x256x768, extractStridedSlice S2x256x768 ![0, 0, 3456] Q slices_S2x256x4224_S2x256x768_0_0_3456⟩]
    concatenates_S2x16384x768_S2x256x768_S2x16640x768_d1
theorem cat768_lat (P : FVec Ideal S2x16384x4224 .f32) (Q : FVec Ideal S2x256x4224 .f32) (b : Fin 2) (n : Fin 16640) (j : Fin 768)
    (k : Fin 16384) (q : Fin 4224) (hk : n.val = k.val) (hq : q.val = 3456 + j.val) : cat768 P Q (ix3 b n j) = P (ix3 b k q) := by
  have hn : n.val < 16384 := by omega
  pointwise [cat768]
  rw [dif_pos hn]
  exact congrArg₂ (fun x y => P (ix3 b x y)) (Fin.ext hk) (Fin.ext (by simp only; omega))
theorem cat768_ctx (P : FVec Ideal S2x16384x4224 .f32) (Q : FVec Ideal S2x256x4224 .f32) (b : Fin 2) (n : Fin 16640) (j : Fin 768)
    (k : Fin 256) (q : Fin 4224) (hk : n.val = 16384 + k.val) (hq : q.val = 3456 + j.val) : cat768 P Q (ix3 b n j) = Q (ix3 b k q) := by
  have hn : ¬ n.val < 16384 := by omega
  pointwise [cat768]
  rw [dif_neg hn]
  exact congrArg₂ (fun x y => Q (ix3 b x y)) (Fin.ext (by simp only; omega)) (Fin.ext (by simp only; omega))

/-- The two products with the weights, from the arguments. -/
def px (X : FVec Ideal S2x16384x2048 .f32) (N : FVec Ideal S2x12288 .f32) (G : FVec Ideal S2048 .f32) (A : FVec Ideal S2048x4224 .f32) :
    FVec Ideal S2x16384x4224 .f32 := all_x (hid_x X N G) A
def pc (Y : FVec Ideal S2x256x2048 .f32) (C : FVec Ideal S12288 .f32) (G : FVec Ideal S2048 .f32) (A : FVec Ideal S2048x4224 .f32) :
    FVec Ideal S2x256x4224 .f32 := all_c (hid_c Y C G) A
theorem px_at (X : FVec Ideal S2x16384x2048 .f32) (N : FVec Ideal S2x12288 .f32) (G : FVec Ideal S2048 .f32) (A : FVec Ideal S2048x4224 .f32)
    (b : Fin 2) (n : Fin 16384) (q : Fin 4224) : px X N G A (ix3 b n q) = proj (fun e => X (ix3 b n e)) (fun e => G (ix1 e))
      (fun e => N (ix2 b (scaleLane e))) (fun e => N (ix2 b (shiftLane e))) (fun e => A (ix2 e q)) := by
  unfold px
  rw [all_x_at]
  simp only [hid_x_at]
  rfl
theorem pc_at (Y : FVec Ideal S2x256x2048 .f32) (C : FVec Ideal S12288 .f32) (G : FVec Ideal S2048 .f32) (A : FVec Ideal S2048x4224 .f32)
    (b : Fin 2) (n : Fin 256) (q : Fin 4224) : pc Y C G A (ix3 b n q) = proj (fun e => Y (ix3 b n e)) (fun e => G (ix1 e))
      (fun e => C (ix1 (scaleLane e))) (fun e => C (ix1 (shiftLane e))) (fun e => A (ix2 e q)) := by
  unfold pc
  rw [all_c_at]
  simp only [hid_c_at]
  rfl

end Cert.Reference2Ideal.Value
-- ==== Proof.InEqual.lean ====
/- The in-projection call and its reference hold the same four arrays. -/
module
public import proofs.«01_k».proof.Proof.InHost
public import proofs.«01_k».proof.Proof.InRef
public import Idealize.ShloMosaic.Lib.Pointwise.Index
import Idealize.ShloMosaic.Lib.Pointwise
@[expose] public section
set_option maxRecDepth 16384
noncomputable section
namespace Cert.InEqual
open Cert.Normed
open Cert.Kernel2Ideal
open Cert.Kernel2Ideal.Value (hidden hidden_lat hidden_ctx stream mods gainRow)
open Cert.Reference2Ideal.Value (px px_at pc pc_at)
open Idealize.ShloMosaic Idealize.ShloMosaic.TcCoe Idealize.SL.Sem

theorem same1920 (X : FVec Ideal S2x16384x2048 .f32) (Y : FVec Ideal S2x256x2048 .f32) (N : FVec Ideal S2x12288 .f32)
    (C : FVec Ideal S12288 .f32) (G : FVec Ideal S2048 .f32) (A : FVec Ideal S2048x4224 .f32) :
    Value.OUT1920 (stream X Y) (mods N C) (gainRow G) (Value.part1920 A)
      = Cert.Reference2Ideal.Value.cat1920 (px X N G A) (pc Y C G A) := by
  refine funext fun (j : S2x16640x1920.Idx) => ?_
  idx_vars j
  have hj : 0 + j2.val < 4224 := by omega
  rw [Value.OUT1920_at _ _ _ _ j0 j1 j2 _ rfl rfl rfl]
  by_cases hn : j1.val < 16384
  · rw [Cert.Reference2Ideal.Value.cat1920_lat _ _ j0 j1 j2 ⟨j1.val, hn⟩ ⟨0 + j2.val, hj⟩ rfl rfl, px_at,
      hidden_lat X Y N C G j0 j1 ⟨j1.val, hn⟩ rfl]
    simp only [Value.part1920_at A _ j2 ⟨0 + j2.val, hj⟩ rfl]
    rfl
  · have h : j1.val = 16384 + (⟨j1.val - 16384, by omega⟩ : Fin 256).val := by
      simp only
      omega
    rw [Cert.Reference2Ideal.Value.cat1920_ctx _ _ j0 j1 j2 _ ⟨0 + j2.val, hj⟩ h rfl, pc_at, hidden_ctx X Y N C G j0 j1 _ h]
    simp only [Value.part1920_at A _ j2 ⟨0 + j2.val, hj⟩ rfl]
    rfl

theorem same512 (X : FVec Ideal S2x16384x2048 .f32) (Y : FVec Ideal S2x256x2048 .f32) (N : FVec Ideal S2x12288 .f32)
    (C : FVec Ideal S12288 .f32) (G : FVec Ideal S2048 .f32) (A : FVec Ideal S2048x4224 .f32) :
    Value.OUT512 (stream X Y) (mods N C) (gainRow G) (Value.part512 A)
      = Cert.Reference2Ideal.Value.cat512 (px X N G A) (pc Y C G A) := by
  refine funext fun (j : S2x16640x512.Idx) => ?_
  idx_vars j
  have hj : 1920 + j2.val < 4224 := by omega
  rw [Value.OUT512_at _ _ _ _ j0 j1 j2 _ rfl rfl rfl]
  by_cases hn : j1.val < 16384
  · rw [Cert.Reference2Ideal.Value.cat512_lat _ _ j0 j1 j2 ⟨j1.val, hn⟩ ⟨1920 + j2.val, hj⟩ rfl rfl, px_at,
      hidden_lat X Y N C G j0 j1 ⟨j1.val, hn⟩ rfl]
    simp only [Value.part512_at A _ j2 ⟨1920 + j2.val, hj⟩ rfl]
    rfl
  · have h : j1.val = 16384 + (⟨j1.val - 16384, by omega⟩ : Fin 256).val := by
      simp only
      omega
    rw [Cert.Reference2Ideal.Value.cat512_ctx _ _ j0 j1 j2 _ ⟨1920 + j2.val, hj⟩ h rfl, pc_at, hidden_ctx X Y N C G j0 j1 _ h]
    simp only [Value.part512_at A _ j2 ⟨1920 + j2.val, hj⟩ rfl]
    rfl

theorem same1024 (X : FVec Ideal S2x16384x2048 .f32) (Y : FVec Ideal S2x256x2048 .f32) (N : FVec Ideal S2x12288 .f32)
    (C : FVec Ideal S12288 .f32) (G : FVec Ideal S2048 .f32) (A : FVec Ideal S2048x4224 .f32) :
    Value.OUT1024 (stream X Y) (mods N C) (gainRow G) (Value.part1024 A)
      = Cert.Reference2Ideal.Value.cat1024 (px X N G A) (pc Y C G A) := by
  refine funext fun (j : S2x16640x1024.Idx) => ?_
  idx_vars j
  have hj : 2432 + j2.val < 4224 := by omega
  rw [Value.OUT1024_at _ _ _ _ j0 j1 j2 _ rfl rfl rfl]
  by_cases hn : j1.val < 16384
  · rw [Cert.Reference2Ideal.Value.cat1024_lat _ _ j0 j1 j2 ⟨j1.val, hn⟩ ⟨2432 + j2.val, hj⟩ rfl rfl, px_at,
      hidden_lat X Y N C G j0 j1 ⟨j1.val, hn⟩ rfl]
    simp only [Value.part1024_at A _ j2 ⟨2432 + j2.val, hj⟩ rfl]
    rfl
  · have h : j1.val = 16384 + (⟨j1.val - 16384, by omega⟩ : Fin 256).val := by
      simp only
      omega
    rw [Cert.Reference2Ideal.Value.cat1024_ctx _ _ j0 j1 j2 _ ⟨2432 + j2.val, hj⟩ h rfl, pc_at, hidden_ctx X Y N C G j0 j1 _ h]
    simp only [Value.part1024_at A _ j2 ⟨2432 + j2.val, hj⟩ rfl]
    rfl

theorem same768 (X : FVec Ideal S2x16384x2048 .f32) (Y : FVec Ideal S2x256x2048 .f32) (N : FVec Ideal S2x12288 .f32)
    (C : FVec Ideal S12288 .f32) (G : FVec Ideal S2048 .f32) (A : FVec Ideal S2048x4224 .f32) :
    Value.OUT768 (stream X Y) (mods N C) (gainRow G) (Value.part768 A)
      = Cert.Reference2Ideal.Value.cat768 (px X N G A) (pc Y C G A) := by
  refine funext fun (j : S2x16640x768.Idx) => ?_
  idx_vars j
  have hj : 3456 + j2.val < 4224 := by omega
  rw [Value.OUT768_at _ _ _ _ j0 j1 j2 _ rfl rfl rfl]
  by_cases hn : j1.val < 16384
  · rw [Cert.Reference2Ideal.Value.cat768_lat _ _ j0 j1 j2 ⟨j1.val, hn⟩ ⟨3456 + j2.val, hj⟩ rfl rfl, px_at,
      hidden_lat X Y N C G j0 j1 ⟨j1.val, hn⟩ rfl]
    simp only [Value.part768_at A _ j2 ⟨3456 + j2.val, hj⟩ rfl]
    rfl
  · have h : j1.val = 16384 + (⟨j1.val - 16384, by omega⟩ : Fin 256).val := by
      simp only
      omega
    rw [Cert.Reference2Ideal.Value.cat768_ctx _ _ j0 j1 j2 _ ⟨3456 + j2.val, hj⟩ h rfl, pc_at, hidden_ctx X Y N C G j0 j1 _ h]
    simp only [Value.part768_at A _ j2 ⟨3456 + j2.val, hj⟩ rfl]
    rfl
variable (m : (ℓ : Loc nD τ sig) → Buf (Elt Ideal) ℓ)

/-- What the call leaves in its output of 1920 columns, as the reference's function of the arguments. -/
theorem result1920 (c : Dev nD) : (Gen.dats m 0 c).arrAt 7 cfg0.N = Cert.Reference2Ideal.Value.cat1920
    (px (m ((c : Thread nD τ).loc main_arg0)) (m ((c : Thread nD τ).loc main_arg2)) (m ((c : Thread nD τ).loc main_arg4)) (m ((c : Thread nD τ).loc main_arg5)))
    (pc (m ((c : Thread nD τ).loc main_arg1)) (m ((c : Thread nD τ).loc main_arg3)) (m ((c : Thread nD τ).loc main_arg4)) (m ((c : Thread nD τ).loc main_arg5))) := by
  rw [Value.final1920, Value.stream_eq, Value.mods_arr, Value.gain_eq, Value.part1920_eq]
  exact same1920 _ _ _ _ _ _

/-- What the call leaves in its output of 512 columns, as the reference's function of the arguments. -/
theorem result512 (c : Dev nD) : (Gen.dats m 0 c).arrAt 8 cfg0.N = Cert.Reference2Ideal.Value.cat512
    (px (m ((c : Thread nD τ).loc main_arg0)) (m ((c : Thread nD τ).loc main_arg2)) (m ((c : Thread nD τ).loc main_arg4)) (m ((c : Thread nD τ).loc main_arg5)))
    (pc (m ((c : Thread nD τ).loc main_arg1)) (m ((c : Thread nD τ).loc main_arg3)) (m ((c : Thread nD τ).loc main_arg4)) (m ((c : Thread nD τ).loc main_arg5))) := by
  rw [Value.final512, Value.stream_eq, Value.mods_arr, Value.gain_eq, Value.part512_eq]
  exact same512 _ _ _ _ _ _

/-- What the call leaves in its output of 1024 columns, as the reference's function of the arguments. -/
theorem result1024 (c : Dev nD) : (Gen.dats m 0 c).arrAt 9 cfg0.N = Cert.Reference2Ideal.Value.cat1024
    (px (m ((c : Thread nD τ).loc main_arg0)) (m ((c : Thread nD τ).loc main_arg2)) (m ((c : Thread nD τ).loc main_arg4)) (m ((c : Thread nD τ).loc main_arg5)))
    (pc (m ((c : Thread nD τ).loc main_arg1)) (m ((c : Thread nD τ).loc main_arg3)) (m ((c : Thread nD τ).loc main_arg4)) (m ((c : Thread nD τ).loc main_arg5))) := by
  rw [Value.final1024, Value.stream_eq, Value.mods_arr, Value.gain_eq, Value.part1024_eq]
  exact same1024 _ _ _ _ _ _

/-- What the call leaves in its output of 768 columns, as the reference's function of the arguments. -/
theorem result768 (c : Dev nD) : (Gen.dats m 0 c).arrAt 10 cfg0.N = Cert.Reference2Ideal.Value.cat768
    (px (m ((c : Thread nD τ).loc main_arg0)) (m ((c : Thread nD τ).loc main_arg2)) (m ((c : Thread nD τ).loc main_arg4)) (m ((c : Thread nD τ).loc main_arg5)))
    (pc (m ((c : Thread nD τ).loc main_arg1)) (m ((c : Thread nD τ).loc main_arg3)) (m ((c : Thread nD τ).loc main_arg4)) (m ((c : Thread nD τ).loc main_arg5))) := by
  rw [Value.final768, Value.stream_eq, Value.mods_arr, Value.gain_eq, Value.part768_eq]
  exact same768 _ _ _ _ _ _

end Cert.InEqual
-- ==== Proof.OutBlocks.lean ====
/- The out-projection call, its first two outputs block by block: the stream with the gated product of the four mixers
   added, and that row normed, scaled and shifted for the experts. The body takes a block of 256 tokens as two halves. -/
module
public import proofs.«01_k».proof.Proof.Gen.Kernel3Ideal.Value
public import proofs.«01_k».proof.Proof.Normed
import Idealize.ShloMosaic.Lib.Pointwise
import Idealize.ShloMosaic.Lib.Pipeline.ValueKit
@[expose] public section
set_option maxRecDepth 16384
noncomputable section
namespace Cert.Kernel3Ideal.Value
open Cert.Kernel3Ideal Cert.Kernel3Ideal.Gen Cert.Normed
open Idealize.ShloMosaic Idealize.ShloMosaic.TcCoe Idealize.SL.Sem
open Idealize.ShloMosaic.Pipeline (Dat)

/-- Row `r` of the lower and of the upper half of a block. -/
def low (r : Fin 128) : Fin 256 := ⟨r.val, by omega⟩
def high (r : Fin 128) : Fin 256 := ⟨128 + r.val, by omega⟩

/-! What the body computes of a half. -/

theorem pay5_of (a : Vec Ideal S1x128x512 .bf16) (w0 : Vec Ideal S512x2048 .bf16) (b : Vec Ideal S1x128x512 .f32)
    (w1 : Vec Ideal S512x2048 .bf16) (c : Vec Ideal S1x128x512 .bf16) (w2 : Vec Ideal S512x2048 .bf16) (d : Vec Ideal S1x128x512 .bf16)
    (w3 : Vec Ideal S512x2048 .bf16) (A B C D : Fin 512 → EReal) (w : Fin 2048 → EReal) (r : Fin 128) (j : Fin 2048)
    (ha : ∀ e, a (ix3 0 r e) = A e) (hb : ∀ e, b (ix3 0 r e) = B e) (hc : ∀ e, c (ix3 0 r e) = C e) (hd : ∀ e, d (ix3 0 r e) = D e)
    (h0 : ∀ e, w0 (ix2 e j) = w (part 0 e)) (h1 : ∀ e, w1 (ix2 e j) = w (part 1 e)) (h2 : ∀ e, w2 (ix2 e j) = w (part 2 e))
    (h3 : ∀ e, w3 (ix2 e j) = w (part 3 e)) : k0_pay5 a w0 b w1 c w2 d w3 (ix2 r j) = mixed A B C D w := by
  pointwise [k0_pay5]
  simp only [ha, hb, hc, hd, h0, h1, h2, h3]
  rfl

theorem pay8_of (a : Vec Ideal S1x128x512 .bf16) (w0 : Vec Ideal S512x2048 .bf16) (b : Vec Ideal S1x128x512 .f32)
    (w1 : Vec Ideal S512x2048 .bf16) (c : Vec Ideal S1x128x512 .bf16) (w2 : Vec Ideal S512x2048 .bf16) (d : Vec Ideal S1x128x512 .bf16)
    (w3 : Vec Ideal S512x2048 .bf16) (A B C D : Fin 512 → EReal) (w : Fin 2048 → EReal) (r : Fin 128) (j : Fin 2048)
    (ha : ∀ e, a (ix3 0 r e) = A e) (hb : ∀ e, b (ix3 0 r e) = B e) (hc : ∀ e, c (ix3 0 r e) = C e) (hd : ∀ e, d (ix3 0 r e) = D e)
    (h0 : ∀ e, w0 (ix2 e j) = w (part 0 e)) (h1 : ∀ e, w1 (ix2 e j) = w (part 1 e)) (h2 : ∀ e, w2 (ix2 e j) = w (part 2 e))
    (h3 : ∀ e, w3 (ix2 e j) = w (part 3 e)) :
    k0_pay8 (k0_pay6 a) (k0_pay7 w0) (constant S128x2048 .f32 0x00000000#32) b w1 c w2 d w3 (ix2 r j) = mixed A B C D w :=
  pay5_of a w0 b w1 c w2 d w3 A B C D w r j ha hb hc hd h0 h1 h2 h3

theorem pay9_at (v : FVec Ideal S128x2048 .f32) (x : Vec Ideal S1x128x2048 .f32) (g : Vec Ideal S1x1x2048 .f32) (r : Fin 128)
    (j : Fin 2048) : k0_pay9 v x g (ix2 r j) = (x (ix3 0 r j) : EReal) + (g (ix3 0 0 j) : EReal) * (v (ix2 r j) : EReal) := by
  pointwise [k0_pay9]
theorem pay10_at (v : FVec Ideal S128x2048 .f32) (x : Vec Ideal S1x128x2048 .f32) (g : Vec Ideal S1x1x2048 .f32) (z : Fin 1)
    (r : Fin 128) (j : Fin 2048) : k0_pay10 v x g (ix3 z r j) = k0_pay9 v x g (ix2 r j) := by
  unfold k0_pay10
  generalize k0_pay9 v x g = h
  pointwise []

/-- The normed and modulated row of a half, from the row itself. -/
theorem pay13_at (v : FVec Ideal S128x2048 .f32) (g : Vec Ideal S1x2048 .f32) (sc sh : Vec Ideal S1x1x2048 .f32) (z : Fin 1)
    (r : Fin 128) (j : Fin 2048) : k0_pay13 v (mulf v v) g sc sh (ix3 z r j) = normed (fun e => v (ix2 r e)) (fun e => g (ix2 0 e))
      (fun e => sc (ix3 0 0 e)) (fun e => sh (ix3 0 0 e)) j := by
  pointwise [k0_pay13, k0_pay12]
  rfl

/-! The loads of a half. -/
theorem ld_y0 (x : Vec Ideal S1x256x512 .bf16) (r : Fin 128) (e : Fin 512) :
    View.ld x r0_0 (ix3 0 r e) = x (ix3 0 (low r) e) := by
  rw [View.ld_unit]
  pointwise [low]
theorem ld_y5 (x : Vec Ideal S1x256x512 .bf16) (r : Fin 128) (e : Fin 512) :
    View.ld x r0_5 (ix3 0 r e) = x (ix3 0 (high r) e) := by
  rw [View.ld_unit]
  pointwise [high]
theorem ld_yf0 (x : Vec Ideal S1x256x512 .f32) (r : Fin 128) (e : Fin 512) :
    View.ld x r0_0 (ix3 0 r e) = x (ix3 0 (low r) e) := by
  rw [View.ld_unit]
  pointwise [low]
theorem ld_yf5 (x : Vec Ideal S1x256x512 .f32) (r : Fin 128) (e : Fin 512) :
    View.ld x r0_5 (ix3 0 r e) = x (ix3 0 (high r) e) := by
  rw [View.ld_unit]
  pointwise [high]
theorem ld_x6 (x : Vec Ideal S1x256x2048 .f32) (r : Fin 128) (e : Fin 2048) :
    View.ld x r0_6 (ix3 0 r e) = x (ix3 0 (low r) e) := by
  rw [View.ld_unit]
  pointwise [low]
theorem ld_x15 (x : Vec Ideal S1x256x2048 .f32) (r : Fin 128) (e : Fin 2048) :
    View.ld x r0_15 (ix3 0 r e) = x (ix3 0 (high r) e) := by
  rw [View.ld_unit]
  pointwise [high]
theorem ld_w0 (x : Vec Ideal S2048x2048 .bf16) (e : Fin 512) (j : Fin 2048) :
    View.ld x r0_1 (ix2 e j) = x (ix2 (part 0 e) j) := by
  rw [View.ld_unit]
  pointwise [part]
theorem ld_w1 (x : Vec Ideal S2048x2048 .bf16) (e : Fin 512) (j : Fin 2048) :
    View.ld x r0_2 (ix2 e j) = x (ix2 (part 1 e) j) := by
  rw [View.ld_unit]
  pointwise [part]
theorem ld_w2 (x : Vec Ideal S2048x2048 .bf16) (e : Fin 512) (j : Fin 2048) :
    View.ld x r0_3 (ix2 e j) = x (ix2 (part 2 e) j) := by
  rw [View.ld_unit]
  pointwise [part]
theorem ld_w3 (x : Vec Ideal S2048x2048 .bf16) (e : Fin 512) (j : Fin 2048) :
    View.ld x r0_4 (ix2 e j) = x (ix2 (part 3 e) j) := by
  rw [View.ld_unit]
  pointwise [part]
theorem ld_m7 (x : Vec Ideal S1x1x12288 .f32) (e : Fin 2048) : View.ld x r0_7 (ix3 0 0 e) = x (ix3 0 0 (gateLane e)) := by
  rw [View.ld_unit]
  pointwise [gateLane]
theorem ld_m9 (x : Vec Ideal S1x1x12288 .f32) (e : Fin 2048) : View.ld x r0_9 (ix3 0 0 e) = x (ix3 0 0 (scaleLane2 e)) := by
  rw [View.ld_unit]
  pointwise [scaleLane2]
theorem ld_m10 (x : Vec Ideal S1x1x12288 .f32) (e : Fin 2048) : View.ld x r0_10 (ix3 0 0 e) = x (ix3 0 0 (shiftLane2 e)) := by
  rw [View.ld_unit]
  pointwise [shiftLane2]
theorem ld_g (x : Vec Ideal S1x2048 .f32) (e : Fin 2048) : View.ld x r0_8 (ix2 0 e) = x (ix2 0 e) := by
  rw [View.ld_unit_zero (by decide) _ x]

/-- A row of the block after the step. -/
def blockRow (x0 : Vec Ideal S1x256x512 .bf16) (x1 : Vec Ideal S1x256x512 .f32) (x2 x3 : Vec Ideal S1x256x512 .bf16)
    (x4 : Vec Ideal S1x256x2048 .f32) (x5 : Vec Ideal S1x1x12288 .f32) (x7 : Vec Ideal S2048x2048 .bf16) (r : Fin 256) : Fin 2048 → EReal :=
  stepped (fun e => x4 (ix3 0 r e)) (fun e => x5 (ix3 0 0 (gateLane e))) (fun e => x0 (ix3 0 r e)) (fun e => x1 (ix3 0 r e))
    (fun e => x2 (ix3 0 r e)) (fun e => x3 (ix3 0 r e)) (fun e j => x7 (ix2 e j))

theorem low_at (x0 : Vec Ideal S1x256x512 .bf16) (x1 : Vec Ideal S1x256x512 .f32) (x2 x3 : Vec Ideal S1x256x512 .bf16)
    (x4 : Vec Ideal S1x256x2048 .f32) (x5 : Vec Ideal S1x1x12288 .f32) (x6 : Vec Ideal S1x2048 .f32) (x7 : Vec Ideal S2048x2048 .bf16)
    (x8 : Vec Ideal S64x2048 .f32) (x9 : Vec Ideal S64x256 .f32) (r : Fin 128) (j : Fin 2048) :
    k0_pay132 x0 x1 x2 x3 x4 x5 x6 x7 x8 x9 (ix2 r j) = blockRow x0 x1 x2 x3 x4 x5 x7 (low r) j := by
  have h : k0_pay130 x0 x1 x2 x3 x4 x5 x6 x7 x8 x9 (ix2 r j) = mixed (fun e => x0 (ix3 0 (low r) e)) (fun e => x1 (ix3 0 (low r) e))
      (fun e => x2 (ix3 0 (low r) e)) (fun e => x3 (ix3 0 (low r) e)) (fun e => x7 (ix2 e j)) :=
    pay5_of _ _ _ _ _ _ _ _ _ _ _ _ _ r j (fun e => ld_y0 x0 r e) (fun e => ld_yf0 x1 r e) (fun e => ld_y0 x2 r e)
      (fun e => ld_y0 x3 r e) (fun e => ld_w0 x7 e j) (fun e => ld_w1 x7 e j) (fun e => ld_w2 x7 e j) (fun e => ld_w3 x7 e j)
  refine (pay9_at _ _ _ r j).trans ?_
  exact congrArg₂ (· + ·) (ld_x6 x4 r j) (congrArg₂ (· * ·) (ld_m7 x5 j) h)
theorem high_at (x0 : Vec Ideal S1x256x512 .bf16) (x1 : Vec Ideal S1x256x512 .f32) (x2 x3 : Vec Ideal S1x256x512 .bf16)
    (x4 : Vec Ideal S1x256x2048 .f32) (x5 : Vec Ideal S1x1x12288 .f32) (x6 : Vec Ideal S1x2048 .f32) (x7 : Vec Ideal S2048x2048 .bf16)
    (x8 : Vec Ideal S64x2048 .f32) (x9 : Vec Ideal S64x256 .f32) (r : Fin 128) (j : Fin 2048) :
    k0_pay158 x0 x1 x2 x3 x4 x5 x6 x7 x8 x9 (ix2 r j) = blockRow x0 x1 x2 x3 x4 x5 x7 (high r) j := by
  have h : k0_pay131 x0 x1 x2 x3 x4 x5 x6 x7 x8 x9 (ix2 r j) = mixed (fun e => x0 (ix3 0 (high r) e)) (fun e => x1 (ix3 0 (high r) e))
      (fun e => x2 (ix3 0 (high r) e)) (fun e => x3 (ix3 0 (high r) e)) (fun e => x7 (ix2 e j)) :=
    pay8_of _ _ _ _ _ _ _ _ _ _ _ _ _ r j (fun e => ld_y5 x0 r e) (fun e => ld_yf5 x1 r e) (fun e => ld_y5 x2 r e)
      (fun e => ld_y5 x3 r e) (fun e => ld_w0 x7 e j) (fun e => ld_w1 x7 e j) (fun e => ld_w2 x7 e j) (fun e => ld_w3 x7 e j)
  refine (pay9_at _ _ _ r j).trans ?_
  exact congrArg₂ (· + ·) (ld_x15 x4 r j) (congrArg₂ (· * ·) (ld_m7 x5 j) h)

/-- What the body leaves of the stream. -/
theorem out10_at (x0 : Vec Ideal S1x256x512 .bf16) (x1 : Vec Ideal S1x256x512 .f32) (x2 x3 : Vec Ideal S1x256x512 .bf16)
    (x4 : Vec Ideal S1x256x2048 .f32) (x5 : Vec Ideal S1x1x12288 .f32) (x6 : Vec Ideal S1x2048 .f32) (x7 : Vec Ideal S2048x2048 .bf16)
    (x8 : Vec Ideal S64x2048 .f32) (x9 : Vec Ideal S64x256 .f32) (z : Fin 1) (r : Fin 256) (j : Fin 2048) :
    out0_10 x0 x1 x2 x3 x4 x5 x6 x7 x8 x9 (ix3 z r j) = blockRow x0 x1 x2 x3 x4 x5 x7 r j := by
  canon_tiles y h
  · idx_vars y
    have hr : r = high y1 := Fin.ext (by simp only [high]; exact h1)
    have hj : j = y2 := Fin.ext h2
    rw [hr, hj]
    exact (pay10_at _ _ _ _ y1 y2).trans (high_at x0 x1 x2 x3 x4 x5 x6 x7 x8 x9 y1 y2)
  · idx_vars y
    have hr : r = low y1 := Fin.ext (by simp only [low]; exact h1)
    have hj : j = y2 := Fin.ext h2
    rw [hr, hj]
    exact (pay10_at _ _ _ _ y1 y2).trans (low_at x0 x1 x2 x3 x4 x5 x6 x7 x8 x9 y1 y2)

/-- What the body leaves of the normed rows. -/
theorem out11_at (x0 : Vec Ideal S1x256x512 .bf16) (x1 : Vec Ideal S1x256x512 .f32) (x2 x3 : Vec Ideal S1x256x512 .bf16)
    (x4 : Vec Ideal S1x256x2048 .f32) (x5 : Vec Ideal S1x1x12288 .f32) (x6 : Vec Ideal S1x2048 .f32) (x7 : Vec Ideal S2048x2048 .bf16)
    (x8 : Vec Ideal S64x2048 .f32) (x9 : Vec Ideal S64x256 .f32) (z : Fin 1) (r : Fin 256) (j : Fin 2048) :
    out0_11 x0 x1 x2 x3 x4 x5 x6 x7 x8 x9 (ix3 z r j) = normed (blockRow x0 x1 x2 x3 x4 x5 x7 r) (fun e => x6 (ix2 0 e))
      (fun e => x5 (ix3 0 0 (scaleLane2 e))) (fun e => x5 (ix3 0 0 (shiftLane2 e))) j := by
  canon_tiles y h
  · idx_vars y
    have hr : r = high y1 := Fin.ext (by simp only [high]; exact h1)
    have hj : j = y2 := Fin.ext h2
    rw [hr, hj]
    refine (pay13_at (k0_pay158 x0 x1 x2 x3 x4 x5 x6 x7 x8 x9) (View.ld x6 r0_8) (View.ld x5 r0_9) (View.ld x5 r0_10) _ y1 y2).trans ?_
    exact normed_congr y2 (fun e => high_at x0 x1 x2 x3 x4 x5 x6 x7 x8 x9 y1 e) (fun e => ld_g x6 e) (fun e => ld_m9 x5 e) (fun e => ld_m10 x5 e)
  · idx_vars y
    have hr : r = low y1 := Fin.ext (by simp only [low]; exact h1)
    have hj : j = y2 := Fin.ext h2
    rw [hr, hj]
    refine (pay13_at (k0_pay132 x0 x1 x2 x3 x4 x5 x6 x7 x8 x9) (View.ld x6 r0_8) (View.ld x5 r0_9) (View.ld x5 r0_10) _ y1 y2).trans ?_
    exact normed_congr y2 (fun e => low_at x0 x1 x2 x3 x4 x5 x6 x7 x8 x9 y1 e) (fun e => ld_g x6 e) (fun e => ld_m9 x5 e) (fun e => ld_m10 x5 e)

end Cert.Kernel3Ideal.Value
-- ==== Proof.OutArrays.lean ====
/- The out-projection call's first two output arrays, index by index. -/
module
public import proofs.«01_k».proof.Proof.OutBlocks
public import proofs.«01_k».proof.Proof.Normed
import Idealize.ShloMosaic.Lib.Pointwise
import Idealize.ShloMosaic.Lib.Pipeline.ValueKit
@[expose] public section
set_option maxRecDepth 16384
noncomputable section
namespace Cert.Kernel3Ideal.Value
open Cert.Kernel3Ideal Cert.Kernel3Ideal.Gen Cert.Normed
open Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val / 65, t.val % 65, 0] ∧ win0_1.index t = ![t.val / 65, t.val % 65, 0] ∧
    win0_2.index t = ![t.val / 65, t.val % 65, 0] ∧ win0_3.index t = ![t.val / 65, t.val % 65, 0] ∧
    win0_4.index t = ![t.val / 65, t.val % 65, 0] ∧ win0_5.index t = ![if t.val % 65 = 64 then 2 else t.val / 65, 0, 0] ∧
    win0_6.index t = ![0, 0] ∧ win0_7.index t = ![0, 0] ∧ win0_10.index t = ![t.val / 65, t.val % 65, 0] ∧
    win0_11.index t = ![t.val / 65, t.val % 65, 0] :=
  (by decide +kernel : ∀ t : Fin grid0.N, _)

theorem lt_N (t : Fin cfg0.N) : t.val < 130 := lt_of_lt_of_eq t.isLt N_0

/-- The batch element of a grid point. -/
def bat (t : Fin cfg0.N) : Fin 2 := ⟨t.val / 65, by have := lt_N t; omega⟩
/-- The block of rows of a grid point. -/
def row (t : Fin cfg0.N) : Fin 65 := ⟨t.val % 65, by omega⟩
theorem modRow_tok (t : Fin cfg0.N) (r : Fin 256) :
    (modRow (bat t) (tok (row t) r)).val = if t.val % 65 = 64 then 2 else t.val / 65 := by
  have h : (16384 ≤ (tok (row t) r).val) ↔ t.val % 65 = 64 := by simp only [tok, row]; omega
  unfold modRow
  by_cases e : t.val % 65 = 64
  · rw [if_pos (h.2 e), if_pos e]; rfl
  · rw [if_neg (fun x => e (h.1 x)), if_neg e]; rfl

/-! The entry of each window's block, as an entry of the array the window is of. -/

theorem read0 (X : FVec Ideal S2x16640x512 .bf16) (t : Fin cfg0.N) (z : Fin 1) (r : Fin 256) (d : Fin 512) :
    (show FVec Ideal S1x256x512 .bf16 from ((cfg0.win 0).blk t).view.read (Elt Ideal) X) (ix3 z r d)
      = X (ix3 (bat t) (tok (row t) r) d) := by
  blk_simp [idx t]
  blk_ext [idx t, bat, row, tok]
theorem iblk0 (c : Dev nD) (t : Fin cfg0.N) (z : Fin 1) (r : Fin 256) (d : Fin 512) :
    iblk m c 0 t (ix3 z r d) = V m c main_v1 (ix3 (bat t) (tok (row t) r) d) := read0 (V m c main_v1) t z r d

theorem read1 (X : FVec Ideal S2x16640x512 .f32) (t : Fin cfg0.N) (z : Fin 1) (r : Fin 256) (d : Fin 512) :
    (show FVec Ideal S1x256x512 .f32 from ((cfg0.win 1).blk t).view.read (Elt Ideal) X) (ix3 z r d)
      = X (ix3 (bat t) (tok (row t) r) d) := by
  blk_simp [idx t]
  blk_ext [idx t, bat, row, tok]
theorem iblk1 (c : Dev nD) (t : Fin cfg0.N) (z : Fin 1) (r : Fin 256) (d : Fin 512) :
    iblk m c 1 t (ix3 z r d) = V m c main_v2 (ix3 (bat t) (tok (row t) r) d) := read1 (V m c main_v2) t z r d

theorem read2 (X : FVec Ideal S2x16640x512 .bf16) (t : Fin cfg0.N) (z : Fin 1) (r : Fin 256) (d : Fin 512) :
    (show FVec Ideal S1x256x512 .bf16 from ((cfg0.win 2).blk t).view.read (Elt Ideal) X) (ix3 z r d)
      = X (ix3 (bat t) (tok (row t) r) d) := by
  blk_simp [idx t]
  blk_ext [idx t, bat, row, tok]
theorem iblk2 (c : Dev nD) (t : Fin cfg0.N) (z : Fin 1) (r : Fin 256) (d : Fin 512) :
    iblk m c 2 t (ix3 z r d) = V m c main_v4 (ix3 (bat t) (tok (row t) r) d) := read2 (V m c main_v4) t z r d

theorem read3 (X : FVec Ideal S2x16640x512 .bf16) (t : Fin cfg0.N) (z : Fin 1) (r : Fin 256) (d : Fin 512) :
    (show FVec Ideal S1x256x512 .bf16 from ((cfg0.win 3).blk t).view.read (Elt Ideal) X) (ix3 z r d)
      = X (ix3 (bat t) (tok (row t) r) d) := by
  blk_simp [idx t]
  blk_ext [idx t, bat, row, tok]
theorem iblk3 (c : Dev nD) (t : Fin cfg0.N) (z : Fin 1) (r : Fin 256) (d : Fin 512) :
    iblk m c 3 t (ix3 z r d) = V m c main_v6 (ix3 (bat t) (tok (row t) r) d) := read3 (V m c main_v6) t z r d

theorem read4 (X : FVec Ideal S2x16640x2048 .f32) (t : Fin cfg0.N) (z : Fin 1) (r : Fin 256) (d : Fin 2048) :
    (show FVec Ideal S1x256x2048 .f32 from ((cfg0.win 4).blk t).view.read (Elt Ideal) X) (ix3 z r d)
      = X (ix3 (bat t) (tok (row t) r) d) := by
  blk_simp [idx t]
  blk_ext [idx t, bat, row, tok]
theorem iblk4 (c : Dev nD) (t : Fin cfg0.N) (z : Fin 1) (r : Fin 256) (d : Fin 2048) :
    iblk m c 4 t (ix3 z r d) = V m c main_v11 (ix3 (bat t) (tok (row t) r) d) := read4 (V m c main_v11) t z r d

theorem read5 (X : FVec Ideal S8x1x12288 .f32) (t : Fin cfg0.N) (y z : Fin 1) (r : Fin 256) (d : Fin 12288) :
    (show FVec Ideal S1x1x12288 .f32 from ((cfg0.win 5).blk t).view.read (Elt Ideal) X) (ix3 y z d)
      = X (ix3 (modRow (bat t) (tok (row t) r)) 0 d) := by
  have h := modRow_tok t r
  blk_simp [idx t]
  blk_ext [idx t, h]
theorem iblk5 (c : Dev nD) (t : Fin cfg0.N) (y z : Fin 1) (r : Fin 256) (d : Fin 12288) :
    iblk m c 5 t (ix3 y z d) = V m c main_v10 (ix3 (modRow (bat t) (tok (row t) r)) 0 d) :=
  read5 (V m c main_v10) t y z r d

theorem read6 (X : FVec Ideal S1x2048 .f32) (t : Fin cfg0.N) (z : Fin 1) (d : Fin 2048) :
    (show FVec Ideal S1x2048 .f32 from ((cfg0.win 6).blk t).view.read (Elt Ideal) X) (ix2 z d) = X (ix2 0 d) := by
  blk_simp [idx t]
  blk_ext [idx t]
theorem iblk6 (c : Dev nD) (t : Fin cfg0.N) (z : Fin 1) (d : Fin 2048) :
    iblk m c 6 t (ix2 z d) = V m c main_v16 (ix2 0 d) := read6 (V m c main_v16) t z d

theorem read7 (X : FVec Ideal S2048x2048 .bf16) (t : Fin cfg0.N) (e j : Fin 2048) :
    (show FVec Ideal S2048x2048 .bf16 from ((cfg0.win 7).blk t).view.read (Elt Ideal) X) (ix2 e j) = X (ix2 e j) := by
  blk_simp [idx t]
  blk_ext [idx t]
theorem iblk7 (c : Dev nD) (t : Fin cfg0.N) (e j : Fin 2048) :
    iblk m c 7 t (ix2 e j) = V m c main_v12 (ix2 e j) := read7 (V m c main_v12) t e j

/-- A token's row after the step, from the arrays the call is given. -/
def RES (A : FVec Ideal S2x16640x512 .bf16) (B : FVec Ideal S2x16640x512 .f32) (C D : FVec Ideal S2x16640x512 .bf16)
    (S : FVec Ideal S2x16640x2048 .f32) (M : FVec Ideal S8x1x12288 .f32) (W : FVec Ideal S2048x2048 .bf16) (b : Fin 2) (n : Fin 16640) :
    Fin 2048 → EReal :=
  stepped (fun e => S (ix3 b n e)) (fun e => M (ix3 (modRow b n) 0 (gateLane e))) (fun e => A (ix3 b n e)) (fun e => B (ix3 b n e))
    (fun e => C (ix3 b n e)) (fun e => D (ix3 b n e)) (fun e j => W (ix2 e j))
/-- That row for the experts. -/
def HID (A : FVec Ideal S2x16640x512 .bf16) (B : FVec Ideal S2x16640x512 .f32) (C D : FVec Ideal S2x16640x512 .bf16)
    (S : FVec Ideal S2x16640x2048 .f32) (M : FVec Ideal S8x1x12288 .f32) (G : FVec Ideal S1x2048 .f32) (W : FVec Ideal S2048x2048 .bf16)
    (b : Fin 2) (n : Fin 16640) : Fin 2048 → EReal :=
  normed (RES A B C D S M W b n) (fun e => G (ix2 0 e)) (fun e => M (ix3 (modRow b n) 0 (scaleLane2 e)))
    (fun e => M (ix3 (modRow b n) 0 (shiftLane2 e)))

/-- The call's first two arrays. -/
def OUTX (A : FVec Ideal S2x16640x512 .bf16) (B : FVec Ideal S2x16640x512 .f32) (C D : FVec Ideal S2x16640x512 .bf16)
    (S : FVec Ideal S2x16640x2048 .f32) (M : FVec Ideal S8x1x12288 .f32) (W : FVec Ideal S2048x2048 .bf16) :
    FVec Ideal S2x16640x2048 .f32 := fun j => RES A B C D S M W (j 0) (j 1) (j 2)
def OUTH (A : FVec Ideal S2x16640x512 .bf16) (B : FVec Ideal S2x16640x512 .f32) (C D : FVec Ideal S2x16640x512 .bf16)
    (S : FVec Ideal S2x16640x2048 .f32) (M : FVec Ideal S8x1x12288 .f32) (G : FVec Ideal S1x2048 .f32) (W : FVec Ideal S2048x2048 .bf16) :
    FVec Ideal S2x16640x2048 .bf16 := fun j => HID A B C D S M G W (j 0) (j 1) (j 2)
theorem OUTX_at (A : FVec Ideal S2x16640x512 .bf16) (B : FVec Ideal S2x16640x512 .f32) (C D : FVec Ideal S2x16640x512 .bf16)
    (S : FVec Ideal S2x16640x2048 .f32) (M : FVec Ideal S8x1x12288 .f32) (W : FVec Ideal S2048x2048 .bf16) (b : Fin 2) (n : Fin 16640)
    (k : Fin 2048) (j : S2x16640x2048.Idx) (h0 : (j 0 : ℕ) = b) (h1 : (j 1 : ℕ) = n) (h2 : (j 2 : ℕ) = k) :
    OUTX A B C D S M W j = RES A B C D S M W b n k := by
  obtain rfl : j 0 = b := Fin.ext h0
  obtain rfl : j 1 = n := Fin.ext h1
  obtain rfl : j 2 = k := Fin.ext h2
  rfl
theorem OUTH_at (A : FVec Ideal S2x16640x512 .bf16) (B : FVec Ideal S2x16640x512 .f32) (C D : FVec Ideal S2x16640x512 .bf16)
    (S : FVec Ideal S2x16640x2048 .f32) (M : FVec Ideal S8x1x12288 .f32) (G : FVec Ideal S1x2048 .f32) (W : FVec Ideal S2048x2048 .bf16)
    (b : Fin 2) (n : Fin 16640) (k : Fin 2048) (j : S2x16640x2048.Idx) (h0 : (j 0 : ℕ) = b) (h1 : (j 1 : ℕ) = n) (h2 : (j 2 : ℕ) = k) :
    OUTH A B C D S M G W j = HID A B C D S M G W b n k := by
  obtain rfl : j 0 = b := Fin.ext h0
  obtain rfl : j 1 = n := Fin.ext h1
  obtain rfl : j 2 = k := Fin.ext h2
  rfl

/-- A block's row, from the arrays that the blocks were cut from. -/
theorem row_of (x0 : Vec Ideal S1x256x512 .bf16) (x1 : Vec Ideal S1x256x512 .f32) (x2 x3 : Vec Ideal S1x256x512 .bf16)
    (x4 : Vec Ideal S1x256x2048 .f32) (x5 : Vec Ideal S1x1x12288 .f32) (x7 : Vec Ideal S2048x2048 .bf16)
    (A : FVec Ideal S2x16640x512 .bf16) (B : FVec Ideal S2x16640x512 .f32) (C D : FVec Ideal S2x16640x512 .bf16)
    (S : FVec Ideal S2x16640x2048 .f32) (M : FVec Ideal S8x1x12288 .f32) (W : FVec Ideal S2048x2048 .bf16) (b : Fin 2) (n : Fin 16640)
    (r : Fin 256) (h0 : ∀ e, x0 (ix3 0 r e) = A (ix3 b n e)) (h1 : ∀ e, x1 (ix3 0 r e) = B (ix3 b n e))
    (h2 : ∀ e, x2 (ix3 0 r e) = C (ix3 b n e)) (h3 : ∀ e, x3 (ix3 0 r e) = D (ix3 b n e)) (h4 : ∀ e, x4 (ix3 0 r e) = S (ix3 b n e))
    (h5 : ∀ d, x5 (ix3 0 0 d) = M (ix3 (modRow b n) 0 d)) (h7 : ∀ e j, x7 (ix2 e j) = W (ix2 e j)) :
    blockRow x0 x1 x2 x3 x4 x5 x7 r = RES A B C D S M W b n := by
  unfold blockRow RES
  simp only [h0, h1, h2, h3, h4, h5, h7]

theorem out10_of
    (x0 : Vec Ideal S1x256x512 .bf16) (x1 : Vec Ideal S1x256x512 .f32) (x2 x3 : Vec Ideal S1x256x512 .bf16)
    (x4 : Vec Ideal S1x256x2048 .f32) (x5 : Vec Ideal S1x1x12288 .f32) (x6 : Vec Ideal S1x2048 .f32) (x7 : Vec Ideal S2048x2048 .bf16)
    (x8 : Vec Ideal S64x2048 .f32) (x9 : Vec Ideal S64x256 .f32)
    (A : FVec Ideal S2x16640x512 .bf16) (B : FVec Ideal S2x16640x512 .f32) (C D : FVec Ideal S2x16640x512 .bf16)
    (S : FVec Ideal S2x16640x2048 .f32) (M : FVec Ideal S8x1x12288 .f32) (G : FVec Ideal S1x2048 .f32) (W : FVec Ideal S2048x2048 .bf16)
    (b : Fin 2) (n : Fin 16640) (z : Fin 1) (r : Fin 256) (j : Fin 2048)
    (h0 : ∀ e, x0 (ix3 0 r e) = A (ix3 b n e)) (h1 : ∀ e, x1 (ix3 0 r e) = B (ix3 b n e))
    (h2 : ∀ e, x2 (ix3 0 r e) = C (ix3 b n e)) (h3 : ∀ e, x3 (ix3 0 r e) = D (ix3 b n e)) (h4 : ∀ e, x4 (ix3 0 r e) = S (ix3 b n e))
    (h5 : ∀ d, x5 (ix3 0 0 d) = M (ix3 (modRow b n) 0 d)) (h6 : ∀ e, x6 (ix2 0 e) = G (ix2 0 e))
    (h7 : ∀ e j, x7 (ix2 e j) = W (ix2 e j)) :
    out0_10 x0 x1 x2 x3 x4 x5 x6 x7 x8 x9 (ix3 z r j) = RES A B C D S M W b n j :=
  (out10_at x0 x1 x2 x3 x4 x5 x6 x7 x8 x9 z r j).trans (congrFun (row_of x0 x1 x2 x3 x4 x5 x7 A B C D S M W b n r h0 h1 h2 h3 h4 h5 h7) j)
theorem out11_of
    (x0 : Vec Ideal S1x256x512 .bf16) (x1 : Vec Ideal S1x256x512 .f32) (x2 x3 : Vec Ideal S1x256x512 .bf16)
    (x4 : Vec Ideal S1x256x2048 .f32) (x5 : Vec Ideal S1x1x12288 .f32) (x6 : Vec Ideal S1x2048 .f32) (x7 : Vec Ideal S2048x2048 .bf16)
    (x8 : Vec Ideal S64x2048 .f32) (x9 : Vec Ideal S64x256 .f32)
    (A : FVec Ideal S2x16640x512 .bf16) (B : FVec Ideal S2x16640x512 .f32) (C D : FVec Ideal S2x16640x512 .bf16)
    (S : FVec Ideal S2x16640x2048 .f32) (M : FVec Ideal S8x1x12288 .f32) (G : FVec Ideal S1x2048 .f32) (W : FVec Ideal S2048x2048 .bf16)
    (b : Fin 2) (n : Fin 16640) (z : Fin 1) (r : Fin 256) (j : Fin 2048)
    (h0 : ∀ e, x0 (ix3 0 r e) = A (ix3 b n e)) (h1 : ∀ e, x1 (ix3 0 r e) = B (ix3 b n e))
    (h2 : ∀ e, x2 (ix3 0 r e) = C (ix3 b n e)) (h3 : ∀ e, x3 (ix3 0 r e) = D (ix3 b n e)) (h4 : ∀ e, x4 (ix3 0 r e) = S (ix3 b n e))
    (h5 : ∀ d, x5 (ix3 0 0 d) = M (ix3 (modRow b n) 0 d)) (h6 : ∀ e, x6 (ix2 0 e) = G (ix2 0 e))
    (h7 : ∀ e j, x7 (ix2 e j) = W (ix2 e j)) :
    out0_11 x0 x1 x2 x3 x4 x5 x6 x7 x8 x9 (ix3 z r j) = HID A B C D S M G W b n j := by
  refine (out11_at x0 x1 x2 x3 x4 x5 x6 x7 x8 x9 z r j).trans ?_
  rw [row_of x0 x1 x2 x3 x4 x5 x7 A B C D S M W b n r h0 h1 h2 h3 h4 h5 h7]
  exact normed_congr j (fun _ => rfl) h6 (fun e => h5 (scaleLane2 e)) (fun e => h5 (shiftLane2 e))

theorem final10 (c : Dev nD) : (dats m 0 c).arrAt 10 cfg0.N
    = OUTX (V m c main_v1) (V m c main_v2) (V m c main_v4) (V m c main_v6) (V m c main_v11) (V m c main_v10) (V m c main_v12) := by
  refine (dats m 0 c).arrAt_eq_of_covers 10 _ (by decide +kernel) fun t hf y => ?_
  blk_simp
  rw [after0_10]
  idx_vars y
  rw [OUTX_at _ _ _ _ _ _ _ (bat t) (tok (row t) y1) y2]
  · exact out10_of _ _ _ _ _ _ _ _ _ _ _ _ _ _ _ _ (V m c main_v16) _ _ _ _ _ _ (fun e => iblk0 m c t 0 y1 e) (fun e => iblk1 m c t 0 y1 e)
      (fun e => iblk2 m c t 0 y1 e) (fun e => iblk3 m c t 0 y1 e) (fun e => iblk4 m c t 0 y1 e) (fun d => iblk5 m c t 0 0 y1 d)
      (fun e => iblk6 m c t 0 e) (fun e j => iblk7 m c t e j)
  all_goals blk_simp [idx t, bat, row, tok]

theorem final11 (c : Dev nD) : (dats m 0 c).arrAt 11 cfg0.N
    = OUTH (V m c main_v1) (V m c main_v2) (V m c main_v4) (V m c main_v6) (V m c main_v11) (V m c main_v10) (V m c main_v16) (V m c main_v12) := by
  refine (dats m 0 c).arrAt_eq_of_covers 11 _ (by decide +kernel) fun t hf y => ?_
  blk_simp
  rw [after0_11]
  idx_vars y
  rw [OUTH_at _ _ _ _ _ _ _ _ (bat t) (tok (row t) y1) y2]
  · exact out11_of _ _ _ _ _ _ _ _ _ _ _ _ _ _ _ _ (V m c main_v16) _ _ _ _ _ _ (fun e => iblk0 m c t 0 y1 e) (fun e => iblk1 m c t 0 y1 e)
      (fun e => iblk2 m c t 0 y1 e) (fun e => iblk3 m c t 0 y1 e) (fun e => iblk4 m c t 0 y1 e) (fun d => iblk5 m c t 0 0 y1 d)
      (fun e => iblk6 m c t 0 e) (fun e j => iblk7 m c t e j)
  all_goals blk_simp [idx t, bat, row, tok]

end Cert.Kernel3Ideal.Value
-- ==== Proof.OutHost.lean ====
/- The out-projection call's arrays as the host prepares them, and a token's row in terms of the arguments. -/
module
public import proofs.«01_k».proof.Proof.OutArrays
public import proofs.«01_k».proof.Proof.InHost
public import Idealize.ShloMosaic.Lib.Pointwise.Index
import Idealize.ShloMosaic.Lib.Pointwise
import Idealize.ShloMosaic.Lib.Claim
public import Idealize.ShloMosaic.Lib.StableHlo.RunRead
import Idealize.ShloMosaic.Lib.Pipeline.ValueKit
@[expose] public section
set_option maxRecDepth 16384
noncomputable section
namespace Cert.Kernel3Ideal.Value
open Cert.Kernel3Ideal Cert.Kernel3Ideal.Gen Cert.Normed
open Cert.Kernel2Ideal.Value (stream stream_lat stream_ctx rows rows_lat rows_ctx mods mods_eq gainRow gainRow_at)
open Idealize.ShloMosaic Idealize.ShloMosaic.TcCoe Idealize.SL.Sem

variable (m : (ℓ : Loc nD τ sig) → Buf (Elt Ideal) ℓ)

/-- A mixer's output: the latent tokens followed by the context's. -/
def join (X : FVec Ideal S2x16384x512 .f32) (Y : FVec Ideal S2x256x512 .f32) : FVec Ideal S2x16640x512 .f32 :=
  concatenate S2x16640x512 1 [⟨S2x16384x512, X⟩, ⟨S2x256x512, Y⟩] concatenates_S2x16384x512_S2x256x512_S2x16640x512_d1
/-- The same, cast. -/
def join16 (X : FVec Ideal S2x16384x512 .f32) (Y : FVec Ideal S2x256x512 .f32) : FVec Ideal S2x16640x512 .bf16 :=
  truncf .bf16 (join X Y) bitsLt_bf16_f32
theorem join_lat (X : FVec Ideal S2x16384x512 .f32) (Y : FVec Ideal S2x256x512 .f32) (b : Fin 2) (n : Fin 16640) (d : Fin 512)
    (k : Fin 16384) (hk : n.val = k.val) : join X Y (ix3 b n d) = X (ix3 b k d) := by
  have hn : n.val < 16384 := by omega
  have h1 : (⟨n.val, hn⟩ : Fin 16384) = k := Fin.ext hk
  pointwise [join]
  rw [dif_pos hn, h1]
theorem join_ctx (X : FVec Ideal S2x16384x512 .f32) (Y : FVec Ideal S2x256x512 .f32) (b : Fin 2) (n : Fin 16640) (d : Fin 512)
    (k : Fin 256) (hk : n.val = 16384 + k.val) : join X Y (ix3 b n d) = Y (ix3 b k d) := by
  have hn : ¬ n.val < 16384 := by omega
  have h1 : (⟨n.val - 16384, by omega⟩ : Fin 256) = k := Fin.ext (by simp only; omega)
  pointwise [join]
  rw [dif_neg hn, h1]
theorem join16_at (X : FVec Ideal S2x16384x512 .f32) (Y : FVec Ideal S2x256x512 .f32) (b : Fin 2) (n : Fin 16640) (d : Fin 512) :
    join16 X Y (ix3 b n d) = join X Y (ix3 b n d) := rfl

/-- The weights, cast. -/
def weights (A : FVec Ideal S2048x2048 .f32) : FVec Ideal S2048x2048 .bf16 := truncf .bf16 A bitsLt_bf16_f32
theorem weights_at (A : FVec Ideal S2048x2048 .f32) (e j : Fin 2048) : weights A (ix2 e j) = A (ix2 e j) := rfl

theorem ya_arr (c : Dev nD) : V m c main_v1 = join16 (m ((c : Thread nD τ).loc main_arg2)) (m ((c : Thread nD τ).loc main_arg6)) := by
  unfold_abbrev_sides
  after_reads_simp
  rfl
theorem yb_arr (c : Dev nD) : V m c main_v2 = join (m ((c : Thread nD τ).loc main_arg3)) (m ((c : Thread nD τ).loc main_arg7)) := by
  unfold_abbrev_sides
  after_reads_simp
  rfl
theorem yc_arr (c : Dev nD) : V m c main_v4 = join16 (m ((c : Thread nD τ).loc main_arg4)) (m ((c : Thread nD τ).loc main_arg8)) := by
  unfold_abbrev_sides
  after_reads_simp
  rfl
theorem yd_arr (c : Dev nD) : V m c main_v6 = join16 (m ((c : Thread nD τ).loc main_arg5)) (m ((c : Thread nD τ).loc main_arg9)) := by
  unfold_abbrev_sides
  after_reads_simp
  rfl
theorem stream_arr (c : Dev nD) : V m c main_v11 = stream (m ((c : Thread nD τ).loc main_arg0)) (m ((c : Thread nD τ).loc main_arg1)) := by
  unfold_abbrev_sides
  after_reads_simp
  rfl
theorem mods_arr (c : Dev nD) : V m c main_v10 = mods (m ((c : Thread nD τ).loc main_arg10)) (m ((c : Thread nD τ).loc main_arg11)) := by
  unfold_abbrev_sides
  after_reads_simp
  rfl
theorem gain_arr (c : Dev nD) : V m c main_v16 = gainRow (m ((c : Thread nD τ).loc main_arg12)) := by
  unfold_abbrev_sides
  after_reads_simp
  rfl
theorem weights_arr (c : Dev nD) : V m c main_v12 = weights (m ((c : Thread nD τ).loc main_arg13)) := by
  unfold_abbrev_sides
  after_reads_simp
  rfl

/-- A latent token's row after the step, and that row for the experts. -/
theorem res_lat (X : FVec Ideal S2x16384x2048 .f32) (Y : FVec Ideal S2x256x2048 .f32) (a b c d : FVec Ideal S2x16384x512 .f32)
    (a' b' c' d' : FVec Ideal S2x256x512 .f32) (N : FVec Ideal S2x12288 .f32) (C : FVec Ideal S12288 .f32)
    (W : FVec Ideal S2048x2048 .f32) (p : Fin 2) (n : Fin 16640) (k : Fin 16384) (hk : n.val = k.val) :
    RES (join16 a a') (join b b') (join16 c c') (join16 d d') (stream X Y) (mods N C) (weights W) p n = stepped (fun e => X (ix3 p k e)) (fun e => N (ix2 p (gateLane e)))
      (fun e => a (ix3 p k e)) (fun e => b (ix3 p k e)) (fun e => c (ix3 p k e)) (fun e => d (ix3 p k e)) (fun e j => W (ix2 e j)) := by
  have h : (modRow p n).val = p.val := by
    unfold modRow
    rw [if_neg (by omega)]
  unfold RES
  simp only [stream_lat X Y p n _ k hk, join16_at, join_lat _ _ p n _ k hk, mods_eq, rows_lat N C (modRow p n) p _ h, weights_at]
theorem hid_lat (X : FVec Ideal S2x16384x2048 .f32) (Y : FVec Ideal S2x256x2048 .f32) (a b c d : FVec Ideal S2x16384x512 .f32)
    (a' b' c' d' : FVec Ideal S2x256x512 .f32) (N : FVec Ideal S2x12288 .f32) (C : FVec Ideal S12288 .f32) (G : FVec Ideal S2048 .f32)
    (W : FVec Ideal S2048x2048 .f32) (p : Fin 2) (n : Fin 16640) (k : Fin 16384) (hk : n.val = k.val) :
    HID (join16 a a') (join b b') (join16 c c') (join16 d d') (stream X Y) (mods N C) (gainRow G) (weights W) p n
      = normed (stepped (fun e => X (ix3 p k e)) (fun e => N (ix2 p (gateLane e)))
      (fun e => a (ix3 p k e)) (fun e => b (ix3 p k e)) (fun e => c (ix3 p k e)) (fun e => d (ix3 p k e)) (fun e j => W (ix2 e j)))
      (fun e => G (ix1 e)) (fun e => N (ix2 p (scaleLane2 e))) (fun e => N (ix2 p (shiftLane2 e))) := by
  have h : (modRow p n).val = p.val := by
    unfold modRow
    rw [if_neg (by omega)]
  unfold HID
  rw [res_lat X Y a b c d a' b' c' d' N C W p n k hk]
  simp only [mods_eq, gainRow_at, rows_lat N C (modRow p n) p _ h]

/-- A context token's row after the step, and that row for the experts. -/
theorem res_ctx (X : FVec Ideal S2x16384x2048 .f32) (Y : FVec Ideal S2x256x2048 .f32) (a b c d : FVec Ideal S2x16384x512 .f32)
    (a' b' c' d' : FVec Ideal S2x256x512 .f32) (N : FVec Ideal S2x12288 .f32) (C : FVec Ideal S12288 .f32)
    (W : FVec Ideal S2048x2048 .f32) (p : Fin 2) (n : Fin 16640) (k : Fin 256) (hk : n.val = 16384 + k.val) :
    RES (join16 a a') (join b b') (join16 c c') (join16 d d') (stream X Y) (mods N C) (weights W) p n = stepped (fun e => Y (ix3 p k e)) (fun e => C (ix1 (gateLane e)))
      (fun e => a' (ix3 p k e)) (fun e => b' (ix3 p k e)) (fun e => c' (ix3 p k e)) (fun e => d' (ix3 p k e)) (fun e j => W (ix2 e j)) := by
  have h : modRow p n = 2 := by
    unfold modRow
    rw [if_pos (by omega)]
  unfold RES
  simp only [stream_ctx X Y p n _ k hk, join16_at, join_ctx _ _ p n _ k hk, mods_eq, h, rows_ctx, weights_at]
theorem hid_ctx (X : FVec Ideal S2x16384x2048 .f32) (Y : FVec Ideal S2x256x2048 .f32) (a b c d : FVec Ideal S2x16384x512 .f32)
    (a' b' c' d' : FVec Ideal S2x256x512 .f32) (N : FVec Ideal S2x12288 .f32) (C : FVec Ideal S12288 .f32) (G : FVec Ideal S2048 .f32)
    (W : FVec Ideal S2048x2048 .f32) (p : Fin 2) (n : Fin 16640) (k : Fin 256) (hk : n.val = 16384 + k.val) :
    HID (join16 a a') (join b b') (join16 c c') (join16 d d') (stream X Y) (mods N C) (gainRow G) (weights W) p n
      = normed (stepped (fun e => Y (ix3 p k e)) (fun e => C (ix1 (gateLane e)))
      (fun e => a' (ix3 p k e)) (fun e => b' (ix3 p k e)) (fun e => c' (ix3 p k e)) (fun e => d' (ix3 p k e)) (fun e j => W (ix2 e j)))
      (fun e => G (ix1 e)) (fun e => C (ix1 (scaleLane2 e))) (fun e => C (ix1 (shiftLane2 e))) := by
  have h : modRow p n = 2 := by
    unfold modRow
    rw [if_pos (by omega)]
  unfold HID
  rw [res_ctx X Y a b c d a' b' c' d' N C W p n k hk]
  simp only [mods_eq, gainRow_at, h, rows_ctx]

end Cert.Kernel3Ideal.Value
-- ==== Proof.OutRef.lean ====
/- The reference of the out-projection, index by index. -/
module
public import proofs.«01_k».proof.Proof.Gen.Reference3Ideal.Run
public import proofs.«01_k».proof.Proof.InRef
public import proofs.«01_k».proof.Proof.InHost
public import proofs.«01_k».proof.Proof.Normed
public import Idealize.ShloMosaic.PureOps.Ideal
public import Idealize.ShloMosaic.Lib.Pointwise.Index
import Idealize.ShloMosaic.Lib.Pointwise
import Idealize.ShloMosaic.Lib.Claim
@[expose] public section
set_option maxRecDepth 16384
noncomputable section
namespace Cert.Reference3Ideal.Value
open Cert.Reference3Ideal Cert.Reference3Ideal.Gen Cert.Normed
open Cert.Reference2Ideal.Value (inv_x inv_x_at gained_x gained_x_at inv_c inv_c_at gained_c gained_c_at)
open Idealize.ShloMosaic Idealize.ShloMosaic.TcCoe Idealize.SL.Sem

/-- The latents' gate, one plus their scale, their shift, and the context's. -/
def gate_x (N : FVec Ideal S2x12288 .f32) : FVec Ideal S2x1x2048 .f32 :=
  extractStridedSlice S2x1x2048 ![0, 0, 4096] (broadcastInDim S2x1x12288 ![0, 2] bcast_S2x12288_S2x1x12288_0_2 N) slices_S2x1x12288_S2x1x2048_0_0_4096
def gate_c (C : FVec Ideal S12288 .f32) : FVec Ideal S1x1x2048 .f32 :=
  broadcastInDim S1x1x2048 ![2] bcast_S2048_S1x1x2048_2 (extractStridedSlice S2048 ![4096] C slices_S12288_S2048_4096)
def scale2_x (N : FVec Ideal S2x12288 .f32) : FVec Ideal S2x1x2048 .f32 :=
  addf (broadcastInDim S2x1x2048 ![] bcast_S_S2x1x2048 (constant S_ .f32 0x3F800000#32)) (extractStridedSlice S2x1x2048 ![0, 0, 8192] (broadcastInDim S2x1x12288 ![0, 2] bcast_S2x12288_S2x1x12288_0_2 N) slices_S2x1x12288_S2x1x2048_0_0_8192)
def scale2_c (C : FVec Ideal S12288 .f32) : FVec Ideal S1x1x2048 .f32 :=
  broadcastInDim S1x1x2048 ![2] bcast_S2048_S1x1x2048_2 (addf (broadcastInDim S2048 ![] bcast_S_S2048 (constant S_ .f32 0x3F800000#32)) (extractStridedSlice S2048 ![8192] C slices_S12288_S2048_8192))
def shift2_x (N : FVec Ideal S2x12288 .f32) : FVec Ideal S2x1x2048 .f32 :=
  extractStridedSlice S2x1x2048 ![0, 0, 6144] (broadcastInDim S2x1x12288 ![0, 2] bcast_S2x12288_S2x1x12288_0_2 N) slices_S2x1x12288_S2x1x2048_0_0_6144
def shift2_c (C : FVec Ideal S12288 .f32) : FVec Ideal S1x1x2048 .f32 :=
  broadcastInDim S1x1x2048 ![2] bcast_S2048_S1x1x2048_2 (extractStridedSlice S2048 ![6144] C slices_S12288_S2048_6144)
theorem gate_x_at (N : FVec Ideal S2x12288 .f32) (b : Fin 2) (z : Fin 1) (d : Fin 2048) :
    gate_x N (ix3 b z d) = N (ix2 b (gateLane d)) := by
  pointwise [gate_x, gateLane]
theorem gate_c_at (C : FVec Ideal S12288 .f32) (y z : Fin 1) (d : Fin 2048) :
    gate_c C (ix3 y z d) = C (ix1 (gateLane d)) := by
  pointwise [gate_c, gateLane]
theorem scale2_x_at (N : FVec Ideal S2x12288 .f32) (b : Fin 2) (z : Fin 1) (d : Fin 2048) :
    scale2_x N (ix3 b z d) = 1 + (N (ix2 b (scaleLane2 d)) : EReal) := by
  pointwise [scale2_x, scaleLane2]
theorem scale2_c_at (C : FVec Ideal S12288 .f32) (y z : Fin 1) (d : Fin 2048) :
    scale2_c C (ix3 y z d) = 1 + (C (ix1 (scaleLane2 d)) : EReal) := by
  pointwise [scale2_c, scaleLane2]
theorem shift2_x_at (N : FVec Ideal S2x12288 .f32) (b : Fin 2) (z : Fin 1) (d : Fin 2048) :
    shift2_x N (ix3 b z d) = N (ix2 b (shiftLane2 d)) := by
  pointwise [shift2_x, shiftLane2]
theorem shift2_c_at (C : FVec Ideal S12288 .f32) (y z : Fin 1) (d : Fin 2048) :
    shift2_c C (ix3 y z d) = C (ix1 (shiftLane2 d)) := by
  pointwise [shift2_c, shiftLane2]

/-- The four mixers' outputs side by side. -/
def mix_x (a b c d : FVec Ideal S2x16384x512 .f32) : FVec Ideal S2x16384x2048 .f32 :=
  concatenate S2x16384x2048 2 [⟨S2x16384x512, a⟩, ⟨S2x16384x512, b⟩, ⟨S2x16384x512, c⟩, ⟨S2x16384x512, d⟩]
    concatenates_S2x16384x512_S2x16384x512_S2x16384x512_S2x16384x512_S2x16384x2048_d2
theorem mix_x_0 (a b c d : FVec Ideal S2x16384x512 .f32) (p : Fin 2) (n : Fin 16384) (e : Fin 512) :
    mix_x a b c d (ix3 p n (part 0 e)) = a (ix3 p n e) := by
  pointwise [mix_x, part]
theorem mix_x_1 (a b c d : FVec Ideal S2x16384x512 .f32) (p : Fin 2) (n : Fin 16384) (e : Fin 512) :
    mix_x a b c d (ix3 p n (part 1 e)) = b (ix3 p n e) := by
  pointwise [mix_x, part]
theorem mix_x_2 (a b c d : FVec Ideal S2x16384x512 .f32) (p : Fin 2) (n : Fin 16384) (e : Fin 512) :
    mix_x a b c d (ix3 p n (part 2 e)) = c (ix3 p n e) := by
  pointwise [mix_x, part]
  rw [dif_neg (by omega), dif_neg (by omega), dif_pos (by omega)]
  exact congrArg (fun x => c (ix3 p n x)) (Fin.ext (by simp only; omega))
theorem mix_x_3 (a b c d : FVec Ideal S2x16384x512 .f32) (p : Fin 2) (n : Fin 16384) (e : Fin 512) :
    mix_x a b c d (ix3 p n (part 3 e)) = d (ix3 p n e) := by
  pointwise [mix_x, part]
  rw [dif_neg (by omega), dif_neg (by omega), dif_neg (by omega)]
  exact congrArg (fun x => d (ix3 p n x)) (Fin.ext (by simp only; omega))

/-- The rows after the step. -/
def step_x (X : FVec Ideal S2x16384x2048 .f32) (a b c d : FVec Ideal S2x16384x512 .f32) (N : FVec Ideal S2x12288 .f32)
    (W : FVec Ideal S2048x2048 .f32) : FVec Ideal S2x16384x2048 .f32 :=
  addf X (mulf (broadcastInDim S2x16384x2048 ![0, 1, 2] bcast_S2x1x2048_S2x16384x2048_0_1_2 (gate_x N))
    (Host.dotGeneral dot_S2x16384x2048_S2048x2048_S2x16384x2048_2_0_01_1_n_n none (mix_x a b c d) W))
theorem step_x_at (X : FVec Ideal S2x16384x2048 .f32) (a b c d : FVec Ideal S2x16384x512 .f32) (N : FVec Ideal S2x12288 .f32)
    (W : FVec Ideal S2048x2048 .f32) (p : Fin 2) (n : Fin 16384) (j : Fin 2048) :
    step_x X a b c d N W (ix3 p n j) = stepped (fun e => X (ix3 p n e)) (fun e => N (ix2 p (gateLane e))) (fun e => a (ix3 p n e))
      (fun e => b (ix3 p n e)) (fun e => c (ix3 p n e)) (fun e => d (ix3 p n e)) (fun e j => W (ix2 e j)) j := by
  have h : step_x X a b c d N W (ix3 p n j) = (X (ix3 p n j) : EReal) + (gate_x N (ix3 p 0 j) : EReal)
      * ∑ e : Fin 2048, (mix_x a b c d (ix3 p n e) : EReal) * (W (ix2 e j) : EReal) := by
    unfold step_x
    generalize mix_x a b c d = A
    generalize gate_x N = B
    pointwise []
  rw [h, gate_x_at, sum_parts]
  simp only [mix_x_0, mix_x_1, mix_x_2, mix_x_3]
  rfl

/-- Those rows for the experts. -/
def hid2_x (X : FVec Ideal S2x16384x2048 .f32) (N : FVec Ideal S2x12288 .f32) (G : FVec Ideal S2048 .f32) : FVec Ideal S2x16384x2048 .f32 :=
  addf (mulf (gained_x X G) (broadcastInDim S2x16384x2048 ![0, 1, 2] bcast_S2x1x2048_S2x16384x2048_0_1_2 (scale2_x N)))
    (broadcastInDim S2x16384x2048 ![0, 1, 2] bcast_S2x1x2048_S2x16384x2048_0_1_2 (shift2_x N))
theorem hid2_x_at (X : FVec Ideal S2x16384x2048 .f32) (N : FVec Ideal S2x12288 .f32) (G : FVec Ideal S2048 .f32) (p : Fin 2) (n : Fin 16384)
    (d : Fin 2048) : hid2_x X N G (ix3 p n d) = normed (fun e => X (ix3 p n e)) (fun e => G (ix1 e))
      (fun e => N (ix2 p (scaleLane2 e))) (fun e => N (ix2 p (shiftLane2 e))) d := by
  have h : hid2_x X N G (ix3 p n d) = (gained_x X G (ix3 p n d) : EReal) * (scale2_x N (ix3 p 0 d) : EReal)
      + (shift2_x N (ix3 p 0 d) : EReal) := by
    unfold hid2_x
    generalize gained_x X G = A
    generalize scale2_x N = B
    generalize shift2_x N = D
    pointwise []
  rw [h, gained_x_at, inv_x_at, scale2_x_at, shift2_x_at]
  rfl

/-- The four mixers' outputs side by side. -/
def mix_c (a b c d : FVec Ideal S2x256x512 .f32) : FVec Ideal S2x256x2048 .f32 :=
  concatenate S2x256x2048 2 [⟨S2x256x512, a⟩, ⟨S2x256x512, b⟩, ⟨S2x256x512, c⟩, ⟨S2x256x512, d⟩]
    concatenates_S2x256x512_S2x256x512_S2x256x512_S2x256x512_S2x256x2048_d2
theorem mix_c_0 (a b c d : FVec Ideal S2x256x512 .f32) (p : Fin 2) (n : Fin 256) (e : Fin 512) :
    mix_c a b c d (ix3 p n (part 0 e)) = a (ix3 p n e) := by
  pointwise [mix_c, part]
theorem mix_c_1 (a b c d : FVec Ideal S2x256x512 .f32) (p : Fin 2) (n : Fin 256) (e : Fin 512) :
    mix_c a b c d (ix3 p n (part 1 e)) = b (ix3 p n e) := by
  pointwise [mix_c, part]
theorem mix_c_2 (a b c d : FVec Ideal S2x256x512 .f32) (p : Fin 2) (n : Fin 256) (e : Fin 512) :
    mix_c a b c d (ix3 p n (part 2 e)) = c (ix3 p n e) := by
  pointwise [mix_c, part]
  rw [dif_neg (by omega), dif_neg (by omega), dif_pos (by omega)]
  exact congrArg (fun x => c (ix3 p n x)) (Fin.ext (by simp only; omega))
theorem mix_c_3 (a b c d : FVec Ideal S2x256x512 .f32) (p : Fin 2) (n : Fin 256) (e : Fin 512) :
    mix_c a b c d (ix3 p n (part 3 e)) = d (ix3 p n e) := by
  pointwise [mix_c, part]
  rw [dif_neg (by omega), dif_neg (by omega), dif_neg (by omega)]
  exact congrArg (fun x => d (ix3 p n x)) (Fin.ext (by simp only; omega))

/-- The rows after the step. -/
def step_c (X : FVec Ideal S2x256x2048 .f32) (a b c d : FVec Ideal S2x256x512 .f32) (C : FVec Ideal S12288 .f32)
    (W : FVec Ideal S2048x2048 .f32) : FVec Ideal S2x256x2048 .f32 :=
  addf X (mulf (broadcastInDim S2x256x2048 ![0, 1, 2] bcast_S1x1x2048_S2x256x2048_0_1_2 (gate_c C))
    (Host.dotGeneral dot_S2x256x2048_S2048x2048_S2x256x2048_2_0_01_1_n_n none (mix_c a b c d) W))
theorem step_c_at (X : FVec Ideal S2x256x2048 .f32) (a b c d : FVec Ideal S2x256x512 .f32) (C : FVec Ideal S12288 .f32)
    (W : FVec Ideal S2048x2048 .f32) (p : Fin 2) (n : Fin 256) (j : Fin 2048) :
    step_c X a b c d C W (ix3 p n j) = stepped (fun e => X (ix3 p n e)) (fun e => C (ix1 (gateLane e))) (fun e => a (ix3 p n e))
      (fun e => b (ix3 p n e)) (fun e => c (ix3 p n e)) (fun e => d (ix3 p n e)) (fun e j => W (ix2 e j)) j := by
  have h : step_c X a b c d C W (ix3 p n j) = (X (ix3 p n j) : EReal) + (gate_c C (ix3 0 0 j) : EReal)
      * ∑ e : Fin 2048, (mix_c a b c d (ix3 p n e) : EReal) * (W (ix2 e j) : EReal) := by
    unfold step_c
    generalize mix_c a b c d = A
    generalize gate_c C = B
    pointwise []
  rw [h, gate_c_at, sum_parts]
  simp only [mix_c_0, mix_c_1, mix_c_2, mix_c_3]
  rfl

/-- Those rows for the experts. -/
def hid2_c (X : FVec Ideal S2x256x2048 .f32) (C : FVec Ideal S12288 .f32) (G : FVec Ideal S2048 .f32) : FVec Ideal S2x256x2048 .f32 :=
  addf (mulf (gained_c X G) (broadcastInDim S2x256x2048 ![0, 1, 2] bcast_S1x1x2048_S2x256x2048_0_1_2 (scale2_c C)))
    (broadcastInDim S2x256x2048 ![0, 1, 2] bcast_S1x1x2048_S2x256x2048_0_1_2 (shift2_c C))
theorem hid2_c_at (X : FVec Ideal S2x256x2048 .f32) (C : FVec Ideal S12288 .f32) (G : FVec Ideal S2048 .f32) (p : Fin 2) (n : Fin 256)
    (d : Fin 2048) : hid2_c X C G (ix3 p n d) = normed (fun e => X (ix3 p n e)) (fun e => G (ix1 e))
      (fun e => C (ix1 (scaleLane2 e))) (fun e => C (ix1 (shiftLane2 e))) d := by
  have h : hid2_c X C G (ix3 p n d) = (gained_c X G (ix3 p n d) : EReal) * (scale2_c C (ix3 0 0 d) : EReal)
      + (shift2_c C (ix3 0 0 d) : EReal) := by
    unfold hid2_c
    generalize gained_c X G = A
    generalize scale2_c C = B
    generalize shift2_c C = D
    pointwise []
  rw [h, gained_c_at, inv_c_at, scale2_c_at, shift2_c_at]
  rfl

/-- Latent and context rows joined, and the same cast. -/
def rows2 (P : FVec Ideal S2x16384x2048 .f32) (Q : FVec Ideal S2x256x2048 .f32) : FVec Ideal S2x16640x2048 .f32 :=
  concatenate S2x16640x2048 1 [⟨S2x16384x2048, P⟩, ⟨S2x256x2048, Q⟩] concatenates_S2x16384x2048_S2x256x2048_S2x16640x2048_d1
def rows2h (P : FVec Ideal S2x16384x2048 .f32) (Q : FVec Ideal S2x256x2048 .f32) : FVec Ideal S2x16640x2048 .bf16 :=
  truncf .bf16 (rows2 P Q) bitsLt_bf16_f32
theorem rows2_lat (P : FVec Ideal S2x16384x2048 .f32) (Q : FVec Ideal S2x256x2048 .f32) (p : Fin 2) (n : Fin 16640) (d : Fin 2048)
    (k : Fin 16384) (hk : n.val = k.val) : rows2 P Q (ix3 p n d) = P (ix3 p k d) :=
  Cert.Kernel2Ideal.Value.stream_lat P Q p n d k hk
theorem rows2_ctx (P : FVec Ideal S2x16384x2048 .f32) (Q : FVec Ideal S2x256x2048 .f32) (p : Fin 2) (n : Fin 16640) (d : Fin 2048)
    (k : Fin 256) (hk : n.val = 16384 + k.val) : rows2 P Q (ix3 p n d) = Q (ix3 p k d) :=
  Cert.Kernel2Ideal.Value.stream_ctx P Q p n d k hk
theorem rows2h_at (P : FVec Ideal S2x16384x2048 .f32) (Q : FVec Ideal S2x256x2048 .f32) (p : Fin 2) (n : Fin 16640) (d : Fin 2048) :
    rows2h P Q (ix3 p n d) = rows2 P Q (ix3 p n d) := rfl

variable (m : (ℓ : Loc nD τ sig) → Buf (Elt Ideal) ℓ)

/-- The rows after the step, from the arguments. -/
def sx (c : Dev nD) : FVec Ideal S2x16384x2048 .f32 :=
  step_x (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg10))
    (m ((c.tc : Thread nD τ).loc main_arg13))
def sc (c : Dev nD) : FVec Ideal S2x256x2048 .f32 :=
  step_c (m ((c.tc : Thread nD τ).loc main_arg1)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg11))
    (m ((c.tc : Thread nD τ).loc main_arg13))
theorem res_eq (c : Dev nD) : res_out1 m c
    = rows2h (hid2_x (sx m c) (m ((c.tc : Thread nD τ).loc main_arg10)) (m ((c.tc : Thread nD τ).loc main_arg12)))
      (hid2_c (sc m c) (m ((c.tc : Thread nD τ).loc main_arg11)) (m ((c.tc : Thread nD τ).loc main_arg12))) := by
  unfold res_out1 res_main_v66
  rfl

end Cert.Reference3Ideal.Value
-- ==== Proof.OutEqual.lean ====
/- The out-projection call and its reference hold the same rows. -/
module
public import proofs.«01_k».proof.Proof.OutHost
public import proofs.«01_k».proof.Proof.OutRef
public import Idealize.ShloMosaic.Lib.Pointwise.Index
import Idealize.ShloMosaic.Lib.Pointwise
@[expose] public section
set_option maxRecDepth 16384
noncomputable section
namespace Cert.OutEqual
open Cert.Normed
open Cert.Kernel3Ideal
open Cert.Kernel2Ideal.Value (stream mods gainRow)
open Cert.Reference3Ideal.Value (step_x step_x_at step_c step_c_at hid2_x hid2_x_at hid2_c hid2_c_at rows2 rows2_lat rows2_ctx rows2h rows2h_at)
open Idealize.ShloMosaic Idealize.ShloMosaic.TcCoe Idealize.SL.Sem

theorem same_x (X : FVec Ideal S2x16384x2048 .f32) (Y : FVec Ideal S2x256x2048 .f32) (a b c d : FVec Ideal S2x16384x512 .f32)
    (a' b' c' d' : FVec Ideal S2x256x512 .f32) (N : FVec Ideal S2x12288 .f32) (C : FVec Ideal S12288 .f32)
    (W : FVec Ideal S2048x2048 .f32) :
    Value.OUTX (Value.join16 a a') (Value.join b b') (Value.join16 c c') (Value.join16 d d') (stream X Y) (mods N C) (Value.weights W) = rows2 (step_x X a b c d N W) (step_c Y a' b' c' d' C W) := by
  refine funext fun (j : S2x16640x2048.Idx) => ?_
  idx_vars j
  rw [Value.OUTX_at _ _ _ _ _ _ _ j0 j1 j2 _ rfl rfl rfl]
  by_cases hn : j1.val < 16384
  · rw [rows2_lat _ _ j0 j1 j2 ⟨j1.val, hn⟩ rfl, step_x_at, Value.res_lat X Y a b c d a' b' c' d' N C W j0 j1 ⟨j1.val, hn⟩ rfl]
  · have h : j1.val = 16384 + (⟨j1.val - 16384, by omega⟩ : Fin 256).val := by
      simp only
      omega
    rw [rows2_ctx _ _ j0 j1 j2 _ h, step_c_at, Value.res_ctx X Y a b c d a' b' c' d' N C W j0 j1 _ h]

theorem same_h (X : FVec Ideal S2x16384x2048 .f32) (Y : FVec Ideal S2x256x2048 .f32) (a b c d : FVec Ideal S2x16384x512 .f32)
    (a' b' c' d' : FVec Ideal S2x256x512 .f32) (N : FVec Ideal S2x12288 .f32) (C : FVec Ideal S12288 .f32) (G : FVec Ideal S2048 .f32)
    (W : FVec Ideal S2048x2048 .f32) :
    Value.OUTH (Value.join16 a a') (Value.join b b') (Value.join16 c c') (Value.join16 d d') (stream X Y) (mods N C) (gainRow G) (Value.weights W)
      = rows2h (hid2_x (step_x X a b c d N W) N G) (hid2_c (step_c Y a' b' c' d' C W) C G) := by
  refine funext fun (j : S2x16640x2048.Idx) => ?_
  idx_vars j
  rw [Value.OUTH_at _ _ _ _ _ _ _ _ j0 j1 j2 _ rfl rfl rfl, rows2h_at]
  by_cases hn : j1.val < 16384
  · rw [rows2_lat _ _ j0 j1 j2 ⟨j1.val, hn⟩ rfl, hid2_x_at, Value.hid_lat X Y a b c d a' b' c' d' N C G W j0 j1 ⟨j1.val, hn⟩ rfl]
    simp only [step_x_at]
  · have h : j1.val = 16384 + (⟨j1.val - 16384, by omega⟩ : Fin 256).val := by
      simp only
      omega
    rw [rows2_ctx _ _ j0 j1 j2 _ h, hid2_c_at, Value.hid_ctx X Y a b c d a' b' c' d' N C G W j0 j1 _ h]
    simp only [step_c_at]

variable (m : (ℓ : Loc nD τ sig) → Buf (Elt Ideal) ℓ)

/-- What the call leaves in its first output, as the reference's function of the arguments. -/
theorem result_x (c : Dev nD) : (Gen.dats m 0 c).arrAt 10 cfg0.N = rows2
    (step_x (m ((c : Thread nD τ).loc main_arg0)) (m ((c : Thread nD τ).loc main_arg2)) (m ((c : Thread nD τ).loc main_arg3)) (m ((c : Thread nD τ).loc main_arg4))
      (m ((c : Thread nD τ).loc main_arg5)) (m ((c : Thread nD τ).loc main_arg10)) (m ((c : Thread nD τ).loc main_arg13)))
    (step_c (m ((c : Thread nD τ).loc main_arg1)) (m ((c : Thread nD τ).loc main_arg6)) (m ((c : Thread nD τ).loc main_arg7)) (m ((c : Thread nD τ).loc main_arg8))
      (m ((c : Thread nD τ).loc main_arg9)) (m ((c : Thread nD τ).loc main_arg11)) (m ((c : Thread nD τ).loc main_arg13))) := by
  rw [Value.final10, Value.ya_arr, Value.yb_arr, Value.yc_arr, Value.yd_arr, Value.stream_arr, Value.mods_arr, Value.weights_arr]
  exact same_x _ _ _ _ _ _ _ _ _ _ _ _ _

/-- What the call leaves in its second output, as the reference's function of the arguments. -/
theorem result_h (c : Dev nD) : (Gen.dats m 0 c).arrAt 11 cfg0.N = rows2h
    (hid2_x (step_x (m ((c : Thread nD τ).loc main_arg0)) (m ((c : Thread nD τ).loc main_arg2)) (m ((c : Thread nD τ).loc main_arg3)) (m ((c : Thread nD τ).loc main_arg4))
      (m ((c : Thread nD τ).loc main_arg5)) (m ((c : Thread nD τ).loc main_arg10)) (m ((c : Thread nD τ).loc main_arg13))) (m ((c : Thread nD τ).loc main_arg10)) (m ((c : Thread nD τ).loc main_arg12)))
    (hid2_c (step_c (m ((c : Thread nD τ).loc main_arg1)) (m ((c : Thread nD τ).loc main_arg6)) (m ((c : Thread nD τ).loc main_arg7)) (m ((c : Thread nD τ).loc main_arg8))
      (m ((c : Thread nD τ).loc main_arg9)) (m ((c : Thread nD τ).loc main_arg11)) (m ((c : Thread nD τ).loc main_arg13))) (m ((c : Thread nD τ).loc main_arg11)) (m ((c : Thread nD τ).loc main_arg12))) := by
  rw [Value.final11, Value.ya_arr, Value.yb_arr, Value.yc_arr, Value.yd_arr, Value.stream_arr, Value.mods_arr, Value.gain_arr,
    Value.weights_arr]
  exact same_h _ _ _ _ _ _ _ _ _ _ _ _ _ _

end Cert.OutEqual
-- ==== Proof.SumArray.lean ====
/- The sum of the two experts' outputs: the call's array, index by index. -/
module
public import proofs.«01_k».proof.Proof.Gen.Kernel4Ideal.Value
public import proofs.«01_k».proof.Proof.InHost
public import Idealize.ShloMosaic.Lib.Pointwise.Index
import Idealize.ShloMosaic.Lib.Pointwise
import Idealize.ShloMosaic.Lib.Claim
public import Idealize.ShloMosaic.Lib.StableHlo.RunRead
import Idealize.ShloMosaic.Lib.Pipeline.ValueKit
@[expose] public section
set_option maxRecDepth 16384
noncomputable section
namespace Cert.Kernel4Ideal.Value
open Cert.Kernel4Ideal Cert.Kernel4Ideal.Gen
open Cert.Kernel2Ideal.Value (rows rows_lat mods mods_eq)
open Idealize.ShloMosaic Idealize.ShloMosaic.TcCoe Idealize.SL.Sem

variable (m : (ℓ : Loc nD τ sig) → Buf (Elt Ideal) ℓ)

/-- The lane of the modulation's last gate. -/
def gateLane2 (d : Fin 2048) : Fin 12288 := ⟨10240 + d.val, by omega⟩
/-- A token's index in the arrays that hold the context too. -/
def wide (n : Fin 16384) : Fin 16640 := ⟨n.val, by omega⟩

/-- A token's row plus the gated sum of its two experts' outputs. -/
def added (x g y0 y1 : EReal) (w0 w1 : EReal) : EReal := x + g * (y0 * w0 + y1 * w1)

theorem ld_gate (x : Vec Ideal S1x1x12288 .f32) (e : Fin 2048) : View.ld x r0_2 (ix3 0 0 e) = x (ix3 0 0 (gateLane2 e)) := by
  rw [View.ld_unit]
  pointwise [gateLane2]
theorem pay1_at (a : Vec Ideal S1x256x2048 .f32) (u : Vec Ideal S1x256x1 .f32) (b : Vec Ideal S1x256x2048 .f32)
    (v : Vec Ideal S1x256x1 .f32) (x : Vec Ideal S1x256x2048 .f32) (g : Vec Ideal S1x1x2048 .f32) (z : Fin 1) (r : Fin 256) (j : Fin 2048) :
    k0_pay1 a u b v x g (ix3 z r j) = added (x (ix3 0 r j)) (g (ix3 0 0 j)) (a (ix3 0 r j)) (b (ix3 0 r j)) (u (ix3 0 r 0)) (v (ix3 0 r 0)) := by
  pointwise [k0_pay1]
  rfl
theorem out6_at (x0 x1 x2 : Vec Ideal S1x256x2048 .f32) (x3 x4 : Vec Ideal S1x256x1 .f32) (x5 : Vec Ideal S1x1x12288 .f32) (z : Fin 1)
    (r : Fin 256) (j : Fin 2048) : out0_6 x0 x1 x2 x3 x4 x5 (ix3 z r j)
      = added (x0 (ix3 0 r j)) (x5 (ix3 0 0 (gateLane2 j))) (x1 (ix3 0 r j)) (x2 (ix3 0 r j)) (x3 (ix3 0 r 0)) (x4 (ix3 0 r 0)) := by
  frame_out
  rw [pay1_at, ld_gate]

/-- Where each window's block lies at grid point `t`. -/
theorem idx : ∀ t : Fin cfg0.N, win0_0.index t = ![t.val / 64, t.val % 64, 0] ∧ win0_1.index t = ![t.val / 64, t.val % 64, 0] ∧
    win0_2.index t = ![t.val / 64, t.val % 64, 0] ∧ win0_3.index t = ![t.val / 64, t.val % 64, 0] ∧
    win0_4.index t = ![t.val / 64, t.val % 64, 0] ∧ win0_5.index t = ![t.val / 64, 0, 0] ∧
    win0_6.index t = ![t.val / 64, t.val % 64, 0] :=
  (by decide +kernel : ∀ t : Fin grid0.N, _)

theorem lt_N (t : Fin cfg0.N) : t.val < 128 := lt_of_lt_of_eq t.isLt N_0

/-- The batch element of a grid point, and a token of its block. -/
def bat (t : Fin cfg0.N) : Fin 2 := ⟨t.val / 64, by have := lt_N t; omega⟩
def tokAt (t : Fin cfg0.N) (r : Fin 256) : Fin 16384 := ⟨t.val % 64 * 256 + r.val, by omega⟩
/-- The batch element as a row of the modulation. -/
def modAt (b : Fin 2) : Fin 8 := ⟨b.val, by omega⟩

/-! The entry of each window's block, as an entry of the array the window is of. -/

theorem read0 (X : FVec Ideal S2x16640x2048 .f32) (t : Fin cfg0.N) (z : Fin 1) (r : Fin 256) (d : Fin 2048) :
    (show FVec Ideal S1x256x2048 .f32 from ((cfg0.win 0).blk t).view.read (Elt Ideal) X) (ix3 z r d)
      = X (ix3 (bat t) (wide (tokAt t r)) d) := by
  blk_simp [idx t]
  blk_ext [idx t, bat, wide, tokAt]
theorem iblk0 (c : Dev nD) (t : Fin cfg0.N) (z : Fin 1) (r : Fin 256) (d : Fin 2048) :
    iblk m c 0 t (ix3 z r d) = V m c main_arg0 (ix3 (bat t) (wide (tokAt t r)) d) := read0 (V m c main_arg0) t z r d

theorem read1 (X : FVec Ideal S2x16640x2048 .f32) (t : Fin cfg0.N) (z : Fin 1) (r : Fin 256) (d : Fin 2048) :
    (show FVec Ideal S1x256x2048 .f32 from ((cfg0.win 1).blk t).view.read (Elt Ideal) X) (ix3 z r d)
      = X (ix3 (bat t) (wide (tokAt t r)) d) := by
  blk_simp [idx t]
  blk_ext [idx t, bat, wide, tokAt]
theorem iblk1 (c : Dev nD) (t : Fin cfg0.N) (z : Fin 1) (r : Fin 256) (d : Fin 2048) :
    iblk m c 1 t (ix3 z r d) = V m c main_arg1 (ix3 (bat t) (wide (tokAt t r)) d) := read1 (V m c main_arg1) t z r d

theorem read2 (X : FVec Ideal S2x16640x2048 .f32) (t : Fin cfg0.N) (z : Fin 1) (r : Fin 256) (d : Fin 2048) :
    (show FVec Ideal S1x256x2048 .f32 from ((cfg0.win 2).blk t).view.read (Elt Ideal) X) (ix3 z r d)
      = X (ix3 (bat t) (wide (tokAt t r)) d) := by
  blk_simp [idx t]
  blk_ext [idx t, bat, wide, tokAt]
theorem iblk2 (c : Dev nD) (t : Fin cfg0.N) (z : Fin 1) (r : Fin 256) (d : Fin 2048) :
    iblk m c 2 t (ix3 z r d) = V m c main_arg2 (ix3 (bat t) (wide (tokAt t r)) d) := read2 (V m c main_arg2) t z r d

theorem read3 (X : FVec Ideal S2x16640x1 .f32) (t : Fin cfg0.N) (z : Fin 1) (r : Fin 256) (d : Fin 1) :
    (show FVec Ideal S1x256x1 .f32 from ((cfg0.win 3).blk t).view.read (Elt Ideal) X) (ix3 z r d)
      = X (ix3 (bat t) (wide (tokAt t r)) d) := by
  blk_simp [idx t]
  blk_ext [idx t, bat, wide, tokAt]
theorem iblk3 (c : Dev nD) (t : Fin cfg0.N) (z : Fin 1) (r : Fin 256) (d : Fin 1) :
    iblk m c 3 t (ix3 z r d) = V m c main_v6 (ix3 (bat t) (wide (tokAt t r)) d) := read3 (V m c main_v6) t z r d

theorem read4 (X : FVec Ideal S2x16640x1 .f32) (t : Fin cfg0.N) (z : Fin 1) (r : Fin 256) (d : Fin 1) :
    (show FVec Ideal S1x256x1 .f32 from ((cfg0.win 4).blk t).view.read (Elt Ideal) X) (ix3 z r d)
      = X (ix3 (bat t) (wide (tokAt t r)) d) := by
  blk_simp [idx t]
  blk_ext [idx t, bat, wide, tokAt]
theorem iblk4 (c : Dev nD) (t : Fin cfg0.N) (z : Fin 1) (r : Fin 256) (d : Fin 1) :
    iblk m c 4 t (ix3 z r d) = V m c main_v9 (ix3 (bat t) (wide (tokAt t r)) d) := read4 (V m c main_v9) t z r d

theorem read5 (X : FVec Ideal S8x1x12288 .f32) (t : Fin cfg0.N) (y z : Fin 1) (d : Fin 12288) :
    (show FVec Ideal S1x1x12288 .f32 from ((cfg0.win 5).blk t).view.read (Elt Ideal) X) (ix3 y z d) = X (ix3 (modAt (bat t)) 0 d) := by
  blk_simp [idx t]
  blk_ext [idx t, modAt, bat]
theorem iblk5 (c : Dev nD) (t : Fin cfg0.N) (y z : Fin 1) (d : Fin 12288) :
    iblk m c 5 t (ix3 y z d) = V m c main_v3 (ix3 (modAt (bat t)) 0 d) := read5 (V m c main_v3) t y z d

/-- The call's array. -/
def OUT (S A B : FVec Ideal S2x16640x2048 .f32) (u v : FVec Ideal S2x16640x1 .f32) (M : FVec Ideal S8x1x12288 .f32) :
    FVec Ideal S2x16384x2048 .f32 := fun j =>
  added (S (ix3 (j 0) (wide (j 1)) (j 2))) (M (ix3 (modAt (j 0)) 0 (gateLane2 (j 2)))) (A (ix3 (j 0) (wide (j 1)) (j 2)))
    (B (ix3 (j 0) (wide (j 1)) (j 2))) (u (ix3 (j 0) (wide (j 1)) 0)) (v (ix3 (j 0) (wide (j 1)) 0))
theorem OUT_at (S A B : FVec Ideal S2x16640x2048 .f32) (u v : FVec Ideal S2x16640x1 .f32) (M : FVec Ideal S8x1x12288 .f32) (b : Fin 2)
    (n : Fin 16384) (k : Fin 2048) (j : S2x16384x2048.Idx) (h0 : (j 0 : ℕ) = b) (h1 : (j 1 : ℕ) = n) (h2 : (j 2 : ℕ) = k) :
    OUT S A B u v M j = added (S (ix3 b (wide n) k)) (M (ix3 (modAt b) 0 (gateLane2 k))) (A (ix3 b (wide n) k)) (B (ix3 b (wide n) k))
      (u (ix3 b (wide n) 0)) (v (ix3 b (wide n) 0)) := by
  obtain rfl : j 0 = b := Fin.ext h0
  obtain rfl : j 1 = n := Fin.ext h1
  obtain rfl : j 2 = k := Fin.ext h2
  rfl

/-- A block's entry, from the arrays that the blocks were cut from. -/
theorem out6_of (x0 x1 x2 : Vec Ideal S1x256x2048 .f32) (x3 x4 : Vec Ideal S1x256x1 .f32) (x5 : Vec Ideal S1x1x12288 .f32)
    (s a b u v g : EReal) (z : Fin 1) (r : Fin 256) (j : Fin 2048) (h0 : x0 (ix3 0 r j) = s) (h1 : x1 (ix3 0 r j) = a)
    (h2 : x2 (ix3 0 r j) = b) (h3 : x3 (ix3 0 r 0) = u) (h4 : x4 (ix3 0 r 0) = v) (h5 : x5 (ix3 0 0 (gateLane2 j)) = g) :
    out0_6 x0 x1 x2 x3 x4 x5 (ix3 z r j) = added s g a b u v := by
  rw [out6_at, h0, h1, h2, h3, h4, h5]

theorem final6 (c : Dev nD) : (dats m 0 c).arrAt 6 cfg0.N
    = OUT (V m c main_arg0) (V m c main_arg1) (V m c main_arg2) (V m c main_v6) (V m c main_v9) (V m c main_v3) := by
  refine (dats m 0 c).arrAt_eq_of_covers 6 _ (by decide +kernel) fun t hf y => ?_
  blk_simp
  rw [after0_6]
  idx_vars y
  rw [OUT_at _ _ _ _ _ _ (bat t) (tokAt t y1) y2]
  · exact out6_of _ _ _ _ _ _ _ _ _ _ _ _ _ _ _ (iblk0 m c t 0 y1 y2) (iblk1 m c t 0 y1 y2) (iblk2 m c t 0 y1 y2)
      (iblk3 m c t 0 y1 0) (iblk4 m c t 0 y1 0) (iblk5 m c t 0 0 (gateLane2 y2))
  all_goals blk_simp [idx t, bat, tokAt]

/-! The gates as the host prepares them. -/

def col0 (W : FVec Ideal S2x2x16640 .f32) : FVec Ideal S2x16640x1 .f32 :=
  shapeCast S2x16640x1 (shapeCast S2x16640 (extractStridedSlice S2x1x16640 ![0, 0, 0] W slices_S2x2x16640_S2x1x16640_0_0_0)
    shapeCasts_S2x1x16640_S2x16640) shapeCasts_S2x16640_S2x16640x1
theorem col0_at (W : FVec Ideal S2x2x16640 .f32) (b : Fin 2) (n : Fin 16640) (z : Fin 1) : col0 W (ix3 b n z) = W (ix3 b 0 n) := by
  pointwise [col0]
theorem col0_eq (c : Dev nD) : V m c main_v6 = col0 (m ((c : Thread nD τ).loc main_arg3)) := by
  unfold_abbrev_sides
  after_reads_simp
  rfl

def col1 (W : FVec Ideal S2x2x16640 .f32) : FVec Ideal S2x16640x1 .f32 :=
  shapeCast S2x16640x1 (shapeCast S2x16640 (extractStridedSlice S2x1x16640 ![0, 1, 0] W slices_S2x2x16640_S2x1x16640_0_1_0)
    shapeCasts_S2x1x16640_S2x16640) shapeCasts_S2x16640_S2x16640x1
theorem col1_at (W : FVec Ideal S2x2x16640 .f32) (b : Fin 2) (n : Fin 16640) (z : Fin 1) : col1 W (ix3 b n z) = W (ix3 b 1 n) := by
  pointwise [col1]
theorem col1_eq (c : Dev nD) : V m c main_v9 = col1 (m ((c : Thread nD τ).loc main_arg3)) := by
  unfold_abbrev_sides
  after_reads_simp
  rfl

theorem mods_arr (c : Dev nD) : V m c main_v3
    = mods (m ((c : Thread nD τ).loc main_arg4)) (m ((c : Thread nD τ).loc main_arg5)) := by
  unfold_abbrev_sides
  after_reads_simp
  rfl

end Cert.Kernel4Ideal.Value
-- ==== Proof.SumEqual.lean ====
/- The sum of the two experts' outputs: the call and its reference hold the same array. -/
module
public import proofs.«01_k».proof.Proof.SumArray
public import proofs.«01_k».proof.Proof.Gen.Reference4Ideal.Run
public import Idealize.ShloMosaic.PureOps.Ideal
public import Idealize.ShloMosaic.Lib.Pointwise.Index
import Idealize.ShloMosaic.Lib.Pointwise
@[expose] public section
set_option maxRecDepth 16384
noncomputable section
namespace Cert.Reference4Ideal.Value
open Cert.Reference4Ideal Cert.Reference4Ideal.Gen
open Idealize.ShloMosaic Idealize.ShloMosaic.TcCoe Idealize.SL.Sem

/-- The reference as a function of its arguments. -/
def REF (S A B : FVec Ideal S2x16640x2048 .f32) (W : FVec Ideal S2x2x16640 .f32)
    (N : FVec Ideal S2x12288 .f32) : FVec Ideal S2x16384x2048 .f32 :=
  addf (extractStridedSlice S2x16384x2048 ![0, 0, 0] S slices_S2x16640x2048_S2x16384x2048_0_0_0) (mulf
    (broadcastInDim S2x16384x2048 ![0, 1, 2] bcast_S2x1x2048_S2x16384x2048_0_1_2 (extractStridedSlice S2x1x2048 ![0, 0, 10240] (broadcastInDim S2x1x12288 ![0, 2] bcast_S2x12288_S2x1x12288_0_2 N) slices_S2x1x12288_S2x1x2048_0_0_10240))
    (addf (mulf (extractStridedSlice S2x16384x2048 ![0, 0, 0] A slices_S2x16640x2048_S2x16384x2048_0_0_0)
      (broadcastInDim S2x16384x2048 ![0, 1, 2] bcast_S2x16384x1_S2x16384x2048_0_1_2 (shapeCast S2x16384x1 (extractStridedSlice S2x1x16384x1 ![0, 0, 0, 0] (broadcastInDim S2x2x16384x1 ![0, 1, 2] bcast_S2x2x16384_S2x2x16384x1_0_1_2
      (extractStridedSlice S2x2x16384 ![0, 0, 0] W slices_S2x2x16640_S2x2x16384_0_0_0)) slices_S2x2x16384x1_S2x1x16384x1_0_0_0_0) shapeCasts_S2x1x16384x1_S2x16384x1)))
    (mulf (extractStridedSlice S2x16384x2048 ![0, 0, 0] B slices_S2x16640x2048_S2x16384x2048_0_0_0)
      (broadcastInDim S2x16384x2048 ![0, 1, 2] bcast_S2x16384x1_S2x16384x2048_0_1_2 (shapeCast S2x16384x1 (extractStridedSlice S2x1x16384x1 ![0, 1, 0, 0] (broadcastInDim S2x2x16384x1 ![0, 1, 2] bcast_S2x2x16384_S2x2x16384x1_0_1_2
      (extractStridedSlice S2x2x16384 ![0, 0, 0] W slices_S2x2x16640_S2x2x16384_0_0_0)) slices_S2x2x16384x1_S2x1x16384x1_0_1_0_0) shapeCasts_S2x1x16384x1_S2x16384x1)))))

end Cert.Reference4Ideal.Value

namespace Cert.SumEqual
open Cert.Kernel4Ideal
open Cert.Kernel4Ideal.Value (added gateLane2 wide modAt col0 col0_at col1 col1_at)
open Cert.Reference4Ideal.Value (REF)
open Cert.Kernel2Ideal.Value (mods mods_eq rows_lat)
open Idealize.ShloMosaic Idealize.ShloMosaic.TcCoe Idealize.SL.Sem

theorem REF_at (S A B : FVec Ideal S2x16640x2048 .f32) (W : FVec Ideal S2x2x16640 .f32) (N : FVec Ideal S2x12288 .f32) (b : Fin 2)
    (n : Fin 16384) (k : Fin 2048) : REF S A B W N (ix3 b n k) = added (S (ix3 b (wide n) k)) (N (ix2 b (gateLane2 k)))
      (A (ix3 b (wide n) k)) (B (ix3 b (wide n) k)) (W (ix3 b 0 (wide n))) (W (ix3 b 1 (wide n))) := by
  pointwise [REF, wide, gateLane2]
  rfl

theorem same (S A B : FVec Ideal S2x16640x2048 .f32) (W : FVec Ideal S2x2x16640 .f32) (N : FVec Ideal S2x12288 .f32)
    (C : FVec Ideal S12288 .f32) : Value.OUT S A B (col0 W) (col1 W) (mods N C) = REF S A B W N := by
  refine funext fun (j : S2x16384x2048.Idx) => ?_
  idx_vars j
  rw [Value.OUT_at _ _ _ _ _ _ j0 j1 j2 _ rfl rfl rfl, REF_at, col0_at, col1_at, mods_eq, rows_lat N C (modAt j0) j0 _ rfl]

variable (m : (ℓ : Loc nD τ sig) → Buf (Elt Ideal) ℓ)

/-- What the call leaves in its array, as the reference's function of the arguments. -/
theorem result (c : Dev nD) : (Gen.dats m 0 c).arrAt 6 cfg0.N = REF (m ((c : Thread nD τ).loc main_arg0))
    (m ((c : Thread nD τ).loc main_arg1)) (m ((c : Thread nD τ).loc main_arg2)) (m ((c : Thread nD τ).loc main_arg3))
    (m ((c : Thread nD τ).loc main_arg4)) := by
  rw [Value.final6, Value.col0_eq, Value.col1_eq, Value.mods_arr]
  exact same _ _ _ _ _ _

end Cert.SumEqual
-- ==== Proof.Gated.lean ====
/- The gated unit of one entry: the one formula that kernel and reference both read. -/
module
public import Idealize.ShloMosaic.PureOps.Ideal
public import Idealize.ShloMosaic.Lib.Pointwise.Index
@[expose] public section
noncomputable section
namespace Cert.Gated
open Idealize.ShloMosaic

/-- The rectifier, by the hyperbolic tangent. -/
def gelu (x : EReal) : EReal :=
  Ideal.ofBits .f32 0x3F000000#32 * x * (1 + Ideal.tanh (Ideal.ofBits .f32 0x3F4C422A#32 *
    (x + Ideal.ofBits .f32 0x3D372713#32 * (x * x * x))))
/-- The same, with its half on the bracket. -/
theorem gelu_eq (x : EReal) : x * (Ideal.ofBits .f32 0x3F000000#32 * (1 + Ideal.tanh (Ideal.ofBits .f32 0x3F4C422A#32 *
    (x + Ideal.ofBits .f32 0x3D372713#32 * (x * x * x))))) = gelu x := by
  unfold gelu
  rw [← mul_assoc, mul_comm x]

/-- One lane of a group over its root mean square, times the gain. -/
def unit (v n : Fin 128 → EReal) (c : Fin 128) : EReal :=
  v c * Ideal.rsqrt (Ideal.div (∑ e : Fin 128, v e * v e) (Ideal.ofBits .f32 0x43000000#32) + Ideal.ofBits .f32 0x358637BD#32) * n c

/-- An entry times what its chunk mixes to. -/
def gated (u : EReal) (w v : Fin 128 → EReal) (b : EReal) : EReal := u * (∑ q : Fin 128, w q * v q + b)

/-- Lane `c` of group `g` among the entries, and among the gates. -/
def ucol (g : Fin 4) (c : Fin 128) : Fin 1024 := ⟨128 * g.val + c.val, by omega⟩
def vcol (g : Fin 4) (c : Fin 128) : Fin 1024 := ⟨512 + 128 * g.val + c.val, by omega⟩

/-- One lane of the output, from its token's row, the rows of its chunk, the gain, and a row of mixing weights. -/
def cell (x : Fin 1024 → EReal) (Z : Fin 128 → Fin 1024 → EReal) (n w : Fin 128 → EReal) (b : EReal) (g : Fin 4) (c : Fin 128) : EReal :=
  gated (gelu (x (ucol g c))) w (fun q => unit (fun e => gelu (Z q (vcol g e))) n c) b

end Cert.Gated
-- ==== Proof.GatedBlocks.lean ====
/- The gated unit's call, block by block: each block of 256 tokens is two chunks, each row of a chunk four groups of lanes. -/
module
public import proofs.«01_k».proof.Proof.Gen.Kernel5Ideal.Value
public import proofs.«01_k».proof.Proof.Gated
import Idealize.ShloMosaic.Lib.Pointwise
import Idealize.ShloMosaic.Lib.Pipeline.ValueKit
@[expose] public section
set_option maxRecDepth 16384
noncomputable section
namespace Cert.Kernel5Ideal.Value
open Cert.Kernel5Ideal Cert.Kernel5Ideal.Gen Cert.Gated
open Idealize.ShloMosaic Idealize.ShloMosaic.TcCoe Idealize.SL.Sem
open Idealize.ShloMosaic.Pipeline (Dat)

/-- Row `p` of a block's chunk `h`. -/
def half (h : Fin 2) (p : Fin 128) : Fin 256 := ⟨128 * h.val + p.val, by omega⟩

/-! What the body reads. -/

theorem ld_x (x : Vec Ideal S1x256x1024 .f32) (r : Fin 256) (j : Fin 1024) : View.ld x r0_0 (ix3 0 r j) = x (ix3 0 r j) := by
  rw [View.ld_unit_zero (by decide) _ x]
theorem ld_n0 (x : Vec Ideal S4x128 .f32) (e : Fin 128) : View.ld x r0_1 (ix2 0 e) = x (ix2 0 e) := by
  rw [View.ld_unit]
  refine congrArg x (funext fun d => Fin.ext ?_)
  fin_cases d <;> simp
theorem ld_p0 (x : Vec Ideal S4x128x128 .f32) (p q : Fin 128) : View.ld x r0_2 (ix3 0 p q) = x (ix3 0 p q) := by
  rw [View.ld_unit]
  refine congrArg x (funext fun d => Fin.ext ?_)
  fin_cases d <;> simp
theorem ld_n1 (x : Vec Ideal S4x128 .f32) (e : Fin 128) : View.ld x r0_5 (ix2 0 e) = x (ix2 1 e) := by
  rw [View.ld_unit]
  refine congrArg x (funext fun d => Fin.ext ?_)
  fin_cases d <;> simp
theorem ld_p1 (x : Vec Ideal S4x128x128 .f32) (p q : Fin 128) : View.ld x r0_6 (ix3 0 p q) = x (ix3 1 p q) := by
  rw [View.ld_unit]
  refine congrArg x (funext fun d => Fin.ext ?_)
  fin_cases d <;> simp
theorem ld_n2 (x : Vec Ideal S4x128 .f32) (e : Fin 128) : View.ld x r0_9 (ix2 0 e) = x (ix2 2 e) := by
  rw [View.ld_unit]
  refine congrArg x (funext fun d => Fin.ext ?_)
  fin_cases d <;> simp
theorem ld_p2 (x : Vec Ideal S4x128x128 .f32) (p q : Fin 128) : View.ld x r0_10 (ix3 0 p q) = x (ix3 2 p q) := by
  rw [View.ld_unit]
  refine congrArg x (funext fun d => Fin.ext ?_)
  fin_cases d <;> simp
theorem ld_n3 (x : Vec Ideal S4x128 .f32) (e : Fin 128) : View.ld x r0_13 (ix2 0 e) = x (ix2 3 e) := by
  rw [View.ld_unit]
  refine congrArg x (funext fun d => Fin.ext ?_)
  fin_cases d <;> simp
theorem ld_p3 (x : Vec Ideal S4x128x128 .f32) (p q : Fin 128) : View.ld x r0_14 (ix3 0 p q) = x (ix3 3 p q) := by
  rw [View.ld_unit]
  refine congrArg x (funext fun d => Fin.ext ?_)
  fin_cases d <;> simp

/-! The entries, and the gates normed. -/

theorem pay4_at (x : Vec Ideal S1x256x1024 .f32) (r : Fin 256) (j : Fin 1024) : k0_pay4 x (ix2 r j) = gelu (x (ix3 0 r j)) := by
  pointwise [k0_pay4, gelu]

section
variable (x0 : Vec Ideal S1x256x1024 .f32) (x1 : Vec Ideal S4x128 .f32) (x2 x3 : Vec Ideal S4x128x128 .f32)
theorem all_at (r : Fin 256) (j : Fin 1024) : k0_pay4 (View.ld x0 r0_0) (ix2 r j) = gelu (x0 (ix3 0 r j)) :=
  (pay4_at _ r j).trans (congrArg gelu (ld_x x0 r j))
theorem unit0_at (r : Fin 256) (c : Fin 128) : k0_pay6 (View.ld x0 r0_0) (View.ld x1 r0_1) (ix2 r c)
    = unit (fun e => gelu (x0 (ix3 0 r (vcol 0 e)))) (fun e => x1 (ix2 0 e)) c := by
  have h : ∀ (y : Vec Ideal S1x256x1024 .f32) (n : Vec Ideal S1x128 .f32), k0_pay6 y n (ix2 r c)
      = unit (fun e => k0_pay4 y (ix2 r (vcol 0 e))) (fun e => n (ix2 0 e)) c := by
    intro y n
    unfold k0_pay6
    generalize k0_pay4 y = v
    pointwise [unit, vcol]
    try rfl
  rw [h]
  exact congrArg₂ (fun a b => unit a b c) (funext fun e => all_at x0 r (vcol 0 e)) (funext fun e => ld_n0 x1 e)
theorem unit1_at (r : Fin 256) (c : Fin 128) : k0_pay12 (k0_pay25 x0 x1 x2 x3) (View.ld x1 r0_5) (ix2 r c)
    = unit (fun e => gelu (x0 (ix3 0 r (vcol 1 e)))) (fun e => x1 (ix2 1 e)) c := by
  have h : ∀ (v : FVec Ideal S256x1024 .f32) (n : Vec Ideal S1x128 .f32), k0_pay12 v n (ix2 r c)
      = unit (fun e => v (ix2 r (vcol 1 e))) (fun e => n (ix2 0 e)) c := by
    intro v n
    pointwise [k0_pay12, unit, vcol]
    try rfl
  rw [h]
  exact congrArg₂ (fun a b => unit a b c) (funext fun e => all_at x0 r (vcol 1 e)) (funext fun e => ld_n1 x1 e)
theorem unit2_at (r : Fin 256) (c : Fin 128) : k0_pay18 (k0_pay25 x0 x1 x2 x3) (View.ld x1 r0_9) (ix2 r c)
    = unit (fun e => gelu (x0 (ix3 0 r (vcol 2 e)))) (fun e => x1 (ix2 2 e)) c := by
  have h : ∀ (v : FVec Ideal S256x1024 .f32) (n : Vec Ideal S1x128 .f32), k0_pay18 v n (ix2 r c)
      = unit (fun e => v (ix2 r (vcol 2 e))) (fun e => n (ix2 0 e)) c := by
    intro v n
    pointwise [k0_pay18, unit, vcol]
    try rfl
  rw [h]
  exact congrArg₂ (fun a b => unit a b c) (funext fun e => all_at x0 r (vcol 2 e)) (funext fun e => ld_n2 x1 e)
theorem unit3_at (r : Fin 256) (c : Fin 128) : k0_pay24 (k0_pay25 x0 x1 x2 x3) (View.ld x1 r0_13) (ix2 r c)
    = unit (fun e => gelu (x0 (ix3 0 r (vcol 3 e)))) (fun e => x1 (ix2 3 e)) c := by
  have h : ∀ (v : FVec Ideal S256x1024 .f32) (n : Vec Ideal S1x128 .f32), k0_pay24 v n (ix2 r c)
      = unit (fun e => v (ix2 r (vcol 3 e))) (fun e => n (ix2 0 e)) c := by
    intro v n
    pointwise [k0_pay24, unit, vcol]
    try rfl
  rw [h]
  exact congrArg₂ (fun a b => unit a b c) (funext fun e => all_at x0 r (vcol 3 e)) (funext fun e => ld_n3 x1 e)
theorem ent0_at (r : Fin 256) (c : Fin 128) : k0_pay26 x0 x1 x2 x3 (ix2 r c) = gelu (x0 (ix3 0 r (ucol 0 c))) := by
  have h : ∀ y : Vec Ideal S1x256x1024 .f32, k0_pay5 y (ix2 r c) = k0_pay4 y (ix2 r (ucol 0 c)) := by
    intro y
    unfold k0_pay5
    generalize k0_pay4 y = v
    pointwise [ucol]
    try exact congrArg (fun j => v (ix2 r j)) (Fin.ext (by simp))
  exact (h _).trans (all_at x0 r (ucol 0 c))
theorem ent1_at (r : Fin 256) (c : Fin 128) : k0_pay27 x0 x1 x2 x3 (ix2 r c) = gelu (x0 (ix3 0 r (ucol 1 c))) := by
  have h : ∀ v : FVec Ideal S256x1024 .f32, k0_pay11 v (ix2 r c) = v (ix2 r (ucol 1 c)) := by
    intro v
    pointwise [k0_pay11, ucol]
    try rfl
  exact (h _).trans (all_at x0 r (ucol 1 c))
theorem ent2_at (r : Fin 256) (c : Fin 128) : k0_pay28 x0 x1 x2 x3 (ix2 r c) = gelu (x0 (ix3 0 r (ucol 2 c))) := by
  have h : ∀ v : FVec Ideal S256x1024 .f32, k0_pay17 v (ix2 r c) = v (ix2 r (ucol 2 c)) := by
    intro v
    pointwise [k0_pay17, ucol]
    try rfl
  exact (h _).trans (all_at x0 r (ucol 2 c))
theorem ent3_at (r : Fin 256) (c : Fin 128) : k0_pay31 x0 x1 x2 x3 (ix2 r c) = gelu (x0 (ix3 0 r (ucol 3 c))) := by
  have h : ∀ v : FVec Ideal S256x1024 .f32, k0_pay23 v (ix2 r c) = v (ix2 r (ucol 3 c)) := by
    intro v
    pointwise [k0_pay23, ucol]
    try rfl
  exact (h _).trans (all_at x0 r (ucol 3 c))
end

/-! What the body stores of a chunk and a group. -/

theorem pay3_of (u : FVec Ideal S256x128 .f32) (v : FVec Ideal S256x128 .bf16) (w b : Vec Ideal S1x128x128 .f32) (z : Fin 1) (p c : Fin 128) (U B : EReal) (W V : Fin 128 → EReal)
    (hu : u (ix2 (half 1 p) c) = U) (hw : ∀ q, w (ix3 0 p q) = W q) (hv : ∀ q, v (ix2 (half 1 q) c) = V q) (hb : b (ix3 0 p c) = B) :
    k0_pay3 u v w b (ix3 z p c) = gated U W V B := by
  obtain rfl := funext hw
  obtain rfl := funext hv
  subst hu hb
  pointwise [k0_pay3, k0_pay1, gated, half]
  try rfl
theorem pay2_of (u : FVec Ideal S256x128 .f32) (v : FVec Ideal S256x128 .bf16) (w b : Vec Ideal S1x128x128 .f32) (z : Fin 1) (p c : Fin 128) (U B : EReal) (W V : Fin 128 → EReal)
    (hu : u (ix2 (half 0 p) c) = U) (hw : ∀ q, w (ix3 0 p q) = W q) (hv : ∀ q, v (ix2 (half 0 q) c) = V q) (hb : b (ix3 0 p c) = B) :
    k0_pay2 u v w b (ix3 z p c) = gated U W V B := by
  obtain rfl := funext hw
  obtain rfl := funext hv
  subst hu hb
  pointwise [k0_pay2, k0_pay1, gated, half]
  try rfl
theorem pay22_of (u : FVec Ideal S256x128 .f32) (v : FVec Ideal S256x128 .bf16) (w : FVec Ideal S128x128 .f32) (b : Vec Ideal S1x128x128 .f32) (z : Fin 1) (p c : Fin 128) (U B : EReal) (W V : Fin 128 → EReal)
    (hu : u (ix2 (half 1 p) c) = U) (hw : ∀ q, w (ix2 p q) = W q) (hv : ∀ q, v (ix2 (half 1 q) c) = V q) (hb : b (ix3 0 p c) = B) :
    k0_pay22 u v w b (ix3 z p c) = gated U W V B := by
  obtain rfl := funext hw
  obtain rfl := funext hv
  subst hu hb
  pointwise [k0_pay22, k0_pay20, gated, half]
  try rfl
theorem pay21_of (u : FVec Ideal S256x128 .f32) (v : FVec Ideal S256x128 .bf16) (w : FVec Ideal S128x128 .f32) (b : Vec Ideal S1x128x128 .f32) (z : Fin 1) (p c : Fin 128) (U B : EReal) (W V : Fin 128 → EReal)
    (hu : u (ix2 (half 0 p) c) = U) (hw : ∀ q, w (ix2 p q) = W q) (hv : ∀ q, v (ix2 (half 0 q) c) = V q) (hb : b (ix3 0 p c) = B) :
    k0_pay21 u v w b (ix3 z p c) = gated U W V B := by
  obtain rfl := funext hw
  obtain rfl := funext hv
  subst hu hb
  pointwise [k0_pay21, k0_pay20, gated, half]
  try rfl
theorem pay16_of (u : FVec Ideal S256x128 .f32) (v : FVec Ideal S256x128 .bf16) (w : FVec Ideal S128x128 .bf16) (b : Vec Ideal S1x128x128 .f32) (z : Fin 1) (p c : Fin 128) (U B : EReal) (W V : Fin 128 → EReal)
    (hu : u (ix2 (half 1 p) c) = U) (hw : ∀ q, w (ix2 p q) = W q) (hv : ∀ q, v (ix2 (half 1 q) c) = V q) (hb : b (ix3 0 p c) = B) :
    k0_pay16 u v w b (ix3 z p c) = gated U W V B := by
  obtain rfl := funext hw
  obtain rfl := funext hv
  subst hu hb
  pointwise [k0_pay16, gated, half]
  try rfl
theorem pay10_of (u : FVec Ideal S256x128 .f32) (v : FVec Ideal S256x128 .bf16) (w : FVec Ideal S128x128 .bf16) (b : Vec Ideal S1x128x128 .f32) (z : Fin 1) (p c : Fin 128) (U B : EReal) (W V : Fin 128 → EReal)
    (hu : u (ix2 (half 1 p) c) = U) (hw : ∀ q, w (ix2 p q) = W q) (hv : ∀ q, v (ix2 (half 1 q) c) = V q) (hb : b (ix3 0 p c) = B) :
    k0_pay10 u v w b (ix3 z p c) = gated U W V B := by
  obtain rfl := funext hw
  obtain rfl := funext hv
  subst hu hb
  pointwise [k0_pay10, gated, half]
  try rfl
theorem pay15_of (u : FVec Ideal S256x128 .f32) (y : FVec Ideal S256x1024 .f32) (n : Vec Ideal S1x128 .f32) (w b : Vec Ideal S1x128x128 .f32) (z : Fin 1) (p c : Fin 128) (U B : EReal)
    (W V : Fin 128 → EReal) (hu : u (ix2 (half 0 p) c) = U) (hw : ∀ q, w (ix3 0 p q) = W q) (hv : ∀ q, k0_pay12 y n (ix2 (half 0 q) c) = V q)
    (hb : b (ix3 0 p c) = B) : k0_pay15 u (k0_pay14 y n w) b (ix3 z p c) = gated U W V B := by
  unfold k0_pay14
  revert hv
  generalize k0_pay12 y n = v
  intro hv
  obtain rfl := funext hw
  obtain rfl := funext hv
  subst hu hb
  pointwise [k0_pay15, k0_pay13, gated, half]
  try rfl
theorem pay9_of (u : FVec Ideal S256x128 .f32) (y : Vec Ideal S1x256x1024 .f32) (n : Vec Ideal S1x128 .f32) (w b : Vec Ideal S1x128x128 .f32) (z : Fin 1) (p c : Fin 128) (U B : EReal)
    (W V : Fin 128 → EReal) (hu : u (ix2 (half 0 p) c) = U) (hw : ∀ q, w (ix3 0 p q) = W q) (hv : ∀ q, k0_pay6 y n (ix2 (half 0 q) c) = V q)
    (hb : b (ix3 0 p c) = B) : k0_pay9 u (k0_pay8 y n w b) (ix3 z p c) = gated U W V B := by
  unfold k0_pay8
  revert hv
  generalize k0_pay6 y n = v
  intro hv
  obtain rfl := funext hw
  obtain rfl := funext hv
  subst hu hb
  pointwise [k0_pay9, k0_pay7, gated, half]
  try rfl

theorem pay19_of (w : Vec Ideal S1x128x128 .f32) (p q : Fin 128) : k0_pay19 w (ix2 p q) = w (ix3 0 p q) := by
  pointwise [k0_pay19]
theorem pay13_of (w : Vec Ideal S1x128x128 .f32) (p q : Fin 128) : k0_pay13 w (ix2 p q) = w (ix3 0 p q) := by
  pointwise [k0_pay13]
theorem pay7_of (w : Vec Ideal S1x128x128 .f32) (p q : Fin 128) : k0_pay7 w (ix2 p q) = w (ix3 0 p q) := by
  pointwise [k0_pay7]

/-- What the body leaves. -/
theorem out4_at (x0 : Vec Ideal S1x256x1024 .f32) (x1 : Vec Ideal S4x128 .f32) (x2 x3 : Vec Ideal S4x128x128 .f32) (z : Fin 1)
    (r : Fin 256) (j : Fin 512) (h : Fin 2) (p : Fin 128) (g : Fin 4) (c : Fin 128) (hr : r.val = 128 * h.val + p.val)
    (hj : j.val = 128 * g.val + c.val) :
    out0_4 x0 x1 x2 x3 (ix3 z r j) = cell (fun d => x0 (ix3 0 (half h p) d)) (fun q d => x0 (ix3 0 (half h q) d))
      (fun e => x1 (ix2 g e)) (fun q => x2 (ix3 g p q)) (x3 (ix3 g p c)) g c := by
  canon_tiles y hy
  · idx_vars y
    obtain rfl : h = 1 := Fin.ext (by simp only [Fin.isValue, Fin.val_zero, Fin.val_one]; omega)
    obtain rfl : g = 3 := Fin.ext (by show g.val = 3; omega)
    obtain rfl : p = y1 := Fin.ext (by simp only [Fin.isValue, Fin.val_zero, Fin.val_one] at hr; omega)
    obtain rfl : c = y2 := Fin.ext (by have e : (3 : Fin 4).val = 3 := rfl; omega)
    exact pay3_of _ _ _ _ y0 p c _ _ _ _ (ent3_at x0 x1 x2 x3 (half 1 p) c) (fun q => ld_p3 x2 p q) (fun q => unit3_at x0 x1 x2 x3 (half 1 q) c) (ld_p3 x3 p c)
  · idx_vars y
    obtain rfl : h = 0 := Fin.ext (by simp only [Fin.isValue, Fin.val_zero, Fin.val_one]; omega)
    obtain rfl : g = 3 := Fin.ext (by show g.val = 3; omega)
    obtain rfl : p = y1 := Fin.ext (by simp only [Fin.isValue, Fin.val_zero, Fin.val_one] at hr; omega)
    obtain rfl : c = y2 := Fin.ext (by have e : (3 : Fin 4).val = 3 := rfl; omega)
    exact pay2_of _ _ _ _ y0 p c _ _ _ _ (ent3_at x0 x1 x2 x3 (half 0 p) c) (fun q => ld_p3 x2 p q) (fun q => unit3_at x0 x1 x2 x3 (half 0 q) c) (ld_p3 x3 p c)
  · idx_vars y
    obtain rfl : h = 1 := Fin.ext (by simp only [Fin.isValue, Fin.val_zero, Fin.val_one]; omega)
    obtain rfl : g = 2 := Fin.ext (by show g.val = 2; omega)
    obtain rfl : p = y1 := Fin.ext (by simp only [Fin.isValue, Fin.val_zero, Fin.val_one] at hr; omega)
    obtain rfl : c = y2 := Fin.ext (by have e : (2 : Fin 4).val = 2 := rfl; omega)
    exact pay22_of _ _ _ _ y0 p c _ _ _ _ (ent2_at x0 x1 x2 x3 (half 1 p) c) (fun q => (pay19_of _ p q).trans (ld_p2 x2 p q)) (fun q => unit2_at x0 x1 x2 x3 (half 1 q) c) (ld_p2 x3 p c)
  · idx_vars y
    obtain rfl : h = 0 := Fin.ext (by simp only [Fin.isValue, Fin.val_zero, Fin.val_one]; omega)
    obtain rfl : g = 2 := Fin.ext (by show g.val = 2; omega)
    obtain rfl : p = y1 := Fin.ext (by simp only [Fin.isValue, Fin.val_zero, Fin.val_one] at hr; omega)
    obtain rfl : c = y2 := Fin.ext (by have e : (2 : Fin 4).val = 2 := rfl; omega)
    exact pay21_of _ _ _ _ y0 p c _ _ _ _ (ent2_at x0 x1 x2 x3 (half 0 p) c) (fun q => (pay19_of _ p q).trans (ld_p2 x2 p q)) (fun q => unit2_at x0 x1 x2 x3 (half 0 q) c) (ld_p2 x3 p c)
  · idx_vars y
    obtain rfl : h = 1 := Fin.ext (by simp only [Fin.isValue, Fin.val_zero, Fin.val_one]; omega)
    obtain rfl : g = 1 := Fin.ext (by show g.val = 1; omega)
    obtain rfl : p = y1 := Fin.ext (by simp only [Fin.isValue, Fin.val_zero, Fin.val_one] at hr; omega)
    obtain rfl : c = y2 := Fin.ext (by have e : (1 : Fin 4).val = 1 := rfl; omega)
    exact pay16_of _ _ _ _ y0 p c _ _ _ _ (ent1_at x0 x1 x2 x3 (half 1 p) c) (fun q => (pay13_of _ p q).trans (ld_p1 x2 p q)) (fun q => unit1_at x0 x1 x2 x3 (half 1 q) c) (ld_p1 x3 p c)
  · idx_vars y
    obtain rfl : h = 0 := Fin.ext (by simp only [Fin.isValue, Fin.val_zero, Fin.val_one]; omega)
    obtain rfl : g = 1 := Fin.ext (by show g.val = 1; omega)
    obtain rfl : p = y1 := Fin.ext (by simp only [Fin.isValue, Fin.val_zero, Fin.val_one] at hr; omega)
    obtain rfl : c = y2 := Fin.ext (by have e : (1 : Fin 4).val = 1 := rfl; omega)
    exact pay15_of _ _ _ _ _ y0 p c _ _ _ _ (ent1_at x0 x1 x2 x3 (half 0 p) c) (fun q => ld_p1 x2 p q) (fun q => unit1_at x0 x1 x2 x3 (half 0 q) c) (ld_p1 x3 p c)
  · idx_vars y
    obtain rfl : h = 1 := Fin.ext (by simp only [Fin.isValue, Fin.val_zero, Fin.val_one]; omega)
    obtain rfl : g = 0 := Fin.ext (by show g.val = 0; omega)
    obtain rfl : p = y1 := Fin.ext (by simp only [Fin.isValue, Fin.val_zero, Fin.val_one] at hr; omega)
    obtain rfl : c = y2 := Fin.ext (by have e : (0 : Fin 4).val = 0 := rfl; omega)
    exact pay10_of _ _ _ _ y0 p c _ _ _ _ (ent0_at x0 x1 x2 x3 (half 1 p) c) (fun q => (pay7_of _ p q).trans (ld_p0 x2 p q)) (fun q => unit0_at x0 x1 (half 1 q) c) (ld_p0 x3 p c)
  · idx_vars y
    obtain rfl : h = 0 := Fin.ext (by simp only [Fin.isValue, Fin.val_zero, Fin.val_one]; omega)
    obtain rfl : g = 0 := Fin.ext (by show g.val = 0; omega)
    obtain rfl : p = y1 := Fin.ext (by simp only [Fin.isValue, Fin.val_zero, Fin.val_one] at hr; omega)
    obtain rfl : c = y2 := Fin.ext (by have e : (0 : Fin 4).val = 0 := rfl; omega)
    exact pay9_of _ _ _ _ _ y0 p c _ _ _ _ (ent0_at x0 x1 x2 x3 (half 0 p) c) (fun q => ld_p0 x2 p q) (fun q => unit0_at x0 x1 (half 0 q) c) (ld_p0 x3 p c)

end Cert.Kernel5Ideal.Value
-- ==== Proof.GatedArray.lean ====
/- The gated unit's output array, index by index, and the arrays that the host prepares for it. -/
module
public import proofs.«01_k».proof.Proof.GatedBlocks
public import proofs.«01_k».proof.Proof.Normed
public import Idealize.ShloMosaic.Lib.Pointwise.Index
import Idealize.ShloMosaic.Lib.Pointwise
import Idealize.ShloMosaic.Lib.Claim
public import Idealize.ShloMosaic.Lib.StableHlo.RunRead
import Idealize.ShloMosaic.Lib.Pipeline.ValueKit
@[expose] public section
set_option maxRecDepth 16384
noncomputable section
namespace Cert.Kernel5Ideal.Value
open Cert.Kernel5Ideal Cert.Kernel5Ideal.Gen Cert.Gated
open Cert.Normed (tok)
open Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val / 65, t.val % 65, 0] ∧ win0_1.index t = ![0, 0] ∧
    win0_2.index t = ![0, 0, 0] ∧ win0_3.index t = ![0, 0, 0] ∧ win0_4.index t = ![t.val / 65, t.val % 65, 0] :=
  (by decide +kernel : ∀ t : Fin grid0.N, _)

theorem lt_N (t : Fin cfg0.N) : t.val < 130 := lt_of_lt_of_eq t.isLt N_0

/-- The batch element of a grid point. -/
def bat (t : Fin cfg0.N) : Fin 2 := ⟨t.val / 65, by have := lt_N t; omega⟩
/-- The block of rows of a grid point. -/
def row (t : Fin cfg0.N) : Fin 65 := ⟨t.val % 65, by omega⟩

/-! The entry of each window's block, as an entry of the array the window is of. -/

theorem read0 (X : FVec Ideal S2x16640x1024 .f32) (t : Fin cfg0.N) (z : Fin 1) (r : Fin 256) (d : Fin 1024) :
    (show FVec Ideal S1x256x1024 .f32 from ((cfg0.win 0).blk t).view.read (Elt Ideal) X) (ix3 z r d)
      = X (ix3 (bat t) (tok (row t) r) d) := by
  blk_simp [idx t]
  blk_ext [idx t, bat, row, tok]
theorem iblk0 (c : Dev nD) (t : Fin cfg0.N) (z : Fin 1) (r : Fin 256) (d : Fin 1024) :
    iblk m c 0 t (ix3 z r d) = V m c main_v0 (ix3 (bat t) (tok (row t) r) d) := read0 (V m c main_v0) t z r d

theorem read1 (X : FVec Ideal S4x128 .f32) (t : Fin cfg0.N) (g : Fin 4) (e : Fin 128) :
    (show FVec Ideal S4x128 .f32 from ((cfg0.win 1).blk t).view.read (Elt Ideal) X) (ix2 g e) = X (ix2 g e) := by
  blk_simp [idx t]
  blk_ext [idx t]
theorem iblk1 (c : Dev nD) (t : Fin cfg0.N) (g : Fin 4) (e : Fin 128) :
    iblk m c 1 t (ix2 g e) = V m c main_arg2 (ix2 g e) := read1 (V m c main_arg2) t g e

theorem read2 (X : FVec Ideal S4x128x128 .f32) (t : Fin cfg0.N) (g : Fin 4) (p q : Fin 128) :
    (show FVec Ideal S4x128x128 .f32 from ((cfg0.win 2).blk t).view.read (Elt Ideal) X) (ix3 g p q) = X (ix3 g p q) := by
  blk_simp [idx t]
  blk_ext [idx t]
theorem iblk2 (c : Dev nD) (t : Fin cfg0.N) (g : Fin 4) (p q : Fin 128) :
    iblk m c 2 t (ix3 g p q) = V m c main_arg3 (ix3 g p q) := read2 (V m c main_arg3) t g p q

theorem read3 (X : FVec Ideal S4x128x128 .f32) (t : Fin cfg0.N) (g : Fin 4) (p q : Fin 128) :
    (show FVec Ideal S4x128x128 .f32 from ((cfg0.win 3).blk t).view.read (Elt Ideal) X) (ix3 g p q) = X (ix3 g p q) := by
  blk_simp [idx t]
  blk_ext [idx t]
theorem iblk3 (c : Dev nD) (t : Fin cfg0.N) (g : Fin 4) (p q : Fin 128) :
    iblk m c 3 t (ix3 g p q) = V m c main_v2 (ix3 g p q) := read3 (V m c main_v2) t g p q

/-- Token `p` of chunk `k`. -/
def inChunk (k : Fin 130) (p : Fin 128) : Fin 16640 := ⟨128 * k.val + p.val, by omega⟩
def chunkOf (n : Fin 16640) : Fin 130 := ⟨n.val / 128, by omega⟩
def posOf (n : Fin 16640) : Fin 128 := ⟨n.val % 128, by omega⟩
def grpOf (k : Fin 512) : Fin 4 := ⟨k.val / 128, by omega⟩
def laneOf (k : Fin 512) : Fin 128 := ⟨k.val % 128, by omega⟩

/-- One entry of the output, from the arrays the call is given. -/
def ENT (S : FVec Ideal S2x16640x1024 .f32) (N : FVec Ideal S4x128 .f32) (W B : FVec Ideal S4x128x128 .f32) (b : Fin 2) (n : Fin 16640)
    (k : Fin 512) : EReal :=
  cell (fun d => S (ix3 b n d)) (fun q d => S (ix3 b (inChunk (chunkOf n) q) d)) (fun e => N (ix2 (grpOf k) e))
    (fun q => W (ix3 (grpOf k) (posOf n) q)) (B (ix3 (grpOf k) (posOf n) (laneOf k))) (grpOf k) (laneOf k)
/-- The call's array. -/
def OUT (S : FVec Ideal S2x16640x1024 .f32) (N : FVec Ideal S4x128 .f32) (W B : FVec Ideal S4x128x128 .f32) :
    FVec Ideal S2x16640x512 .bf16 := fun j => ENT S N W B (j 0) (j 1) (j 2)
theorem OUT_at (S : FVec Ideal S2x16640x1024 .f32) (N : FVec Ideal S4x128 .f32) (W B : FVec Ideal S4x128x128 .f32) (b : Fin 2)
    (n : Fin 16640) (k : Fin 512) (j : S2x16640x512.Idx) (h0 : (j 0 : ℕ) = b) (h1 : (j 1 : ℕ) = n) (h2 : (j 2 : ℕ) = k) :
    OUT S N W B j = ENT S N W B b n k := by
  obtain rfl : j 0 = b := Fin.ext h0
  obtain rfl : j 1 = n := Fin.ext h1
  obtain rfl : j 2 = k := Fin.ext h2
  rfl

/-- A block's entry, from the arrays that the blocks were cut from. -/
theorem out4_of (x0 : Vec Ideal S1x256x1024 .f32) (x1 : Vec Ideal S4x128 .f32) (x2 x3 : Vec Ideal S4x128x128 .f32)
    (S : FVec Ideal S2x16640x1024 .f32) (N : FVec Ideal S4x128 .f32) (W B : FVec Ideal S4x128x128 .f32) (b : Fin 2) (i : Fin 65)
    (z : Fin 1) (r : Fin 256) (j : Fin 512) (h0 : ∀ r d, x0 (ix3 0 r d) = S (ix3 b (tok i r) d)) (h1 : ∀ g e, x1 (ix2 g e) = N (ix2 g e))
    (h2 : ∀ g p q, x2 (ix3 g p q) = W (ix3 g p q)) (h3 : ∀ g p q, x3 (ix3 g p q) = B (ix3 g p q)) :
    out0_4 x0 x1 x2 x3 (ix3 z r j) = ENT S N W B b (tok i r) j := by
  have hm : (posOf (tok i r)).val = r.val % 128 := by simp only [posOf, tok]; omega
  have hc : (chunkOf (tok i r)).val = 2 * i.val + r.val / 128 := by simp only [chunkOf, tok]; omega
  have hr : half ⟨r.val / 128, by omega⟩ (posOf (tok i r)) = r := Fin.ext (by simp only [half, hm]; omega)
  have hq : ∀ q, tok i (half ⟨r.val / 128, by omega⟩ q) = inChunk (chunkOf (tok i r)) q :=
    fun q => Fin.ext (by simp only [half, tok, inChunk] at hc ⊢; omega)
  rw [out4_at x0 x1 x2 x3 z r j ⟨r.val / 128, by omega⟩ (posOf (tok i r)) (grpOf j) (laneOf j) (by simp only [hm]; omega)
    (by simp only [grpOf, laneOf]; omega), hr]
  unfold ENT
  simp only [h0, h1, h2, h3, hq]

theorem final4 (c : Dev nD) : (dats m 0 c).arrAt 4 cfg0.N
    = OUT (V m c main_v0) (V m c main_arg2) (V m c main_arg3) (V m c main_v2) := by
  refine (dats m 0 c).arrAt_eq_of_covers 4 _ (by decide +kernel) fun t hf y => ?_
  blk_simp
  rw [after0_4]
  idx_vars y
  rw [OUT_at _ _ _ _ (bat t) (tok (row t) y1) y2]
  · exact out4_of _ _ _ _ _ _ _ _ _ _ _ _ _ (fun r d => iblk0 m c t 0 r d) (fun g e => iblk1 m c t g e)
      (fun g p q => iblk2 m c t g p q) (fun g p q => iblk3 m c t g p q)
  all_goals blk_simp [idx t, bat, row, tok]

/-! The arrays as the host prepares them. -/

/-- The latent tokens followed by the context's. -/
def stream (X : FVec Ideal S2x16384x1024 .f32) (Y : FVec Ideal S2x256x1024 .f32) : FVec Ideal S2x16640x1024 .f32 :=
  concatenate S2x16640x1024 1 [⟨S2x16384x1024, X⟩, ⟨S2x256x1024, Y⟩] concatenates_S2x16384x1024_S2x256x1024_S2x16640x1024_d1
theorem stream_lat (X : FVec Ideal S2x16384x1024 .f32) (Y : FVec Ideal S2x256x1024 .f32) (b : Fin 2) (n : Fin 16640) (d : Fin 1024)
    (k : Fin 16384) (hk : n.val = k.val) : stream X Y (ix3 b n d) = X (ix3 b k d) := by
  have hn : n.val < 16384 := by omega
  have h1 : (⟨n.val, hn⟩ : Fin 16384) = k := Fin.ext hk
  pointwise [stream]
  rw [dif_pos hn, h1]
theorem stream_ctx (X : FVec Ideal S2x16384x1024 .f32) (Y : FVec Ideal S2x256x1024 .f32) (b : Fin 2) (n : Fin 16640) (d : Fin 1024)
    (k : Fin 256) (hk : n.val = 16384 + k.val) : stream X Y (ix3 b n d) = Y (ix3 b k d) := by
  have hn : ¬ n.val < 16384 := by omega
  have h1 : (⟨n.val - 16384, by omega⟩ : Fin 256) = k := Fin.ext (by simp only; omega)
  pointwise [stream]
  rw [dif_neg hn, h1]
theorem stream_arr (c : Dev nD) : V m c main_v0 = stream (m ((c : Thread nD τ).loc main_arg0)) (m ((c : Thread nD τ).loc main_arg1)) := by
  unfold_abbrev_sides
  after_reads_simp
  rfl

/-- The shifts, the same along a group's lanes. -/
def shifts (B : FVec Ideal S4x128 .f32) : FVec Ideal S4x128x128 .f32 :=
  broadcastInDim S4x128x128 ![0, 1, 2] bcast_S4x128x1_S4x128x128_0_1_2 (broadcastInDim S4x128x1 ![0, 1] bcast_S4x128_S4x128x1_0_1 B)
theorem shifts_at (B : FVec Ideal S4x128 .f32) (g : Fin 4) (p c : Fin 128) : shifts B (ix3 g p c) = B (ix2 g p) := by
  pointwise [shifts]
theorem shifts_arr (c : Dev nD) : V m c main_v2 = shifts (m ((c : Thread nD τ).loc main_arg4)) := by
  unfold_abbrev_sides
  after_reads_simp
  rfl

end Cert.Kernel5Ideal.Value
-- ==== Proof.GatedRef.lean ====
/- The gated unit's reference, entry by entry. -/
module
public import proofs.«01_k».proof.Proof.Gated
public import proofs.«01_k».proof.Proof.Gen.Reference5Ideal.Run
public import Idealize.ShloMosaic.PureOps.Ideal
public import Idealize.ShloMosaic.Lib.Pointwise.Index
import Idealize.ShloMosaic.Lib.Pointwise
@[expose] public section
set_option maxRecDepth 16384
noncomputable section
namespace Cert.Reference5Ideal.Value
open Cert.Reference5Ideal Cert.Reference5Ideal.Gen Cert.Gated
open Idealize.ShloMosaic Idealize.ShloMosaic.TcCoe Idealize.SL.Sem

/-! Of the latents. -/

def gel_x (X : FVec Ideal S2x16384x1024 .f32) : FVec Ideal S2x16384x1024 .f32 :=
  mulf X (mulf (broadcastInDim S2x16384x1024 ![] bcast_S_S2x16384x1024 (constant S_ .f32 0x3F000000#32)) (addf (broadcastInDim S2x16384x1024 ![] bcast_S_S2x16384x1024 (constant S_ .f32 0x3F800000#32))
    (Host.tanh (mulf (broadcastInDim S2x16384x1024 ![] bcast_S_S2x16384x1024 (constant S_ .f32 0x3F4C422A#32)) (addf X
      (mulf (broadcastInDim S2x16384x1024 ![] bcast_S_S2x16384x1024 (constant S_ .f32 0x3D372713#32)) (mulf (mulf X X) X)))))))
theorem gel_x_at (X : FVec Ideal S2x16384x1024 .f32) (b : Fin 2) (n : Fin 16384) (d : Fin 1024) : gel_x X (ix3 b n d) = gelu (X (ix3 b n d)) := by
  refine Eq.trans ?_ (gelu_eq _)
  pointwise [gel_x]

def us_x (Z : FVec Ideal S2x16384x1024 .f32) : FVec Ideal S2x16384x4x128 .f32 :=
  shapeCast S2x16384x4x128 (extractStridedSlice S2x16384x512 ![0, 0, 0] Z slices_S2x16384x1024_S2x16384x512_0_0_0) shapeCasts_S2x16384x512_S2x16384x4x128
def vs_x (Z : FVec Ideal S2x16384x1024 .f32) : FVec Ideal S2x16384x4x128 .f32 :=
  shapeCast S2x16384x4x128 (extractStridedSlice S2x16384x512 ![0, 0, 512] Z slices_S2x16384x1024_S2x16384x512_0_0_512) shapeCasts_S2x16384x512_S2x16384x4x128
theorem us_x_at (Z : FVec Ideal S2x16384x1024 .f32) (b : Fin 2) (n : Fin 16384) (g : Fin 4) (c : Fin 128) :
    us_x Z (ix4 b n g c) = Z (ix3 b n (ucol g c)) := by
  pointwise [us_x, ucol]
  exact congrArg (fun i => Z (ix3 b n i)) (Fin.ext (by simp only; omega))
theorem vs_x_at (Z : FVec Ideal S2x16384x1024 .f32) (b : Fin 2) (n : Fin 16384) (g : Fin 4) (c : Fin 128) :
    vs_x Z (ix4 b n g c) = Z (ix3 b n (vcol g c)) := by
  pointwise [vs_x, vcol]
  exact congrArg (fun i => Z (ix3 b n i)) (Fin.ext (by simp only; omega))

def nrm_x (v : FVec Ideal S2x16384x4x128 .f32) (N : FVec Ideal S4x128 .f32) : FVec Ideal S2x16384x4x128 .f32 :=
  mulf (mulf v (broadcastInDim S2x16384x4x128 ![0, 1, 2, 3] bcast_S2x16384x4x1_S2x16384x4x128_0_1_2_3 (Host.rsqrt (addf (Host.divf
    (broadcastInDim S2x16384x4x1 ![0, 1, 2] bcast_S2x16384x4_S2x16384x4x1_0_1_2 (Host.reduceAdd (mulf v v) (constant S_ .f32 0x00000000#32) reducesTo_S2x16384x4x128_S2x16384x4_d3 h_S_))
    (broadcastInDim S2x16384x4x1 ![] bcast_S_S2x16384x4x1 (constant S_ .f32 0x43000000#32))) (broadcastInDim S2x16384x4x1 ![] bcast_S_S2x16384x4x1 (constant S_ .f32 0x358637BD#32))))))
    (broadcastInDim S2x16384x4x128 ![0, 1, 2, 3] bcast_S1x1x4x128_S2x16384x4x128_0_1_2_3 (broadcastInDim S1x1x4x128 ![2, 3] bcast_S4x128_S1x1x4x128_2_3 N))
theorem nrm_x_at (v : FVec Ideal S2x16384x4x128 .f32) (N : FVec Ideal S4x128 .f32) (b : Fin 2) (n : Fin 16384) (g : Fin 4) (c : Fin 128) :
    nrm_x v N (ix4 b n g c) = unit (fun e => v (ix4 b n g e)) (fun e => N (ix2 g e)) c := by
  pointwise [nrm_x, unit]

/-- Token `p` of chunk `k`. -/
def at_x (k : Fin 128) (p : Fin 128) : Fin 16384 := ⟨128 * k.val + p.val, by omega⟩

def chunks_x (v : FVec Ideal S2x16384x4x128 .f32) : FVec Ideal S2x128x128x4x128 .f32 := shapeCast S2x128x128x4x128 v shapeCasts_S2x16384x4x128_S2x128x128x4x128
theorem chunks_x_at (v : FVec Ideal S2x16384x4x128 .f32) (b : Fin 2) (k : Fin 128) (q : Fin 128) (g : Fin 4) (c : Fin 128) :
    chunks_x v (ix5 b k q g c) = v (ix4 b (at_x k q) g c) := by
  pointwise [chunks_x, at_x]
  exact congrArg (fun i => v (ix4 b i g c)) (Fin.ext (by simp only; omega))

def mix_x (v : FVec Ideal S2x128x128x4x128 .f32) (W : FVec Ideal S4x128x128 .f32) (B : FVec Ideal S4x128 .f32) : FVec Ideal S2x128x128x4x128 .f32 :=
  addf (transpose S2x128x128x4x128 [1, 2, 4, 0, 3] (Host.dotGeneral dot_S2x128x128x4x128_S4x128x128_S4x2x128x128x128_2_2_014_1_3_0 none v W) transposes_S4x2x128x128x128_S2x128x128x4x128_1_2_4_0_3)
    (broadcastInDim S2x128x128x4x128 ![0, 1, 2, 3, 4] bcast_S1x1x128x4x1_S2x128x128x4x128_0_1_2_3_4 (broadcastInDim S1x1x128x4x1 ![2, 3] bcast_S128x4_S1x1x128x4x1_2_3
      (transpose S128x4 [1, 0] B transposes_S4x128_S128x4_1_0)))
theorem mix_x_at (v : FVec Ideal S2x128x128x4x128 .f32) (W : FVec Ideal S4x128x128 .f32) (B : FVec Ideal S4x128 .f32) (b : Fin 2) (k : Fin 128) (p : Fin 128)
    (g : Fin 4) (c : Fin 128) : mix_x v W B (ix5 b k p g c) = (∑ q : Fin 128, W (ix3 g p q) * v (ix5 b k q g c)) + B (ix2 g p) := by
  rw [Finset.sum_congr rfl fun q _ => mul_comm (W (ix3 g p q)) (v (ix5 b k q g c))]
  pointwise [mix_x]

def out_x (u : FVec Ideal S2x16384x4x128 .f32) (f : FVec Ideal S2x128x128x4x128 .f32) : FVec Ideal S2x16384x512 .f32 :=
  shapeCast S2x16384x512 (mulf u (shapeCast S2x16384x4x128 f shapeCasts_S2x128x128x4x128_S2x16384x4x128)) shapeCasts_S2x16384x4x128_S2x16384x512
theorem out_x_at (u : FVec Ideal S2x16384x4x128 .f32) (f : FVec Ideal S2x128x128x4x128 .f32) (b : Fin 2) (k : Fin 128) (p : Fin 128) (n : Fin 16384) (g : Fin 4) (c : Fin 128)
    (j : Fin 512) (hn : n.val = 128 * k.val + p.val) (hj : j.val = 128 * g.val + c.val) :
    out_x u f (ix3 b n j) = u (ix4 b n g c) * f (ix5 b k p g c) := by
  pointwise [out_x]
  have h1 : (⟨j.val / 128, by omega⟩ : Fin 4) = g := Fin.ext (by simp only; omega)
  have h2 : (⟨j.val % 128, by omega⟩ : Fin 128) = c := Fin.ext (by simp only; omega)
  have h3 : (⟨n.val / 128, by omega⟩ : Fin 128) = k := Fin.ext (by simp only; omega)
  have h4 : (⟨n.val % 128, by omega⟩ : Fin 128) = p := Fin.ext (by simp only; omega)
  rw [h1, h2, h3, h4]

def REF_x (X : FVec Ideal S2x16384x1024 .f32) (N : FVec Ideal S4x128 .f32) (W : FVec Ideal S4x128x128 .f32) (B : FVec Ideal S4x128 .f32) : FVec Ideal S2x16384x512 .f32 :=
  out_x (us_x (gel_x X)) (mix_x (chunks_x (nrm_x (vs_x (gel_x X)) N)) W B)
theorem REF_x_at (X : FVec Ideal S2x16384x1024 .f32) (N : FVec Ideal S4x128 .f32) (W : FVec Ideal S4x128x128 .f32) (B : FVec Ideal S4x128 .f32) (b : Fin 2)
    (k : Fin 128) (p : Fin 128) (n : Fin 16384) (g : Fin 4) (c : Fin 128) (j : Fin 512) (hn : n.val = 128 * k.val + p.val) (hj : j.val = 128 * g.val + c.val) :
    REF_x X N W B (ix3 b n j) = cell (fun d => X (ix3 b n d)) (fun q d => X (ix3 b (at_x k q) d)) (fun e => N (ix2 g e))
      (fun q => W (ix3 g p q)) (B (ix2 g p)) g c := by
  unfold REF_x cell gated
  rw [out_x_at _ _ b k p n g c j hn hj, us_x_at, gel_x_at, mix_x_at]
  simp only [chunks_x_at, nrm_x_at, vs_x_at, gel_x_at]

/-! Of the context. -/

def gel_c (X : FVec Ideal S2x256x1024 .f32) : FVec Ideal S2x256x1024 .f32 :=
  mulf X (mulf (broadcastInDim S2x256x1024 ![] bcast_S_S2x256x1024 (constant S_ .f32 0x3F000000#32)) (addf (broadcastInDim S2x256x1024 ![] bcast_S_S2x256x1024 (constant S_ .f32 0x3F800000#32))
    (Host.tanh (mulf (broadcastInDim S2x256x1024 ![] bcast_S_S2x256x1024 (constant S_ .f32 0x3F4C422A#32)) (addf X
      (mulf (broadcastInDim S2x256x1024 ![] bcast_S_S2x256x1024 (constant S_ .f32 0x3D372713#32)) (mulf (mulf X X) X)))))))
theorem gel_c_at (X : FVec Ideal S2x256x1024 .f32) (b : Fin 2) (n : Fin 256) (d : Fin 1024) : gel_c X (ix3 b n d) = gelu (X (ix3 b n d)) := by
  refine Eq.trans ?_ (gelu_eq _)
  pointwise [gel_c]

def us_c (Z : FVec Ideal S2x256x1024 .f32) : FVec Ideal S2x256x4x128 .f32 :=
  shapeCast S2x256x4x128 (extractStridedSlice S2x256x512 ![0, 0, 0] Z slices_S2x256x1024_S2x256x512_0_0_0) shapeCasts_S2x256x512_S2x256x4x128
def vs_c (Z : FVec Ideal S2x256x1024 .f32) : FVec Ideal S2x256x4x128 .f32 :=
  shapeCast S2x256x4x128 (extractStridedSlice S2x256x512 ![0, 0, 512] Z slices_S2x256x1024_S2x256x512_0_0_512) shapeCasts_S2x256x512_S2x256x4x128
theorem us_c_at (Z : FVec Ideal S2x256x1024 .f32) (b : Fin 2) (n : Fin 256) (g : Fin 4) (c : Fin 128) :
    us_c Z (ix4 b n g c) = Z (ix3 b n (ucol g c)) := by
  pointwise [us_c, ucol]
  exact congrArg (fun i => Z (ix3 b n i)) (Fin.ext (by simp only; omega))
theorem vs_c_at (Z : FVec Ideal S2x256x1024 .f32) (b : Fin 2) (n : Fin 256) (g : Fin 4) (c : Fin 128) :
    vs_c Z (ix4 b n g c) = Z (ix3 b n (vcol g c)) := by
  pointwise [vs_c, vcol]
  exact congrArg (fun i => Z (ix3 b n i)) (Fin.ext (by simp only; omega))

def nrm_c (v : FVec Ideal S2x256x4x128 .f32) (N : FVec Ideal S4x128 .f32) : FVec Ideal S2x256x4x128 .f32 :=
  mulf (mulf v (broadcastInDim S2x256x4x128 ![0, 1, 2, 3] bcast_S2x256x4x1_S2x256x4x128_0_1_2_3 (Host.rsqrt (addf (Host.divf
    (broadcastInDim S2x256x4x1 ![0, 1, 2] bcast_S2x256x4_S2x256x4x1_0_1_2 (Host.reduceAdd (mulf v v) (constant S_ .f32 0x00000000#32) reducesTo_S2x256x4x128_S2x256x4_d3 h_S_))
    (broadcastInDim S2x256x4x1 ![] bcast_S_S2x256x4x1 (constant S_ .f32 0x43000000#32))) (broadcastInDim S2x256x4x1 ![] bcast_S_S2x256x4x1 (constant S_ .f32 0x358637BD#32))))))
    (broadcastInDim S2x256x4x128 ![0, 1, 2, 3] bcast_S1x1x4x128_S2x256x4x128_0_1_2_3 (broadcastInDim S1x1x4x128 ![2, 3] bcast_S4x128_S1x1x4x128_2_3 N))
theorem nrm_c_at (v : FVec Ideal S2x256x4x128 .f32) (N : FVec Ideal S4x128 .f32) (b : Fin 2) (n : Fin 256) (g : Fin 4) (c : Fin 128) :
    nrm_c v N (ix4 b n g c) = unit (fun e => v (ix4 b n g e)) (fun e => N (ix2 g e)) c := by
  pointwise [nrm_c, unit]

/-- Token `p` of chunk `k`. -/
def at_c (k : Fin 2) (p : Fin 128) : Fin 256 := ⟨128 * k.val + p.val, by omega⟩

def chunks_c (v : FVec Ideal S2x256x4x128 .f32) : FVec Ideal S2x2x128x4x128 .f32 := shapeCast S2x2x128x4x128 v shapeCasts_S2x256x4x128_S2x2x128x4x128
theorem chunks_c_at (v : FVec Ideal S2x256x4x128 .f32) (b : Fin 2) (k : Fin 2) (q : Fin 128) (g : Fin 4) (c : Fin 128) :
    chunks_c v (ix5 b k q g c) = v (ix4 b (at_c k q) g c) := by
  pointwise [chunks_c, at_c]
  exact congrArg (fun i => v (ix4 b i g c)) (Fin.ext (by simp only; omega))

def mix_c (v : FVec Ideal S2x2x128x4x128 .f32) (W : FVec Ideal S4x128x128 .f32) (B : FVec Ideal S4x128 .f32) : FVec Ideal S2x2x128x4x128 .f32 :=
  addf (transpose S2x2x128x4x128 [1, 2, 4, 0, 3] (Host.dotGeneral dot_S2x2x128x4x128_S4x128x128_S4x2x2x128x128_2_2_014_1_3_0 none v W) transposes_S4x2x2x128x128_S2x2x128x4x128_1_2_4_0_3)
    (broadcastInDim S2x2x128x4x128 ![0, 1, 2, 3, 4] bcast_S1x1x128x4x1_S2x2x128x4x128_0_1_2_3_4 (broadcastInDim S1x1x128x4x1 ![2, 3] bcast_S128x4_S1x1x128x4x1_2_3
      (transpose S128x4 [1, 0] B transposes_S4x128_S128x4_1_0)))
theorem mix_c_at (v : FVec Ideal S2x2x128x4x128 .f32) (W : FVec Ideal S4x128x128 .f32) (B : FVec Ideal S4x128 .f32) (b : Fin 2) (k : Fin 2) (p : Fin 128)
    (g : Fin 4) (c : Fin 128) : mix_c v W B (ix5 b k p g c) = (∑ q : Fin 128, W (ix3 g p q) * v (ix5 b k q g c)) + B (ix2 g p) := by
  rw [Finset.sum_congr rfl fun q _ => mul_comm (W (ix3 g p q)) (v (ix5 b k q g c))]
  pointwise [mix_c]

def out_c (u : FVec Ideal S2x256x4x128 .f32) (f : FVec Ideal S2x2x128x4x128 .f32) : FVec Ideal S2x256x512 .f32 :=
  shapeCast S2x256x512 (mulf u (shapeCast S2x256x4x128 f shapeCasts_S2x2x128x4x128_S2x256x4x128)) shapeCasts_S2x256x4x128_S2x256x512
theorem out_c_at (u : FVec Ideal S2x256x4x128 .f32) (f : FVec Ideal S2x2x128x4x128 .f32) (b : Fin 2) (k : Fin 2) (p : Fin 128) (n : Fin 256) (g : Fin 4) (c : Fin 128)
    (j : Fin 512) (hn : n.val = 128 * k.val + p.val) (hj : j.val = 128 * g.val + c.val) :
    out_c u f (ix3 b n j) = u (ix4 b n g c) * f (ix5 b k p g c) := by
  pointwise [out_c]
  have h1 : (⟨j.val / 128, by omega⟩ : Fin 4) = g := Fin.ext (by simp only; omega)
  have h2 : (⟨j.val % 128, by omega⟩ : Fin 128) = c := Fin.ext (by simp only; omega)
  have h3 : (⟨n.val / 128, by omega⟩ : Fin 2) = k := Fin.ext (by simp only; omega)
  have h4 : (⟨n.val % 128, by omega⟩ : Fin 128) = p := Fin.ext (by simp only; omega)
  rw [h1, h2, h3, h4]

def REF_c (X : FVec Ideal S2x256x1024 .f32) (N : FVec Ideal S4x128 .f32) (W : FVec Ideal S4x128x128 .f32) (B : FVec Ideal S4x128 .f32) : FVec Ideal S2x256x512 .f32 :=
  out_c (us_c (gel_c X)) (mix_c (chunks_c (nrm_c (vs_c (gel_c X)) N)) W B)
theorem REF_c_at (X : FVec Ideal S2x256x1024 .f32) (N : FVec Ideal S4x128 .f32) (W : FVec Ideal S4x128x128 .f32) (B : FVec Ideal S4x128 .f32) (b : Fin 2)
    (k : Fin 2) (p : Fin 128) (n : Fin 256) (g : Fin 4) (c : Fin 128) (j : Fin 512) (hn : n.val = 128 * k.val + p.val) (hj : j.val = 128 * g.val + c.val) :
    REF_c X N W B (ix3 b n j) = cell (fun d => X (ix3 b n d)) (fun q d => X (ix3 b (at_c k q) d)) (fun e => N (ix2 g e))
      (fun q => W (ix3 g p q)) (B (ix2 g p)) g c := by
  unfold REF_c cell gated
  rw [out_c_at _ _ b k p n g c j hn hj, us_c_at, gel_c_at, mix_c_at]
  simp only [chunks_c_at, nrm_c_at, vs_c_at, gel_c_at]

/-- The reference as a function of its arguments. -/
def REF (X : FVec Ideal S2x16384x1024 .f32) (Y : FVec Ideal S2x256x1024 .f32) (N : FVec Ideal S4x128 .f32) (W : FVec Ideal S4x128x128 .f32)
    (B : FVec Ideal S4x128 .f32) : FVec Ideal S2x16640x512 .bf16 :=
  truncf .bf16 (concatenate S2x16640x512 1 [⟨S2x16384x512, REF_x X N W B⟩, ⟨S2x256x512, REF_c Y N W B⟩]
    concatenates_S2x16384x512_S2x256x512_S2x16640x512_d1) bitsLt_bf16_f32
theorem REF_lat (X : FVec Ideal S2x16384x1024 .f32) (Y : FVec Ideal S2x256x1024 .f32) (N : FVec Ideal S4x128 .f32) (W : FVec Ideal S4x128x128 .f32)
    (B : FVec Ideal S4x128 .f32) (b : Fin 2) (n : Fin 16640) (d : Fin 512) (k : Fin 16384) (hk : n.val = k.val) :
    REF X Y N W B (ix3 b n d) = REF_x X N W B (ix3 b k d) := by
  have hn : n.val < 16384 := by omega
  have h1 : (⟨n.val, hn⟩ : Fin 16384) = k := Fin.ext hk
  unfold REF
  generalize REF_x X N W B = P
  generalize REF_c Y N W B = Q
  pointwise []
  rw [dif_pos hn, h1]
theorem REF_ctx (X : FVec Ideal S2x16384x1024 .f32) (Y : FVec Ideal S2x256x1024 .f32) (N : FVec Ideal S4x128 .f32) (W : FVec Ideal S4x128x128 .f32)
    (B : FVec Ideal S4x128 .f32) (b : Fin 2) (n : Fin 16640) (d : Fin 512) (k : Fin 256) (hk : n.val = 16384 + k.val) :
    REF X Y N W B (ix3 b n d) = REF_c Y N W B (ix3 b k d) := by
  have hn : ¬ n.val < 16384 := by omega
  have h1 : (⟨n.val - 16384, by omega⟩ : Fin 256) = k := Fin.ext (by simp only; omega)
  unfold REF
  generalize REF_x X N W B = P
  generalize REF_c Y N W B = Q
  pointwise []
  rw [dif_neg hn, h1]

theorem res_eq (m : (ℓ : Loc nD τ sig) → Buf (Elt Ideal) ℓ) (c : Dev nD) : res_main_v81 m c
    = REF (m ((c : Thread nD τ).loc main_arg0)) (m ((c : Thread nD τ).loc main_arg1)) (m ((c : Thread nD τ).loc main_arg2))
      (m ((c : Thread nD τ).loc main_arg3)) (m ((c : Thread nD τ).loc main_arg4)) := by
  unfold res_main_v81
  rfl

end Cert.Reference5Ideal.Value
-- ==== Proof.GatedEqual.lean ====
/- The gated unit: the call and its reference hold the same array. -/
module
public import proofs.«01_k».proof.Proof.GatedArray
public import proofs.«01_k».proof.Proof.GatedRef
public import Idealize.ShloMosaic.PureOps.Ideal
public import Idealize.ShloMosaic.Lib.Pointwise.Index
import Idealize.ShloMosaic.Lib.Pointwise
@[expose] public section
set_option maxRecDepth 16384
noncomputable section
namespace Cert.GatedEqual
open Cert.Kernel5Ideal Cert.Gated
open Cert.Kernel5Ideal.Value (ENT inChunk chunkOf posOf grpOf laneOf stream stream_lat stream_ctx shifts shifts_at)
open Cert.Reference5Ideal.Value (REF REF_x REF_c REF_x_at REF_c_at REF_lat REF_ctx at_x at_c)
open Idealize.ShloMosaic Idealize.ShloMosaic.TcCoe Idealize.SL.Sem

theorem cell_congr {x x' : Fin 1024 → EReal} {Z Z' : Fin 128 → Fin 1024 → EReal} (n w : Fin 128 → EReal) {b b' : EReal} (g : Fin 4)
    (c : Fin 128) (hx : ∀ d, x d = x' d) (hZ : ∀ q d, Z q d = Z' q d) (hb : b = b') : cell x Z n w b g c = cell x' Z' n w b' g c := by
  obtain rfl := funext hx
  obtain rfl : Z = Z' := funext fun q => funext (hZ q)
  rw [hb]

theorem same (X : FVec Ideal S2x16384x1024 .f32) (Y : FVec Ideal S2x256x1024 .f32) (N : FVec Ideal S4x128 .f32)
    (W : FVec Ideal S4x128x128 .f32) (B : FVec Ideal S4x128 .f32) : Value.OUT (stream X Y) N W (shifts B) = REF X Y N W B := by
  refine funext fun (j : S2x16640x512.Idx) => ?_
  idx_vars j
  rw [Value.OUT_at _ _ _ _ j0 j1 j2 _ rfl rfl rfl]
  unfold ENT
  by_cases h : j1.val < 16384
  · rw [REF_lat X Y N W B j0 j1 j2 ⟨j1.val, h⟩ rfl,
      REF_x_at X N W B j0 ⟨j1.val / 128, by omega⟩ (posOf j1) ⟨j1.val, h⟩ (grpOf j2) (laneOf j2) j2 (by simp only [posOf]; omega)
        (by simp only [grpOf, laneOf]; omega)]
    exact cell_congr _ _ _ _ (fun d => stream_lat X Y j0 j1 d ⟨j1.val, h⟩ rfl)
      (fun q d => stream_lat X Y j0 _ d _ (by simp only [inChunk, chunkOf, at_x])) (shifts_at B _ _ _)
  · rw [REF_ctx X Y N W B j0 j1 j2 ⟨j1.val - 16384, by omega⟩ (by simp only; omega),
      REF_c_at Y N W B j0 ⟨j1.val / 128 - 128, by omega⟩ (posOf j1) ⟨j1.val - 16384, by omega⟩ (grpOf j2) (laneOf j2) j2
        (by simp only [posOf]; omega) (by simp only [grpOf, laneOf]; omega)]
    exact cell_congr _ _ _ _ (fun d => stream_ctx X Y j0 j1 d ⟨j1.val - 16384, by omega⟩ (by simp only; omega))
      (fun q d => stream_ctx X Y j0 _ d _ (by simp only [inChunk, chunkOf, at_c]; omega)) (shifts_at B _ _ _)

variable (m : (ℓ : Loc nD τ sig) → Buf (Elt Ideal) ℓ)

/-- What the call leaves in its array, as the reference's function of the arguments. -/
theorem result (c : Dev nD) : (Gen.dats m 0 c).arrAt 4 cfg0.N = REF (m ((c : Thread nD τ).loc main_arg0))
    (m ((c : Thread nD τ).loc main_arg1)) (m ((c : Thread nD τ).loc main_arg2)) (m ((c : Thread nD τ).loc main_arg3))
    (m ((c : Thread nD τ).loc main_arg4)) := by
  rw [Value.final4, Value.stream_arr, Value.shifts_arr]
  exact same _ _ _ _ _

end Cert.GatedEqual
-- ==== Proof.Silu.lean ====
/- The modulation rows: the call's array, the reference's, and that they are the same. -/
module
public import proofs.«01_k».proof.Proof.Gen.Kernel6Ideal.Value
public import proofs.«01_k».proof.Proof.Gen.Reference6Ideal.Run
public import Idealize.ShloMosaic.PureOps.Ideal
public import Idealize.ShloMosaic.Lib.Pointwise.Index
import Idealize.ShloMosaic.Lib.Pointwise
import Idealize.ShloMosaic.Lib.Claim
public import Idealize.ShloMosaic.Lib.StableHlo.RunRead
import Idealize.ShloMosaic.Lib.Pipeline.ValueKit
@[expose] public section
set_option maxRecDepth 16384
noncomputable section
namespace Cert.Silu
open Idealize.ShloMosaic

/-- An entry times its logistic. -/
def silu (x : EReal) : EReal := x * Ideal.div 1 (1 + Ideal.exp (-x))

/-- One entry of a modulation row, from the row, a column of the weights and its shift. -/
def entry (x w : Fin 2048 → EReal) (b : EReal) : EReal := ∑ e : Fin 2048, silu (x e) * w e + b

end Cert.Silu

namespace Cert.Kernel6Ideal.Value
open Cert.Kernel6Ideal Cert.Kernel6Ideal.Gen Cert.Silu
open Idealize.ShloMosaic Idealize.ShloMosaic.TcCoe Idealize.SL.Sem
open Idealize.ShloMosaic.Pipeline (Dat)

theorem pay_at (x0 : Vec Ideal S8x2048 .f32) (x1 : Vec Ideal S1x2048x1024 .f32) (x2 : Vec Ideal S1x1x1024 .f32) (r : Fin 8) (j : Fin 1024) :
    k0_pay1 x0 x1 x2 (ix2 r j) = entry (fun e => x0 (ix2 r e)) (fun e => x1 (ix3 0 e j)) (x2 (ix3 0 0 j)) := by
  pointwise [k0_pay1, entry, silu]
  simp only [zero_sub]
theorem out3_at (x0 : Vec Ideal S8x2048 .f32) (x1 : Vec Ideal S1x2048x1024 .f32) (x2 : Vec Ideal S1x1x1024 .f32) (r : Fin 8) (j : Fin 1024) :
    out0_3 x0 x1 x2 (ix2 r j) = entry (fun e => x0 (ix2 r e)) (fun e => x1 (ix3 0 e j)) (x2 (ix3 0 0 j)) := by
  frame_out
  exact pay_at x0 x1 x2 r j

variable (m : (ℓ : Loc nD τ sig) → Buf (Elt Ideal) ℓ)

/-- Where each window's block lies at grid point `t`. -/
theorem idx : ∀ t : Fin cfg0.N, win0_0.index t = ![0, 0] ∧ win0_1.index t = ![1, 0, t.val] ∧ win0_2.index t = ![1, 0, t.val] ∧
    win0_3.index t = ![0, t.val] :=
  (by decide +kernel : ∀ t : Fin grid0.N, _)

theorem lt_N (t : Fin cfg0.N) : t.val < 12 := lt_of_lt_of_eq t.isLt N_0

/-- A column of a grid point's block. -/
def colAt (t : Fin cfg0.N) (j : Fin 1024) : Fin 12288 := ⟨t.val * 1024 + j.val, by have := lt_N t; omega⟩

/-! The entry of each window's block, as an entry of the array the window is of. -/

theorem read0 (X : FVec Ideal S8x2048 .f32) (t : Fin cfg0.N) (r : Fin 8) (e : Fin 2048) :
    (show FVec Ideal S8x2048 .f32 from ((cfg0.win 0).blk t).view.read (Elt Ideal) X) (ix2 r e) = X (ix2 r e) := by
  blk_simp [idx t]
  blk_ext [idx t]
theorem iblk0 (c : Dev nD) (t : Fin cfg0.N) (r : Fin 8) (e : Fin 2048) :
    iblk m c 0 t (ix2 r e) = V m c main_arg0 (ix2 r e) := read0 (V m c main_arg0) t r e

theorem read1 (X : FVec Ideal S2x2048x12288 .f32) (t : Fin cfg0.N) (z : Fin 1) (e : Fin 2048) (j : Fin 1024) :
    (show FVec Ideal S1x2048x1024 .f32 from ((cfg0.win 1).blk t).view.read (Elt Ideal) X) (ix3 z e j) = X (ix3 1 e (colAt t j)) := by
  blk_simp [idx t]
  blk_ext [idx t, colAt]
theorem iblk1 (c : Dev nD) (t : Fin cfg0.N) (z : Fin 1) (e : Fin 2048) (j : Fin 1024) :
    iblk m c 1 t (ix3 z e j) = V m c main_arg1 (ix3 1 e (colAt t j)) := read1 (V m c main_arg1) t z e j

theorem read2 (X : FVec Ideal S2x1x12288 .f32) (t : Fin cfg0.N) (z y : Fin 1) (j : Fin 1024) :
    (show FVec Ideal S1x1x1024 .f32 from ((cfg0.win 2).blk t).view.read (Elt Ideal) X) (ix3 z y j) = X (ix3 1 0 (colAt t j)) := by
  blk_simp [idx t]
  blk_ext [idx t, colAt]
theorem iblk2 (c : Dev nD) (t : Fin cfg0.N) (z y : Fin 1) (j : Fin 1024) :
    iblk m c 2 t (ix3 z y j) = V m c main_v0 (ix3 1 0 (colAt t j)) := read2 (V m c main_v0) t z y j

/-- The call's array. -/
def OUT (X : FVec Ideal S8x2048 .f32) (W : FVec Ideal S2x2048x12288 .f32) (B : FVec Ideal S2x1x12288 .f32) : FVec Ideal S8x12288 .f32 :=
  fun j => entry (fun e => X (ix2 (j 0) e)) (fun e => W (ix3 1 e (j 1))) (B (ix3 1 0 (j 1)))
theorem OUT_at (X : FVec Ideal S8x2048 .f32) (W : FVec Ideal S2x2048x12288 .f32) (B : FVec Ideal S2x1x12288 .f32) (r : Fin 8)
    (k : Fin 12288) (j : S8x12288.Idx) (h0 : (j 0 : ℕ) = r) (h1 : (j 1 : ℕ) = k) :
    OUT X W B j = entry (fun e => X (ix2 r e)) (fun e => W (ix3 1 e k)) (B (ix3 1 0 k)) := by
  obtain rfl : j 0 = r := Fin.ext h0
  obtain rfl : j 1 = k := Fin.ext h1
  rfl

/-- A block's entry, from the arrays that the blocks were cut from. -/
theorem out3_of (x0 : Vec Ideal S8x2048 .f32) (x1 : Vec Ideal S1x2048x1024 .f32) (x2 : Vec Ideal S1x1x1024 .f32)
    (X : FVec Ideal S8x2048 .f32) (W : FVec Ideal S2x2048x12288 .f32) (B : FVec Ideal S2x1x12288 .f32) (t : Fin cfg0.N) (r : Fin 8)
    (j : Fin 1024) (h0 : ∀ e, x0 (ix2 r e) = X (ix2 r e)) (h1 : ∀ e, x1 (ix3 0 e j) = W (ix3 1 e (colAt t j)))
    (h2 : x2 (ix3 0 0 j) = B (ix3 1 0 (colAt t j))) :
    out0_3 x0 x1 x2 (ix2 r j) = entry (fun e => X (ix2 r e)) (fun e => W (ix3 1 e (colAt t j))) (B (ix3 1 0 (colAt t j))) := by
  rw [out3_at]
  simp only [h0, h1, h2]

theorem final3 (c : Dev nD) : (dats m 0 c).arrAt 3 cfg0.N = OUT (V m c main_arg0) (V m c main_arg1) (V m c main_v0) := by
  refine (dats m 0 c).arrAt_eq_of_covers 3 _ (by decide +kernel) fun t hf y => ?_
  blk_simp
  rw [after0_3]
  idx_vars y
  rw [OUT_at _ _ _ y0 (colAt t y1)]
  · exact out3_of _ _ _ _ _ _ t _ _ (fun e => iblk0 m c t _ e) (fun e => iblk1 m c t 0 e _) (iblk2 m c t 0 0 _)
  all_goals blk_simp [idx t, colAt]

/-- The shifts with a unit axis, as the host prepares them. -/
def shifts (B : FVec Ideal S2x12288 .f32) : FVec Ideal S2x1x12288 .f32 := shapeCast S2x1x12288 B shapeCasts_S2x12288_S2x1x12288
theorem shifts_at (B : FVec Ideal S2x12288 .f32) (l : Fin 2) (j : Fin 12288) : shifts B (ix3 l 0 j) = B (ix2 l j) := by
  pointwise [shifts]
theorem shifts_arr (c : Dev nD) : V m c main_v0 = shifts (m ((c : Thread nD τ).loc main_arg2)) := by
  unfold_abbrev_sides
  after_reads_simp
  rfl

end Cert.Kernel6Ideal.Value

namespace Cert.Reference6Ideal.Value
open Cert.Reference6Ideal Cert.Reference6Ideal.Gen Cert.Silu
open Idealize.ShloMosaic Idealize.ShloMosaic.TcCoe Idealize.SL.Sem

/-- The reference as a function of its arguments. -/
def REF (X : FVec Ideal S8x2048 .f32) (W : FVec Ideal S2x2048x12288 .f32) (B : FVec Ideal S2x12288 .f32) : FVec Ideal S8x12288 .f32 :=
  addf (Host.dotGeneral dot_S8x2048_S2048x12288_S8x12288_1_0_0_1_n_n none (mulf X (Host.divf (broadcastInDim S8x2048 ![] bcast_S_S8x2048 (constant S_ .f32 0x3F800000#32))
    (addf (broadcastInDim S8x2048 ![] bcast_S_S8x2048 (constant S_ .f32 0x3F800000#32)) (Host.exp (Host.negf X)))))
    (shapeCast S2048x12288 (extractStridedSlice S1x2048x12288 ![1, 0, 0] W slices_S2x2048x12288_S1x2048x12288_1_0_0) shapeCasts_S1x2048x12288_S2048x12288))
    (broadcastInDim S8x12288 ![0, 1] bcast_S1x12288_S8x12288_0_1 (broadcastInDim S1x12288 ![1] bcast_S12288_S1x12288_1
      (shapeCast S12288 (extractStridedSlice S1x12288 ![1, 0] B slices_S2x12288_S1x12288_1_0) shapeCasts_S1x12288_S12288)))
theorem REF_at (X : FVec Ideal S8x2048 .f32) (W : FVec Ideal S2x2048x12288 .f32) (B : FVec Ideal S2x12288 .f32) (r : Fin 8) (j : Fin 12288) :
    REF X W B (ix2 r j) = entry (fun e => X (ix2 r e)) (fun e => W (ix3 1 e j)) (B (ix2 1 j)) := by
  pointwise [REF, entry, silu]

end Cert.Reference6Ideal.Value

namespace Cert.SiluEqual
open Cert.Kernel6Ideal Cert.Silu
open Cert.Kernel6Ideal.Value (OUT OUT_at shifts shifts_at)
open Cert.Reference6Ideal.Value (REF REF_at)
open Idealize.ShloMosaic Idealize.ShloMosaic.TcCoe Idealize.SL.Sem

theorem same (X : FVec Ideal S8x2048 .f32) (W : FVec Ideal S2x2048x12288 .f32) (B : FVec Ideal S2x12288 .f32) :
    OUT X W (shifts B) = REF X W B := by
  refine funext fun (j : S8x12288.Idx) => ?_
  idx_vars j
  rw [OUT_at _ _ _ j0 j1 _ rfl rfl, REF_at, shifts_at]

variable (m : (ℓ : Loc nD τ sig) → Buf (Elt Ideal) ℓ)

/-- What the call leaves in its array, as the reference's function of the arguments. -/
theorem result (c : Dev nD) : (Gen.dats m 0 c).arrAt 3 cfg0.N = REF (m ((c : Thread nD τ).loc main_arg0))
    (m ((c : Thread nD τ).loc main_arg1)) (m ((c : Thread nD τ).loc main_arg2)) := by
  rw [Value.final3, Value.shifts_arr, Gen.V_main_arg0, Gen.V_main_arg1]
  exact same _ _ _

end Cert.SiluEqual
-- ==== Proof.Heads.lean ====
/- Sums over a head's lanes, and the readout of one lane: the one formula that kernel and reference both read. -/
module
public import proofs.«01_k».proof.Proof.Maths
public import Idealize.ShloMosaic.PureOps.Ideal
public import Idealize.ShloMosaic.Lib.Pointwise.Index
@[expose] public section
noncomputable section
namespace Cert.Heads
open Idealize.ShloMosaic Cert.KernelIdeal.Value

/-- Lane `e` of head `h`, and the head of a lane. -/
def lane (h : Fin 8) (e : Fin 64) : Fin 512 := ⟨64 * h.val + e.val, by omega⟩
def head (j : Fin 512) : Fin 8 := ⟨j.val / 64, by omega⟩
def sub (j : Fin 512) : Fin 64 := ⟨j.val % 64, by omega⟩
theorem lane_sub (j : Fin 512) : lane (head j) (sub j) = j := Fin.ext (by simp only [head, sub, lane]; omega)
theorem sub_lane (h : Fin 8) (e : Fin 64) : sub (lane h e) = e := Fin.ext (by simp only [sub, lane]; omega)
theorem head_lane (h : Fin 8) (e : Fin 64) : head (lane h e) = h := Fin.ext (by simp only [head, lane]; omega)

/-- One for two lanes of one head, else zero. -/
def sel (a b : Fin 512) : EReal := if a.val / 64 = b.val / 64 then 1 else 0
theorem sel_lane (h : Fin 8) (e : Fin 64) (j : Fin 512) : sel (lane h e) j = if h = head j then 1 else 0 := by
  have h1 : (lane h e).val / 64 = h.val := by simp only [lane]; omega
  unfold sel
  rw [h1]
  exact if_congr (by rw [Fin.ext_iff]; rfl) rfl rfl

theorem sum_lanes (f : Fin 512 → EReal) : ∑ a, f a = ∑ h : Fin 8, ∑ e : Fin 64, f (lane h e) := by
  rw [← Fintype.sum_prod_type' (fun h e => f (lane h e))]
  refine (Fintype.sum_equiv (finProdFinEquiv (m := 8) (n := 64)) _ _ fun p => congrArg f (Fin.ext ?_)).symm
  simp only [lane, finProdFinEquiv_apply_val]
  omega
theorem sum_sel (f : Fin 512 → EReal) (j : Fin 512) : ∑ a, f a * sel a j = ∑ e : Fin 64, f (lane (head j) e) := by
  rw [sum_lanes]
  simp only [sel_lane]
  rw [Finset.sum_eq_single (head j)]
  · simp
  · intro h _ hh
    simp [hh]
  · simp

/-- The sum of the parts that a short float takes of each entry and of what it leaves. -/
theorem sum_split (f : Fin 512 → EReal) (j : Fin 512) (hf : ∀ a, IsReal (f a)) :
    ∑ a, f a * sel a j + ∑ a, (f a - f a) * sel a j = ∑ e : Fin 64, f (lane (head j) e) := by
  have h0 : ∀ a, f a - f a = 0 := fun a => by
    obtain ⟨x, hx⟩ := hf a
    rw [hx, ← EReal.coe_sub, sub_self, EReal.coe_zero]
  simp only [h0, zero_mul, Finset.sum_const_zero, add_zero]
  exact sum_sel f j

theorem word64 : Ideal.ofBits .f32 0x42800000#32 = ((64 : ℝ) : EReal) := by
  simp [Ideal.ofBits, Ideal.ieee]
  rw [← EReal.coe_mul]
  congr 1
  norm_num
theorem word64th : Ideal.ofBits .f32 0x3C800000#32 = ((1 / 64 : ℝ) : EReal) := by
  simp [Ideal.ofBits, Ideal.ieee]
  rw [← EReal.coe_mul]
  congr 1
  norm_num
theorem one_word : Ideal.ofBits .bf16 0x3F80#16 = 1 := by
  simp [Ideal.ofBits, Ideal.ieee]
  rw [← EReal.coe_mul]
  norm_num
theorem zero_word : Ideal.ofBits .bf16 0x0000#16 = 0 := by
  simp [Ideal.ofBits, Ideal.ieee]
theorem div64 (x : EReal) : Ideal.div x (Ideal.ofBits .f32 0x42800000#32) = x * Ideal.ofBits .f32 0x3C800000#32 := by
  rw [word64, word64th, Ideal.div_coe (by norm_num)]

/-- The mean of a head's lanes, and the mean square of what they are off it. -/
def mean (y : Fin 512 → EReal) (h : Fin 8) : EReal := (∑ e : Fin 64, y (lane h e)) * Ideal.ofBits .f32 0x3C800000#32
def spread (y : Fin 512 → EReal) (h : Fin 8) : EReal :=
  (∑ e : Fin 64, (y (lane h e) - mean y h) * (y (lane h e) - mean y h)) * Ideal.ofBits .f32 0x3C800000#32

theorem mean_real (y : Fin 512 → EReal) (hy : ∀ a, IsReal (y a)) (h : Fin 8) : IsReal (mean y h) := by
  unfold mean
  rw [word64th]
  exact (IsReal.sum _ _ fun e => hy _).mul ⟨_, rfl⟩
theorem off_real (y : Fin 512 → EReal) (hy : ∀ a, IsReal (y a)) (a : Fin 512) (h : Fin 8) :
    IsReal ((y a - mean y h) * (y a - mean y h)) := by
  obtain ⟨m, hm⟩ := mean_real y hy h
  obtain ⟨x, hx⟩ := hy a
  rw [hm, hx, ← EReal.coe_sub]
  exact IsReal.mul ⟨_, rfl⟩ ⟨_, rfl⟩

/-- One lane of the readout, from the mixed values, the bonus's products, and the lane's gain, shift, value and gate. -/
def readout (y t : Fin 512 → EReal) (w b v g : EReal) (j : Fin 512) : EReal :=
  ((y j - mean y (head j)) * Ideal.rsqrt (spread y (head j) + Ideal.ofBits .f32 0x3A27C5AC#32) * w + b
    + (∑ e : Fin 64, t (lane (head j) e)) * v) * g

/-- The kernel's products with the matrix of heads, and what it makes of them. -/
def segsum (f : Fin 512 → EReal) (j : Fin 512) : EReal := ∑ a, f a * sel a j + ∑ a, (f a - f a) * sel a j
def mu (y : Fin 512 → EReal) (j : Fin 512) : EReal := segsum y j * Ideal.ofBits .f32 0x3C800000#32
def dlt (y : Fin 512 → EReal) (j : Fin 512) : EReal := y j - mu y j
def var (y : Fin 512 → EReal) (j : Fin 512) : EReal := segsum (fun a => dlt y a * dlt y a) j * Ideal.ofBits .f32 0x3C800000#32

theorem mu_eq (y : Fin 512 → EReal) (hy : ∀ a, IsReal (y a)) (j : Fin 512) : mu y j = mean y (head j) := by
  unfold mu segsum
  rw [sum_split y j hy]
  rfl
theorem var_eq (y : Fin 512 → EReal) (hy : ∀ a, IsReal (y a)) (j : Fin 512) : var y j = spread y (head j) := by
  have hd : ∀ a, dlt y a * dlt y a = (y a - mean y (head a)) * (y a - mean y (head a)) := fun a => by
    unfold dlt
    rw [mu_eq y hy]
  unfold var segsum
  rw [sum_split _ j fun a => by rw [hd]; exact off_real y hy a _]
  simp only [hd, head_lane]
  rfl
theorem readout_eq (y t : Fin 512 → EReal) (hy : ∀ a, IsReal (y a)) (ht : ∀ a, IsReal (t a)) (w b v g : EReal) (j : Fin 512) :
    (dlt y j * Ideal.rsqrt (var y j + Ideal.ofBits .f32 0x3A27C5AC#32) * w + b + segsum t j * v) * g = readout y t w b v g j := by
  unfold readout
  rw [var_eq y hy, show segsum t j = _ from sum_split t j ht, show dlt y j = y j - mu y j from rfl, mu_eq y hy]

end Cert.Heads
-- ==== Proof.HeadsBlocks.lean ====
/- The readout's block, entry by entry. -/
module
public import proofs.«01_k».proof.Proof.Heads
public import proofs.«01_k».proof.Proof.Gen.Kernel7Ideal.Value
public import Idealize.ShloMosaic.PureOps.Ideal
public import Idealize.ShloMosaic.Lib.Pointwise.Index
import Idealize.ShloMosaic.Lib.Pointwise
import Idealize.ShloMosaic.Lib.Claim
import Idealize.ShloMosaic.Lib.Pipeline.ValueKit
@[expose] public section
set_option maxRecDepth 16384
noncomputable section
namespace Cert.Kernel7Ideal.Value
open Cert.Kernel7Ideal Cert.Kernel7Ideal.Gen Cert.Heads
open Idealize.ShloMosaic Idealize.ShloMosaic.TcCoe Idealize.SL.Sem

/-- The sums over heads of a block, by its two products with the matrix of heads. -/
def seg (X : FVec Ideal S256x512 .f32) (M : FVec Ideal S512x512 .bf16) : FVec Ideal S256x512 .f32 :=
  addf (matmul dot_S256x512_S512x512_S256x512_1_0_0_1_n_n none (truncf .bf16 X bitsLt_bf16_f32) M (constant S256x512 .f32 0x00000000#32))
    (matmul dot_S256x512_S512x512_S256x512_1_0_0_1_n_n none (truncf .bf16 (subf X (extf .f32 (truncf .bf16 X bitsLt_bf16_f32) bitsLt_bf16_f32)) bitsLt_bf16_f32)
      M (constant S256x512 .f32 0x00000000#32))
theorem seg_at' (X : FVec Ideal S256x512 .f32) (M : FVec Ideal S512x512 .bf16) (r : Fin 256) (j : Fin 512) :
    seg X M (ix2 r j) = ∑ a : Fin 512, (X (ix2 r a) : EReal) * M (ix2 a j) + ∑ a : Fin 512, ((X (ix2 r a) : EReal) - X (ix2 r a)) * M (ix2 a j) := by
  pointwise [seg]
theorem seg_at (X : FVec Ideal S256x512 .f32) (M : FVec Ideal S512x512 .bf16) (hM : ∀ a b, M (ix2 a b) = sel a b) (r : Fin 256) (j : Fin 512) :
    seg X M (ix2 r j) = segsum (fun a => X (ix2 r a)) j := by
  rw [seg_at']
  simp only [hM]
  rfl

/-- A block's sum of the two directions. -/
def both (x0 x1 : FVec Ideal S1x256x512 .f32) : FVec Ideal S256x512 .f32 :=
  addf (shapeCast S256x512 x0 shapeCasts_S1x256x512_S256x512) (shapeCast S256x512 x1 shapeCasts_S1x256x512_S256x512)
theorem both_at (x0 x1 : FVec Ideal S1x256x512 .f32) (r : Fin 256) (j : Fin 512) :
    both x0 x1 (ix2 r j) = x0 (ix3 0 r j) + x1 (ix3 0 r j) := by
  pointwise [both]

/-- A block off its means. -/
def offs (X : FVec Ideal S256x512 .f32) (M : FVec Ideal S512x512 .bf16) : FVec Ideal S256x512 .f32 :=
  subf X (mulf (seg X M) (broadcast S256x512 (Scalar.ofBits .f32 0x3C800000#32)))
theorem offs_at (X : FVec Ideal S256x512 .f32) (M : FVec Ideal S512x512 .bf16) (hM : ∀ a b, M (ix2 a b) = sel a b) (r : Fin 256) (j : Fin 512) :
    offs X M (ix2 r j) = dlt (fun a => X (ix2 r a)) j := by
  unfold dlt mu
  rw [← seg_at X M hM]
  rfl

/-- A block off its means, over its spreads, by the gains and with the shifts. -/
def unitB (D : FVec Ideal S256x512 .f32) (M : FVec Ideal S512x512 .bf16) (w b : FVec Ideal S1x512 .f32) : FVec Ideal S256x512 .f32 :=
  addf (mulf (mulf D (rsqrt (addf (mulf (seg (mulf D D) M) (broadcast S256x512 (Scalar.ofBits .f32 0x3C800000#32)))
    (broadcast S256x512 (Scalar.ofBits .f32 0x3A27C5AC#32)))))
    (broadcastTo S256x512 (shapeCast S1x512 w shapeCasts_S1x512_S1x512) broadcasts_S1x512_S256x512))
    (broadcastTo S256x512 (shapeCast S1x512 b shapeCasts_S1x512_S1x512) broadcasts_S1x512_S256x512)
theorem unitB_at (D : FVec Ideal S256x512 .f32) (M : FVec Ideal S512x512 .bf16) (w b : FVec Ideal S1x512 .f32)
    (hM : ∀ a b, M (ix2 a b) = sel a b) (r : Fin 256) (j : Fin 512) :
    unitB D M w b (ix2 r j) = D (ix2 r j) * Ideal.rsqrt (segsum (fun a => D (ix2 r a) * D (ix2 r a)) j * Ideal.ofBits .f32 0x3C800000#32
      + Ideal.ofBits .f32 0x3A27C5AC#32) * w (ix2 0 j) + b (ix2 0 j) := by
  have h : seg (mulf D D) M (ix2 r j) = segsum (fun a => D (ix2 r a) * D (ix2 r a)) j := seg_at (mulf D D) M hM r j
  rw [← h]
  unfold unitB
  generalize seg (mulf D D) M = S
  pointwise []
theorem whole_at (M : Vec Ideal S512x512 .bf16) (a b : Fin 512) : k0_pay2 M (ix2 a b) = M (ix2 a b) := by
  pointwise [k0_pay2]
theorem pay3_eq (M : Vec Ideal S512x512 .bf16) (x0 x1 : Vec Ideal S1x256x512 .f32) (w b : Vec Ideal S1x512 .f32) :
    k0_pay3 M x0 x1 w b = unitB (offs (both x0 x1) (k0_pay2 M)) (k0_pay2 M) w b := rfl
theorem pay3_at (M : Vec Ideal S512x512 .bf16) (x0 x1 : Vec Ideal S1x256x512 .f32) (w b : Vec Ideal S1x512 .f32)
    (hM : ∀ a b, M (ix2 a b) = sel a b) (r : Fin 256) (j : Fin 512) :
    k0_pay3 M x0 x1 w b (ix2 r j) = dlt (fun a => x0 (ix3 0 r a) + x1 (ix3 0 r a)) j
      * Ideal.rsqrt (var (fun a => x0 (ix3 0 r a) + x1 (ix3 0 r a)) j + Ideal.ofBits .f32 0x3A27C5AC#32) * w (ix2 0 j) + b (ix2 0 j) := by
  have hM' : ∀ a b, k0_pay2 M (ix2 a b) = sel a b := fun a b => (whole_at M a b).trans (hM a b)
  rw [pay3_eq, unitB_at _ _ _ _ hM']
  unfold var
  simp only [offs_at _ _ hM', both_at]

/-- The bonus's products. -/
def prodB (R K0 K1 : FVec Ideal S1x256x512 .f32) (p : FVec Ideal S1x512 .f32) : FVec Ideal S256x512 .f32 :=
  mulf (mulf (shapeCast S256x512 R shapeCasts_S1x256x512_S256x512) (mulf (broadcast S256x512 (Scalar.ofBits .f32 0x3F000000#32)) (both K0 K1)))
    (broadcastTo S256x512 (shapeCast S1x512 p shapeCasts_S1x512_S1x512) broadcasts_S1x512_S256x512)
theorem prodB_at (R K0 K1 : FVec Ideal S1x256x512 .f32) (p : FVec Ideal S1x512 .f32) (r : Fin 256) (j : Fin 512) :
    prodB R K0 K1 p (ix2 r j) = R (ix3 0 r j) * (Ideal.ofBits .f32 0x3F000000#32 * (K0 (ix3 0 r j) + K1 (ix3 0 r j))) * p (ix2 0 j) := by
  pointwise [prodB, both]

/-- The block's last step. -/
def closeB (N S : FVec Ideal S256x512 .f32) (W G : FVec Ideal S1x256x512 .f32) : FVec Ideal S1x256x512 .bf16 :=
  shapeCast S1x256x512 (truncf .bf16 (mulf (addf N (mulf S (shapeCast S256x512 W shapeCasts_S1x256x512_S256x512)))
    (shapeCast S256x512 G shapeCasts_S1x256x512_S256x512)) bitsLt_bf16_f32) shapeCasts_S256x512_S1x256x512
theorem closeB_at (N S : FVec Ideal S256x512 .f32) (W G : FVec Ideal S1x256x512 .f32) (z : Fin 1) (r : Fin 256) (j : Fin 512) :
    closeB N S W G (ix3 z r j) = (N (ix2 r j) + S (ix2 r j) * W (ix3 0 r j)) * G (ix3 0 r j) := by
  pointwise [closeB]
theorem pay1_eq (M : Vec Ideal S512x512 .bf16) (N : FVec Ideal S256x512 .f32) (K0 K1 R : Vec Ideal S1x256x512 .f32) (p : Vec Ideal S1x512 .f32)
    (W G : Vec Ideal S1x256x512 .f32) :
    k0_pay1 M N K0 K1 R p W G = closeB N (seg (prodB R K0 K1 p) (show FVec Ideal S512x512 .bf16 from M)) W G := rfl
theorem pay1_at (M : Vec Ideal S512x512 .bf16) (N : FVec Ideal S256x512 .f32) (K0 K1 R : Vec Ideal S1x256x512 .f32) (p : Vec Ideal S1x512 .f32)
    (W G : Vec Ideal S1x256x512 .f32) (hM : ∀ a b, M (ix2 a b) = sel a b) (z : Fin 1) (r : Fin 256) (j : Fin 512) :
    k0_pay1 M N K0 K1 R p W G (ix3 z r j) = (N (ix2 r j)
      + segsum (fun a => R (ix3 0 r a) * (Ideal.ofBits .f32 0x3F000000#32 * (K0 (ix3 0 r a) + K1 (ix3 0 r a))) * p (ix2 0 a)) j * W (ix3 0 r j)) * G (ix3 0 r j) := by
  rw [pay1_eq, closeB_at, seg_at _ _ hM]
  simp only [prodB_at]

/-- The lanes that the two sums read, from a row of the arrays. -/
def ys (y0 y1 : Fin 512 → EReal) : Fin 512 → EReal := fun a => y0 a + y1 a
def ts (q k0 k1 p : Fin 512 → EReal) : Fin 512 → EReal := fun a => q a * (Ideal.ofBits .f32 0x3F000000#32 * (k0 a + k1 a)) * p a

theorem out11_at (x0 x1 x2 x3 x4 x5 x6 : Vec Ideal S1x256x512 .f32) (x7 x8 x9 : Vec Ideal S1x512 .f32) (x10 : Vec Ideal S512x512 .bf16)
    (hM : ∀ a b, x10 (ix2 a b) = sel a b) (z : Fin 1) (r : Fin 256) (j : Fin 512) :
    out0_11 x0 x1 x2 x3 x4 x5 x6 x7 x8 x9 x10 (ix3 z r j) =
      (dlt (ys (fun a => x0 (ix3 0 r a)) (fun a => x1 (ix3 0 r a))) j
        * Ideal.rsqrt (var (ys (fun a => x0 (ix3 0 r a)) (fun a => x1 (ix3 0 r a))) j + Ideal.ofBits .f32 0x3A27C5AC#32) * x8 (ix2 0 j) + x9 (ix2 0 j)
        + segsum (ts (fun a => x2 (ix3 0 r a)) (fun a => x3 (ix3 0 r a)) (fun a => x4 (ix3 0 r a)) (fun a => x7 (ix2 0 a))) j * x5 (ix3 0 r j))
        * x6 (ix3 0 r j) := by
  frame_out
  rw [pay1_at _ _ _ _ _ _ _ _ (fun a b => (whole_at x10 a b).trans (hM a b)), pay3_at _ _ _ _ _ hM]
  rfl

end Cert.Kernel7Ideal.Value
-- ==== Proof.HeadsRef.lean ====
/- The readout's reference, entry by entry. -/
module
public import proofs.«01_k».proof.Proof.Heads
public import proofs.«01_k».proof.Proof.Gen.Reference7Ideal.Run
public import Idealize.ShloMosaic.PureOps.Ideal
public import Idealize.ShloMosaic.Lib.Pointwise.Index
import Idealize.ShloMosaic.Lib.Pointwise
@[expose] public section
set_option maxRecDepth 16384
noncomputable section
namespace Cert.Reference7Ideal.Value
open Cert.Reference7Ideal Cert.Reference7Ideal.Gen Cert.Heads
open Idealize.ShloMosaic Idealize.ShloMosaic.TcCoe Idealize.SL.Sem

/-- An array's lanes by heads, and back. -/
def cut (X : FVec Ideal S2x16640x512 .f32) : FVec Ideal S2x16640x8x64 .f32 := shapeCast S2x16640x8x64 X shapeCasts_S2x16640x512_S2x16640x8x64
def join (Y : FVec Ideal S2x16640x8x64 .f32) : FVec Ideal S2x16640x512 .f32 := shapeCast S2x16640x512 Y shapeCasts_S2x16640x8x64_S2x16640x512
theorem cut_at (X : FVec Ideal S2x16640x512 .f32) (b : Fin 2) (n : Fin 16640) (h : Fin 8) (e : Fin 64) :
    cut X (ix4 b n h e) = X (ix3 b n (lane h e)) := by
  pointwise [cut, lane]
  exact congrArg (fun i => X (ix3 b n i)) (Fin.ext (by simp only; omega))
theorem join_at (Y : FVec Ideal S2x16640x8x64 .f32) (b : Fin 2) (n : Fin 16640) (j : Fin 512) :
    join Y (ix3 b n j) = Y (ix4 b n (head j) (sub j)) := by
  pointwise [join, head, sub]

def ave (Y : FVec Ideal S2x16640x8x64 .f32) : FVec Ideal S2x16640x8x1 .f32 :=
  Host.divf (broadcastInDim S2x16640x8x1 ![0, 1, 2] bcast_S2x16640x8_S2x16640x8x1_0_1_2 (Host.reduceAdd Y (constant S_ .f32 0x00000000#32)
    reducesTo_S2x16640x8x64_S2x16640x8_d3 h_S_)) (broadcastInDim S2x16640x8x1 ![] bcast_S_S2x16640x8x1 (constant S_ .f32 0x42800000#32))
theorem ave_at (Y : FVec Ideal S2x16640x8x64 .f32) (b : Fin 2) (n : Fin 16640) (h : Fin 8) (z : Fin 1) :
    ave Y (ix4 b n h z) = (∑ e : Fin 64, (Y (ix4 b n h e) : EReal)) * Ideal.ofBits .f32 0x3C800000#32 := by
  rw [← div64]
  pointwise [ave]

def off (Y : FVec Ideal S2x16640x8x64 .f32) : FVec Ideal S2x16640x8x64 .f32 :=
  subf Y (broadcastInDim S2x16640x8x64 ![0, 1, 2, 3] bcast_S2x16640x8x1_S2x16640x8x64_0_1_2_3 (ave Y))
theorem off_at (Y : FVec Ideal S2x16640x8x64 .f32) (b : Fin 2) (n : Fin 16640) (h : Fin 8) (e : Fin 64) :
    off Y (ix4 b n h e) = Y (ix4 b n h e) - ave Y (ix4 b n h 0) := by
  unfold off
  generalize ave Y = M
  pointwise []

def unit (Y : FVec Ideal S2x16640x8x64 .f32) (V : FVec Ideal S2x16640x8x1 .f32) : FVec Ideal S2x16640x8x64 .f32 :=
  mulf Y (broadcastInDim S2x16640x8x64 ![0, 1, 2, 3] bcast_S2x16640x8x1_S2x16640x8x64_0_1_2_3 (Host.rsqrt (addf V
    (broadcastInDim S2x16640x8x1 ![] bcast_S_S2x16640x8x1 (constant S_ .f32 0x3A27C5AC#32)))))
theorem unit_at (Y : FVec Ideal S2x16640x8x64 .f32) (V : FVec Ideal S2x16640x8x1 .f32) (b : Fin 2) (n : Fin 16640) (h : Fin 8) (e : Fin 64) :
    unit Y V (ix4 b n h e) = Y (ix4 b n h e) * Ideal.rsqrt (V (ix4 b n h 0) + Ideal.ofBits .f32 0x3A27C5AC#32) := by
  pointwise [unit]

def prods (R K0 K1 : FVec Ideal S2x16640x8x64 .f32) (P : FVec Ideal S8x64 .f32) : FVec Ideal S2x16640x8x64 .f32 :=
  mulf (mulf R (mulf (broadcastInDim S2x16640x8x64 ![] bcast_S_S2x16640x8x64 (constant S_ .f32 0x3F000000#32)) (addf K0 K1)))
    (broadcastInDim S2x16640x8x64 ![0, 1, 2, 3] bcast_S1x1x8x64_S2x16640x8x64_0_1_2_3 (broadcastInDim S1x1x8x64 ![2, 3] bcast_S8x64_S1x1x8x64_2_3 P))
theorem prods_at (R K0 K1 : FVec Ideal S2x16640x8x64 .f32) (P : FVec Ideal S8x64 .f32) (b : Fin 2) (n : Fin 16640) (h : Fin 8) (e : Fin 64) :
    prods R K0 K1 P (ix4 b n h e) = R (ix4 b n h e) * (Ideal.ofBits .f32 0x3F000000#32 * (K0 (ix4 b n h e) + K1 (ix4 b n h e))) * P (ix2 h e) := by
  pointwise [prods]

def bonus (T W : FVec Ideal S2x16640x8x64 .f32) : FVec Ideal S2x16640x8x64 .f32 :=
  mulf (broadcastInDim S2x16640x8x64 ![0, 1, 2, 3] bcast_S2x16640x8x1_S2x16640x8x64_0_1_2_3 (broadcastInDim S2x16640x8x1 ![0, 1, 2] bcast_S2x16640x8_S2x16640x8x1_0_1_2
    (Host.reduceAdd T (constant S_ .f32 0x00000000#32) reducesTo_S2x16640x8x64_S2x16640x8_d3 h_S_))) W
theorem bonus_at (T W : FVec Ideal S2x16640x8x64 .f32) (b : Fin 2) (n : Fin 16640) (h : Fin 8) (e : Fin 64) :
    bonus T W (ix4 b n h e) = (∑ x : Fin 64, (T (ix4 b n h x) : EReal)) * W (ix4 b n h e) := by
  pointwise [bonus]

def close (N : FVec Ideal S2x16640x512 .f32) (L M : FVec Ideal S512 .f32) (B G : FVec Ideal S2x16640x512 .f32) : FVec Ideal S2x16640x512 .bf16 :=
  truncf .bf16 (mulf (addf (addf (mulf N (broadcastInDim S2x16640x512 ![0, 1, 2] bcast_S1x1x512_S2x16640x512_0_1_2 (broadcastInDim S1x1x512 ![2] bcast_S512_S1x1x512_2 L)))
    (broadcastInDim S2x16640x512 ![0, 1, 2] bcast_S1x1x512_S2x16640x512_0_1_2 (broadcastInDim S1x1x512 ![2] bcast_S512_S1x1x512_2 M))) B) G) bitsLt_bf16_f32
theorem close_at (N : FVec Ideal S2x16640x512 .f32) (L M : FVec Ideal S512 .f32) (B G : FVec Ideal S2x16640x512 .f32) (b : Fin 2) (n : Fin 16640) (j : Fin 512) :
    close N L M B G (ix3 b n j) = (N (ix3 b n j) * L (ix1 j) + M (ix1 j) + B (ix3 b n j)) * G (ix3 b n j) := by
  pointwise [close]

/-- The reference as a function of its arguments. -/
def REF (A0 A1 R K0 K1 W G : FVec Ideal S2x16640x512 .f32) (P : FVec Ideal S8x64 .f32) (L M : FVec Ideal S512 .f32) : FVec Ideal S2x16640x512 .bf16 :=
  close (join (unit (off (addf (cut A0) (cut A1))) (ave (mulf (off (addf (cut A0) (cut A1))) (off (addf (cut A0) (cut A1))))))) L M
    (join (bonus (prods (cut R) (cut K0) (cut K1) P) (cut W))) G
theorem mul_at (X Y : FVec Ideal S2x16640x8x64 .f32) (i : S2x16640x8x64.Idx) : mulf X Y i = (X i : EReal) * (Y i : EReal) := rfl
theorem add_at (X Y : FVec Ideal S2x16640x8x64 .f32) (i : S2x16640x8x64.Idx) : addf X Y i = (X i : EReal) + (Y i : EReal) := rfl
theorem REF_at (A0 A1 R K0 K1 W G : FVec Ideal S2x16640x512 .f32) (P : FVec Ideal S8x64 .f32) (L M : FVec Ideal S512 .f32) (b : Fin 2) (n : Fin 16640) (j : Fin 512) :
    REF A0 A1 R K0 K1 W G P L M (ix3 b n j) = readout (fun a => A0 (ix3 b n a) + A1 (ix3 b n a))
      (fun a => R (ix3 b n a) * (Ideal.ofBits .f32 0x3F000000#32 * (K0 (ix3 b n a) + K1 (ix3 b n a))) * P (ix2 (head a) (sub a)))
      (L (ix1 j)) (M (ix1 j)) (W (ix3 b n j)) (G (ix3 b n j)) j := by
  unfold REF readout spread mean
  rw [close_at, join_at, join_at, unit_at, bonus_at]
  simp only [ave_at, off_at, mul_at, add_at, cut_at, prods_at, lane_sub, head_lane, sub_lane]

theorem res_eq (m : (ℓ : Loc nD τ sig) → Buf (Elt Ideal) ℓ) (c : Dev nD) : res_main_v46 m c
    = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) := by
  unfold res_main_v46
  rfl

end Cert.Reference7Ideal.Value
-- ==== Proof.HeadsArray.lean ====
/- The readout's output array, index by index, the arrays that the host prepares for it, and that the two are the same. -/
module
public import proofs.«01_k».proof.Proof.HeadsBlocks
public import proofs.«01_k».proof.Proof.HeadsRef
public import proofs.«01_k».proof.Proof.Normed
public import proofs.«01_k».proof.Proof.Finite
public import proofs.«01_k».proof.Pre_finite_sums
public import Idealize.ShloMosaic.Lib.Pointwise.Index
import Idealize.ShloMosaic.Lib.Pointwise
import Idealize.ShloMosaic.Lib.Claim
public import Idealize.ShloMosaic.Lib.StableHlo.RunRead
import Idealize.ShloMosaic.Lib.Pipeline.ValueKit
@[expose] public section
set_option maxRecDepth 16384
noncomputable section
namespace Cert.Kernel7Ideal.Value
open Cert.Kernel7Ideal Cert.Kernel7Ideal.Gen Cert.Heads
open Cert.Normed (tok)
open Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val / 65, t.val % 65, 0] ∧
    win0_1.index t = ![t.val / 65, t.val % 65, 0] ∧
    win0_2.index t = ![t.val / 65, t.val % 65, 0] ∧
    win0_3.index t = ![t.val / 65, t.val % 65, 0] ∧
    win0_4.index t = ![t.val / 65, t.val % 65, 0] ∧
    win0_5.index t = ![t.val / 65, t.val % 65, 0] ∧
    win0_6.index t = ![t.val / 65, t.val % 65, 0] ∧
    win0_7.index t = ![0, 0] ∧
    win0_8.index t = ![0, 0] ∧
    win0_9.index t = ![0, 0] ∧
    win0_10.index t = ![0, 0] ∧
    win0_11.index t = ![t.val / 65, t.val % 65, 0] :=
  (by decide +kernel : ∀ t : Fin grid0.N, _)

theorem lt_N (t : Fin cfg0.N) : t.val < 130 := lt_of_lt_of_eq t.isLt N_0

/-- The batch element of a grid point. -/
def bat (t : Fin cfg0.N) : Fin 2 := ⟨t.val / 65, by have := lt_N t; omega⟩
/-- The block of rows of a grid point. -/
def row (t : Fin cfg0.N) : Fin 65 := ⟨t.val % 65, by omega⟩

/-! The entry of each window's block, as an entry of the array the window is of. -/

theorem read0 (X : FVec Ideal S2x16640x512 .f32) (t : Fin cfg0.N) (z : Fin 1) (r : Fin 256) (d : Fin 512) :
    (show FVec Ideal S1x256x512 .f32 from ((cfg0.win 0).blk t).view.read (Elt Ideal) X) (ix3 z r d) = X (ix3 (bat t) (tok (row t) r) d) := by
  blk_simp [idx t]
  blk_ext [idx t, bat, row, tok]
theorem iblk0 (c : Dev nD) (t : Fin cfg0.N) (z : Fin 1) (r : Fin 256) (d : Fin 512) :
    iblk m c 0 t (ix3 z r d) = V m c main_arg0 (ix3 (bat t) (tok (row t) r) d) := read0 (V m c main_arg0) t z r d

theorem read1 (X : FVec Ideal S2x16640x512 .f32) (t : Fin cfg0.N) (z : Fin 1) (r : Fin 256) (d : Fin 512) :
    (show FVec Ideal S1x256x512 .f32 from ((cfg0.win 1).blk t).view.read (Elt Ideal) X) (ix3 z r d) = X (ix3 (bat t) (tok (row t) r) d) := by
  blk_simp [idx t]
  blk_ext [idx t, bat, row, tok]
theorem iblk1 (c : Dev nD) (t : Fin cfg0.N) (z : Fin 1) (r : Fin 256) (d : Fin 512) :
    iblk m c 1 t (ix3 z r d) = V m c main_arg1 (ix3 (bat t) (tok (row t) r) d) := read1 (V m c main_arg1) t z r d

theorem read2 (X : FVec Ideal S2x16640x512 .f32) (t : Fin cfg0.N) (z : Fin 1) (r : Fin 256) (d : Fin 512) :
    (show FVec Ideal S1x256x512 .f32 from ((cfg0.win 2).blk t).view.read (Elt Ideal) X) (ix3 z r d) = X (ix3 (bat t) (tok (row t) r) d) := by
  blk_simp [idx t]
  blk_ext [idx t, bat, row, tok]
theorem iblk2 (c : Dev nD) (t : Fin cfg0.N) (z : Fin 1) (r : Fin 256) (d : Fin 512) :
    iblk m c 2 t (ix3 z r d) = V m c main_arg2 (ix3 (bat t) (tok (row t) r) d) := read2 (V m c main_arg2) t z r d

theorem read3 (X : FVec Ideal S2x16640x512 .f32) (t : Fin cfg0.N) (z : Fin 1) (r : Fin 256) (d : Fin 512) :
    (show FVec Ideal S1x256x512 .f32 from ((cfg0.win 3).blk t).view.read (Elt Ideal) X) (ix3 z r d) = X (ix3 (bat t) (tok (row t) r) d) := by
  blk_simp [idx t]
  blk_ext [idx t, bat, row, tok]
theorem iblk3 (c : Dev nD) (t : Fin cfg0.N) (z : Fin 1) (r : Fin 256) (d : Fin 512) :
    iblk m c 3 t (ix3 z r d) = V m c main_arg3 (ix3 (bat t) (tok (row t) r) d) := read3 (V m c main_arg3) t z r d

theorem read4 (X : FVec Ideal S2x16640x512 .f32) (t : Fin cfg0.N) (z : Fin 1) (r : Fin 256) (d : Fin 512) :
    (show FVec Ideal S1x256x512 .f32 from ((cfg0.win 4).blk t).view.read (Elt Ideal) X) (ix3 z r d) = X (ix3 (bat t) (tok (row t) r) d) := by
  blk_simp [idx t]
  blk_ext [idx t, bat, row, tok]
theorem iblk4 (c : Dev nD) (t : Fin cfg0.N) (z : Fin 1) (r : Fin 256) (d : Fin 512) :
    iblk m c 4 t (ix3 z r d) = V m c main_arg4 (ix3 (bat t) (tok (row t) r) d) := read4 (V m c main_arg4) t z r d

theorem read5 (X : FVec Ideal S2x16640x512 .f32) (t : Fin cfg0.N) (z : Fin 1) (r : Fin 256) (d : Fin 512) :
    (show FVec Ideal S1x256x512 .f32 from ((cfg0.win 5).blk t).view.read (Elt Ideal) X) (ix3 z r d) = X (ix3 (bat t) (tok (row t) r) d) := by
  blk_simp [idx t]
  blk_ext [idx t, bat, row, tok]
theorem iblk5 (c : Dev nD) (t : Fin cfg0.N) (z : Fin 1) (r : Fin 256) (d : Fin 512) :
    iblk m c 5 t (ix3 z r d) = V m c main_arg5 (ix3 (bat t) (tok (row t) r) d) := read5 (V m c main_arg5) t z r d

theorem read6 (X : FVec Ideal S2x16640x512 .f32) (t : Fin cfg0.N) (z : Fin 1) (r : Fin 256) (d : Fin 512) :
    (show FVec Ideal S1x256x512 .f32 from ((cfg0.win 6).blk t).view.read (Elt Ideal) X) (ix3 z r d) = X (ix3 (bat t) (tok (row t) r) d) := by
  blk_simp [idx t]
  blk_ext [idx t, bat, row, tok]
theorem iblk6 (c : Dev nD) (t : Fin cfg0.N) (z : Fin 1) (r : Fin 256) (d : Fin 512) :
    iblk m c 6 t (ix3 z r d) = V m c main_arg6 (ix3 (bat t) (tok (row t) r) d) := read6 (V m c main_arg6) t z r d

theorem read7 (X : FVec Ideal S1x512 .f32) (t : Fin cfg0.N) (z : Fin 1) (d : Fin 512) :
    (show FVec Ideal S1x512 .f32 from ((cfg0.win 7).blk t).view.read (Elt Ideal) X) (ix2 z d) = X (ix2 0 d) := by
  blk_simp [idx t]
  blk_ext [idx t]
theorem iblk7 (c : Dev nD) (t : Fin cfg0.N) (z : Fin 1) (d : Fin 512) :
    iblk m c 7 t (ix2 z d) = V m c main_v8 (ix2 0 d) := read7 (V m c main_v8) t z d

theorem read8 (X : FVec Ideal S1x512 .f32) (t : Fin cfg0.N) (z : Fin 1) (d : Fin 512) :
    (show FVec Ideal S1x512 .f32 from ((cfg0.win 8).blk t).view.read (Elt Ideal) X) (ix2 z d) = X (ix2 0 d) := by
  blk_simp [idx t]
  blk_ext [idx t]
theorem iblk8 (c : Dev nD) (t : Fin cfg0.N) (z : Fin 1) (d : Fin 512) :
    iblk m c 8 t (ix2 z d) = V m c main_v9 (ix2 0 d) := read8 (V m c main_v9) t z d

theorem read9 (X : FVec Ideal S1x512 .f32) (t : Fin cfg0.N) (z : Fin 1) (d : Fin 512) :
    (show FVec Ideal S1x512 .f32 from ((cfg0.win 9).blk t).view.read (Elt Ideal) X) (ix2 z d) = X (ix2 0 d) := by
  blk_simp [idx t]
  blk_ext [idx t]
theorem iblk9 (c : Dev nD) (t : Fin cfg0.N) (z : Fin 1) (d : Fin 512) :
    iblk m c 9 t (ix2 z d) = V m c main_v10 (ix2 0 d) := read9 (V m c main_v10) t z d

theorem read10 (X : FVec Ideal S512x512 .bf16) (t : Fin cfg0.N) (a b : Fin 512) :
    (show FVec Ideal S512x512 .bf16 from ((cfg0.win 10).blk t).view.read (Elt Ideal) X) (ix2 a b) = X (ix2 a b) := by
  blk_simp [idx t]
  blk_ext [idx t]
theorem iblk10 (c : Dev nD) (t : Fin cfg0.N) (a b : Fin 512) :
    iblk m c 10 t (ix2 a b) = V m c main_v7 (ix2 a b) := read10 (V m c main_v7) t a b

/-! The matrix of heads. -/

/-- Each lane's head, as the host has it, and the matrix that it makes of a row of labels. -/
def labels : IVec S512 32 := fun i => lit0 (S512.rowMajor i)
theorem label : ∀ a : Fin 512, lit0t a.val = BitVec.ofNat 32 (a.val / 64) := by decide +kernel
theorem labels_at (a : Fin 512) : labels (ix1 a) = BitVec.ofNat 32 (a.val / 64) := by
  have hv : (S512.rowMajor (ix1 a)).val = a.val := Shape.rowMajor_val_one _
  rw [← label a, ← hv]
  rfl
def same (C : IVec S512 32) : FVec Ideal S512x512 .bf16 :=
  truncf .bf16 (uitofp .f32 (cmpi .eq (broadcastInDim S512x512 ![0, 1] bcast_S512x1_S512x512_0_1 (broadcastInDim S512x1 ![0] bcast_S512_S512x1_0 C))
    (broadcastInDim S512x512 ![0, 1] bcast_S1x512_S512x512_0_1 (broadcastInDim S1x512 ![1] bcast_S512_S1x512_1 C)))) bitsLt_bf16_f32
theorem same_at (C : IVec S512 32) (a b : Fin 512) : same C (ix2 a b) = if C (ix1 a) = C (ix1 b) then 1 else 0 := by
  pointwise [same]
  show (((IntOp.cmpi CmpIPredicate.eq (C (ix1 a)) (C (ix1 b))).toNat : ℝ) : EReal) = _
  by_cases h : C (ix1 a) = C (ix1 b) <;> simp [IntOp.cmpi, h]
def mat : FVec Ideal S512x512 .bf16 := same labels
theorem mat_at (a b : Fin 512) : mat (ix2 a b) = sel a b := by
  unfold mat sel
  rw [same_at, labels_at, labels_at]
  refine if_congr ⟨fun h => ?_, fun h => by rw [h]⟩ rfl rfl
  have h' := congrArg BitVec.toNat h
  simp only [BitVec.toNat_ofNat] at h'
  omega
theorem mat_arr (c : Dev nD) : V m c main_v7 = mat := by
  unfold_abbrev_sides
  after_reads_simp
  rfl

/-- The call's array. -/
def OUT (A0 A1 R K0 K1 W G : FVec Ideal S2x16640x512 .f32) (P L M : FVec Ideal S1x512 .f32) : FVec Ideal S2x16640x512 .bf16 := fun j =>
  readout (ys (fun a => A0 (ix3 (j 0) (j 1) a)) (fun a => A1 (ix3 (j 0) (j 1) a)))
    (ts (fun a => R (ix3 (j 0) (j 1) a)) (fun a => K0 (ix3 (j 0) (j 1) a)) (fun a => K1 (ix3 (j 0) (j 1) a)) (fun a => P (ix2 0 a)))
    (L (ix2 0 (j 2))) (M (ix2 0 (j 2))) (W (ix3 (j 0) (j 1) (j 2))) (G (ix3 (j 0) (j 1) (j 2))) (j 2)
theorem OUT_at (A0 A1 R K0 K1 W G : FVec Ideal S2x16640x512 .f32) (P L M : FVec Ideal S1x512 .f32) (b : Fin 2) (n : Fin 16640) (k : Fin 512)
    (j : S2x16640x512.Idx) (h0 : (j 0 : ℕ) = b) (h1 : (j 1 : ℕ) = n) (h2 : (j 2 : ℕ) = k) :
    OUT A0 A1 R K0 K1 W G P L M j = readout (ys (fun a => A0 (ix3 b n a)) (fun a => A1 (ix3 b n a)))
      (ts (fun a => R (ix3 b n a)) (fun a => K0 (ix3 b n a)) (fun a => K1 (ix3 b n a)) (fun a => P (ix2 0 a)))
      (L (ix2 0 k)) (M (ix2 0 k)) (W (ix3 b n k)) (G (ix3 b n k)) k := by
  obtain rfl : j 0 = b := Fin.ext h0
  obtain rfl : j 1 = n := Fin.ext h1
  obtain rfl : j 2 = k := Fin.ext h2
  rfl

/-- A block's entry, from the arrays that the blocks were cut from. -/
theorem out11_of (x0 x1 x2 x3 x4 x5 x6 : Vec Ideal S1x256x512 .f32) (x7 x8 x9 : Vec Ideal S1x512 .f32) (x10 : Vec Ideal S512x512 .bf16)
    (A0 A1 R K0 K1 W G : FVec Ideal S2x16640x512 .f32) (P L M : FVec Ideal S1x512 .f32) (b : Fin 2) (n : Fin 16640) (z : Fin 1) (r : Fin 256) (j : Fin 512)
    (h0 : ∀ a, x0 (ix3 0 r a) = A0 (ix3 b n a)) (h1 : ∀ a, x1 (ix3 0 r a) = A1 (ix3 b n a)) (h2 : ∀ a, x2 (ix3 0 r a) = R (ix3 b n a))
    (h3 : ∀ a, x3 (ix3 0 r a) = K0 (ix3 b n a)) (h4 : ∀ a, x4 (ix3 0 r a) = K1 (ix3 b n a)) (h5 : ∀ a, x5 (ix3 0 r a) = W (ix3 b n a))
    (h6 : ∀ a, x6 (ix3 0 r a) = G (ix3 b n a)) (h7 : ∀ a, x7 (ix2 0 a) = P (ix2 0 a)) (h8 : ∀ a, x8 (ix2 0 a) = L (ix2 0 a))
    (h9 : ∀ a, x9 (ix2 0 a) = M (ix2 0 a)) (h10 : ∀ a b, x10 (ix2 a b) = sel a b)
    (hy : ∀ a, KernelIdeal.Value.IsReal (ys (fun a => A0 (ix3 b n a)) (fun a => A1 (ix3 b n a)) a))
    (ht : ∀ a, KernelIdeal.Value.IsReal (ts (fun a => R (ix3 b n a)) (fun a => K0 (ix3 b n a)) (fun a => K1 (ix3 b n a)) (fun a => P (ix2 0 a)) a)) :
    out0_11 x0 x1 x2 x3 x4 x5 x6 x7 x8 x9 x10 (ix3 z r j) = readout (ys (fun a => A0 (ix3 b n a)) (fun a => A1 (ix3 b n a)))
      (ts (fun a => R (ix3 b n a)) (fun a => K0 (ix3 b n a)) (fun a => K1 (ix3 b n a)) (fun a => P (ix2 0 a)))
      (L (ix2 0 j)) (M (ix2 0 j)) (W (ix3 b n j)) (G (ix3 b n j)) j := by
  rw [out11_at _ _ _ _ _ _ _ _ _ _ _ h10]
  simp only [h0, h1, h2, h3, h4, h5, h6, h7, h8, h9]
  exact readout_eq _ _ hy ht _ _ _ _ _

/-- What the sums over heads read is real, at every token and lane. -/
def AllReal (A0 A1 R K0 K1 : FVec Ideal S2x16640x512 .f32) (P : FVec Ideal S1x512 .f32) : Prop := ∀ (b : Fin 2) (n : Fin 16640) (a : Fin 512),
  KernelIdeal.Value.IsReal (ys (fun a => A0 (ix3 b n a)) (fun a => A1 (ix3 b n a)) a) ∧
  KernelIdeal.Value.IsReal (ts (fun a => R (ix3 b n a)) (fun a => K0 (ix3 b n a)) (fun a => K1 (ix3 b n a)) (fun a => P (ix2 0 a)) a)

theorem final11 (c : Dev nD)
    (hr : AllReal (V m c main_arg0) (V m c main_arg1) (V m c main_arg2) (V m c main_arg3) (V m c main_arg4) (V m c main_v8)) :
    (dats m 0 c).arrAt 11 cfg0.N = OUT (V m c main_arg0) (V m c main_arg1) (V m c main_arg2) (V m c main_arg3) (V m c main_arg4)
      (V m c main_arg5) (V m c main_arg6) (V m c main_v8) (V m c main_v9) (V m c main_v10) := by
  refine (dats m 0 c).arrAt_eq_of_covers 11 _ (by decide +kernel) fun t hf y => ?_
  blk_simp
  rw [after0_11]
  idx_vars y
  rw [OUT_at _ _ _ _ _ _ _ _ _ _ (bat t) (tok (row t) y1) y2]
  · exact out11_of _ _ _ _ _ _ _ _ _ _ _ _ _ _ _ _ _ _ _ _ _ _ _ _ _ _ (fun a => iblk0 m c t 0 _ a) (fun a => iblk1 m c t 0 _ a)
      (fun a => iblk2 m c t 0 _ a) (fun a => iblk3 m c t 0 _ a) (fun a => iblk4 m c t 0 _ a) (fun a => iblk5 m c t 0 _ a)
      (fun a => iblk6 m c t 0 _ a) (fun a => iblk7 m c t 0 a) (fun a => iblk8 m c t 0 a) (fun a => iblk9 m c t 0 a)
      (fun a b => (iblk10 m c t a b).trans ((congrFun (mat_arr m c) _).trans (mat_at a b))) (fun a => (hr _ _ a).1) (fun a => (hr _ _ a).2)
  all_goals blk_simp [idx t, bat, row, tok]

/-! The arrays as the host prepares them. -/

def line (P : FVec Ideal S512 .f32) : FVec Ideal S1x512 .f32 := shapeCast S1x512 P shapeCasts_S512_S1x512
theorem line_at (P : FVec Ideal S512 .f32) (j : Fin 512) : line P (ix2 0 j) = P (ix1 j) := by
  pointwise [line]
def flat (P : FVec Ideal S8x64 .f32) : FVec Ideal S512 .f32 := shapeCast S512 P shapeCasts_S8x64_S512
theorem flat_at (P : FVec Ideal S8x64 .f32) (j : Fin 512) : flat P (ix1 j) = P (ix2 (head j) (sub j)) := by
  pointwise [flat, head, sub]
theorem bonus_arr (c : Dev nD) : V m c main_v8 = line (flat (m ((c : Thread nD τ).loc main_arg7))) := by
  unfold_abbrev_sides
  after_reads_simp
  rfl
theorem gain_arr (c : Dev nD) : V m c main_v9 = line (m ((c : Thread nD τ).loc main_arg8)) := by
  unfold_abbrev_sides
  after_reads_simp
  rfl
theorem shift_arr (c : Dev nD) : V m c main_v10 = line (m ((c : Thread nD τ).loc main_arg9)) := by
  unfold_abbrev_sides
  after_reads_simp
  rfl

end Cert.Kernel7Ideal.Value

namespace Cert.Pre_finite_sums
open Cert.Pre_finite_sums
open Cert.Heads
open Cert.Kernel7Ideal.Value (ys ts line line_at flat flat_at AllReal)
open Idealize.ShloMosaic

instance facts : Cert.Pre_finite_sums.Facts where
  bcast_S_S2x16640x512 := by decide
  shapeCasts_S8x64_S512 := by decide
  bcast_S512_S1x1x512_2 := by decide
  bcast_S1x1x512_S2x16640x512_0_1_2 := by decide

/-- The bonus's products, as the precondition has them. -/
def prodsP (R K0 K1 : FVec Ideal S2x16640x512 .f32) (P : FVec Ideal S8x64 .f32) : FVec Ideal S2x16640x512 .f32 :=
  mulf (mulf R (mulf (broadcastInDim S2x16640x512 ![] Facts.bcast_S_S2x16640x512 (constant S_ .f32 0x3F000000#32)) (addf K0 K1)))
    (broadcastInDim S2x16640x512 ![0, 1, 2] Facts.bcast_S1x1x512_S2x16640x512_0_1_2 (broadcastInDim S1x1x512 ![2] Facts.bcast_S512_S1x1x512_2
      (shapeCast S512 P Facts.shapeCasts_S8x64_S512)))
theorem prodsP_at (R K0 K1 : FVec Ideal S2x16640x512 .f32) (P : FVec Ideal S8x64 .f32) (b : Fin 2) (n : Fin 16640) (a : Fin 512) :
    prodsP R K0 K1 P (ix3 b n a) = R (ix3 b n a) * (Ideal.ofBits .f32 0x3F000000#32 * (K0 (ix3 b n a) + K1 (ix3 b n a))) * P (ix2 (head a) (sub a)) := by
  pointwise [prodsP, head, sub]
/-- Where the precondition holds, what the sums over heads read is real. -/
theorem all_real (A0 A1 R K0 K1 W G : FVec Ideal S2x16640x512 .f32) (P : FVec Ideal S8x64 .f32) (L M : FVec Ideal S512 .f32)
    (h0 : (Cert.Pre_finite_sums.fn (F := Ideal) A0 A1 R K0 K1 W G P L M).1 = fun _ => 1#1)
    (h1 : (Cert.Pre_finite_sums.fn (F := Ideal) A0 A1 R K0 K1 W G P L M).2 = fun _ => 1#1) : AllReal A0 A1 R K0 K1 (line (flat P)) := by
  refine fun b n a => ⟨Cert.Pre_finite_scores.real_of_test (addf A0 A1) Facts.bcast_S_S2x16640x512 h0 (ix3 b n a), ?_⟩
  have h := Cert.Pre_finite_scores.real_of_test (prodsP R K0 K1 P) Facts.bcast_S_S2x16640x512 h1 (ix3 b n a)
  rw [prodsP_at] at h
  unfold ts
  simp only [line_at, flat_at]
  exact h

end Cert.Pre_finite_sums

namespace Cert.HeadsEqual
open Cert.Kernel7Ideal Cert.Heads
open Cert.Kernel7Ideal.Value (OUT OUT_at AllReal line line_at flat flat_at ys ts)
open Cert.Reference7Ideal.Value (REF REF_at)
open Idealize.ShloMosaic Idealize.ShloMosaic.TcCoe Idealize.SL.Sem

theorem same (A0 A1 R K0 K1 W G : FVec Ideal S2x16640x512 .f32) (P : FVec Ideal S8x64 .f32) (L M : FVec Ideal S512 .f32) :
    OUT A0 A1 R K0 K1 W G (line (flat P)) (line L) (line M) = REF A0 A1 R K0 K1 W G P L M := by
  refine funext fun (j : S2x16640x512.Idx) => ?_
  idx_vars j
  rw [OUT_at _ _ _ _ _ _ _ _ _ _ j0 j1 j2 _ rfl rfl rfl, REF_at]
  unfold ys ts
  simp only [line_at, flat_at]

variable (m : (ℓ : Loc nD τ sig) → Buf (Elt Ideal) ℓ)

/-- What the call leaves in its array, as the reference's function of the arguments. -/
theorem result (c : Dev nD) (hr : AllReal (m ((c : Thread nD τ).loc main_arg0)) (m ((c : Thread nD τ).loc main_arg1)) (m ((c : Thread nD τ).loc main_arg2))
      (m ((c : Thread nD τ).loc main_arg3)) (m ((c : Thread nD τ).loc main_arg4)) (line (flat (m ((c : Thread nD τ).loc main_arg7))))) :
    (Gen.dats m 0 c).arrAt 11 cfg0.N = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) := by
  rw [Value.final11]
  · rw [Value.bonus_arr, Value.gain_arr, Value.shift_arr, Gen.V_main_arg0, Gen.V_main_arg1, Gen.V_main_arg2, Gen.V_main_arg3, Gen.V_main_arg4,
      Gen.V_main_arg5, Gen.V_main_arg6]
    exact same _ _ _ _ _ _ _ _ _ _
  · rw [Value.bonus_arr, Gen.V_main_arg0, Gen.V_main_arg1, Gen.V_main_arg2, Gen.V_main_arg3, Gen.V_main_arg4]
    exact hr

end Cert.HeadsEqual
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Equal
public import proofs.«01_k».proof.Proof.Finite
public import proofs.«01_k».proof.Proof.InEqual
public import proofs.«01_k».proof.Proof.OutEqual
public import proofs.«01_k».proof.Proof.SumEqual
public import proofs.«01_k».proof.Proof.GatedEqual
public import proofs.«01_k».proof.Proof.Silu
public import proofs.«01_k».proof.Proof.HeadsArray
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs at the words, its arguments and counters as before. -/
theorem frame_p : Cert.quiescent_Kernel := fun m ρ _ => Cert.Kernel.Gen.frame m ρ
/-- So does the idealized kernel. -/
theorem frame_pi : Cert.quiescent_KernelIdeal := fun m ρ _ => Cert.KernelIdeal.Gen.frame m ρ
theorem frame_pi_pre : Cert.quiescent_KernelIdeal_pre_finite_scores := fun m ρ _ => Cert.KernelIdeal.Gen.frame m ρ
/-- So does the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ri_pre : Cert.quiescent_ReferenceIdeal_pre_finite_scores := fun m ρ _ => frame_ri m ρ trivial

/-- The one named constant is minus infinity. -/
theorem preserves : Cert.preserves_Kernel_KernelIdeal :=
  IdealRules.named_const.statement Cert.KernelIdeal.κ "mask" .f32 0xF149F2CA#32 ⊥ rfl

/-- What the kernel's output array holds in the end is the reference's function of the arguments. -/
theorem result (m : (ℓ : Loc Cert.KernelIdeal.nD Cert.KernelIdeal.τ Cert.KernelIdeal.sig) → Buf (Elt Ideal) ℓ)
    (hpre : Cert.Pre_KernelIdeal_finite_scores m) (c : Dev Cert.KernelIdeal.nD) :
    (Cert.KernelIdeal.Gen.dats m 0 c).arrAt 10 Cert.KernelIdeal.cfg0.N
      = Cert.ReferenceIdeal.Value.REF (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6)) := by
  obtain ⟨h0, h1, h3, h4, h6⟩ := hpre c
  rw [Cert.KernelIdeal.Value.final, Cert.KernelIdeal.Value.q_eq, Cert.KernelIdeal.Value.k_eq, Cert.KernelIdeal.Value.v_eq,
    Cert.KernelIdeal.Gen.V_main_arg6]
  exact Cert.KernelIdeal.Value.out_eq _ _ _ _ _ _ (Cert.Pre_finite_scores.real_of_test _ _ h0)
    (Cert.Pre_finite_scores.real_of_test _ _ h3) (Cert.Pre_finite_scores.real_of_test _ _ h1)
    (Cert.Pre_finite_scores.real_of_test _ _ h4) _ (Cert.Pre_finite_scores.lt_top_of_test _ _ h6)

/-- Kernel and reference compute one function over the extended reals. -/
theorem algebraic : Cert.algebraic_KernelIdeal_ReferenceIdeal_pre_finite_scores := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Value.res_eq, a0, a1, a2, a3, a4, a5, a6]
  exact (result m hpre c).symm

/-- The in-projection runs at the words, its arguments and counters as before. -/
theorem frame_p2 : Cert.quiescent_Kernel2 := fun m ρ _ => Cert.Kernel2.Gen.frame m ρ
/-- So does the idealized one. -/
theorem frame_pi2 : Cert.quiescent_Kernel2Ideal := fun m ρ _ => Cert.Kernel2Ideal.Gen.frame m ρ
/-- So does its reference. -/
theorem frame_ri2 : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- The in-projection has no named constant. -/
theorem preserves2 : Cert.preserves_Kernel2_Kernel2Ideal := trivial

/-- The in-projection and its reference compute the same four functions over the extended reals. -/
theorem algebraic2 : Cert.algebraic_Kernel2Ideal_Reference2Ideal := by
  intro m ρ m' ρ' _ hagree
  refine ⟨_, _, _, _, Cert.Kernel2Ideal.Value.run_blocks (F := Ideal) m ρ, ?_⟩
  refine (θ_run Cert.Reference2Ideal.defs _ _).mono (fun _ h c => ⟨(h c).1.trans ?_, (h c).2.1.trans ?_, (h c).2.2.1.trans ?_,
    (h c).2.2.2.1.trans ?_, (h c).2.2.2.2⟩) (Cert.Reference2Ideal.Value.run (F := Ideal) m' ρ')
  all_goals obtain ⟨a0, a1, a2, a3, a4, a5⟩ := hagree c
  all_goals rw [a0, a1, a2, a3, a4, a5]
  · exact (Cert.InEqual.result1920 m c).symm
  · exact (Cert.InEqual.result512 m c).symm
  · exact (Cert.InEqual.result1024 m c).symm
  · exact (Cert.InEqual.result768 m c).symm

/-- The out-projection runs at the words, its arguments and counters as before. -/
theorem frame_p3 : Cert.quiescent_Kernel3 := fun m ρ _ => Cert.Kernel3.Gen.frame m ρ
/-- So does the idealized one. -/
theorem frame_pi3 : Cert.quiescent_Kernel3Ideal := fun m ρ _ => Cert.Kernel3Ideal.Gen.frame m ρ
/-- So does its reference. -/
theorem frame_ri3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The out-projection has no named constant. -/
theorem preserves3 : Cert.preserves_Kernel3_Kernel3Ideal := trivial

/-- The out-projection and its reference compute the same two functions over the extended reals. -/
theorem algebraic3 : Cert.algebraic_Kernel3Ideal_Reference3Ideal := by
  intro m ρ m' ρ' _ hagree
  refine ⟨_, _, (θ_run Cert.Kernel3Ideal.defs _ _).mono (fun _ h c => ⟨(h c).1, (h c).2.1, (h c).2.2.2.2⟩)
    (Cert.Kernel3Ideal.Value.run_blocks (F := Ideal) m ρ), ?_⟩
  refine (θ_run Cert.Reference3Ideal.defs _ _).mono (fun _ h c => ⟨(h c).1.trans ?_, (h c).2.1.trans ?_, (h c).2.2⟩)
    (Cert.Reference3Ideal.Value.run (F := Ideal) m' ρ')
  all_goals obtain ⟨a0, a1, a2, a3, a4, a5, a6, a7, a8, a9, a10, a11, a12, a13, a14, a15⟩ := hagree c
  · rw [a0, a1, a2, a3, a4, a5, a6, a7, a8, a9, a10, a11, a13]
    exact (Cert.OutEqual.result_x m c).symm
  · refine (Cert.Reference3Ideal.Value.res_eq m' c).trans ?_
    unfold Cert.Reference3Ideal.Value.sx Cert.Reference3Ideal.Value.sc
    rw [a0, a1, a2, a3, a4, a5, a6, a7, a8, a9, a10, a11, a12, a13]
    exact (Cert.OutEqual.result_h m c).symm

/-- The sum of the experts' outputs runs at the words, its arguments and counters as before. -/
theorem frame_p4 : Cert.quiescent_Kernel4 := fun m ρ _ => Cert.Kernel4.Gen.frame m ρ
/-- So does the idealized one. -/
theorem frame_pi4 : Cert.quiescent_Kernel4Ideal := fun m ρ _ => Cert.Kernel4Ideal.Gen.frame m ρ
/-- So does its reference. -/
theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The sum has no named constant. -/
theorem preserves4 : Cert.preserves_Kernel4_Kernel4Ideal := trivial

/-- The sum and its reference compute one function over the extended reals. -/
theorem algebraic4 : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  obtain ⟨a0, a1, a2, a3, a4, a5⟩ := hagree c
  rw [a0, a1, a2, a3, a4]
  exact (Cert.SumEqual.result m c).symm

/-- The gated unit runs at the words, its arguments and counters as before. -/
theorem frame_p5 : Cert.quiescent_Kernel5 := fun m ρ _ => Cert.Kernel5.Gen.frame m ρ
/-- So does the idealized one. -/
theorem frame_pi5 : Cert.quiescent_Kernel5Ideal := fun m ρ _ => Cert.Kernel5Ideal.Gen.frame m ρ
/-- So does its reference. -/
theorem frame_ri5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The gated unit has no named constant. -/
theorem preserves5 : Cert.preserves_Kernel5_Kernel5Ideal := trivial

/-- The gated unit and its reference compute one function over the extended reals. -/
theorem algebraic5 : Cert.algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨(h c).1.trans ?_, (h c).2⟩)
    (Cert.Reference5Ideal.Value.run (F := Ideal) m' ρ')
  obtain ⟨a0, a1, a2, a3, a4⟩ := hagree c
  rw [Cert.Reference5Ideal.Value.res_eq, a0, a1, a2, a3, a4]
  exact (Cert.GatedEqual.result m c).symm

/-- The modulation rows' call runs at the words, its arguments and counters as before. -/
theorem frame_p6 : Cert.quiescent_Kernel6 := fun m ρ _ => Cert.Kernel6.Gen.frame m ρ
/-- So does the idealized one. -/
theorem frame_pi6 : Cert.quiescent_Kernel6Ideal := fun m ρ _ => Cert.Kernel6Ideal.Gen.frame m ρ
/-- So does its reference. -/
theorem frame_ri6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The modulation rows' call has no named constant. -/
theorem preserves6 : Cert.preserves_Kernel6_Kernel6Ideal := trivial

/-- The modulation rows' call and its reference compute one function over the extended reals. -/
theorem algebraic6 : Cert.algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨(h c).1.trans ?_, (h c).2⟩)
    (Cert.Reference6Ideal.Value.run (F := Ideal) m' ρ')
  obtain ⟨a0, a1, a2⟩ := hagree c
  rw [a0, a1, a2]
  exact (Cert.SiluEqual.result m c).symm

/-- The readout's call runs at the words, its arguments and counters as before. -/
theorem frame_p7 : Cert.quiescent_Kernel7 := fun m ρ _ => Cert.Kernel7.Gen.frame m ρ
/-- So does the idealized one. -/
theorem frame_pi7 : Cert.quiescent_Kernel7Ideal := fun m ρ _ => Cert.Kernel7Ideal.Gen.frame m ρ
theorem frame_pi7_pre : Cert.quiescent_Kernel7Ideal_pre_finite_sums := fun m ρ _ => Cert.Kernel7Ideal.Gen.frame m ρ
/-- So does its reference. -/
theorem frame_ri7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)
theorem frame_ri7_pre : Cert.quiescent_Reference7Ideal_pre_finite_sums := fun m ρ _ => frame_ri7 m ρ trivial

/-- The readout's call has no named constant. -/
theorem preserves7 : Cert.preserves_Kernel7_Kernel7Ideal := trivial

/-- The readout's call and its reference compute one function over the extended reals. -/
theorem algebraic7 : Cert.algebraic_Kernel7Ideal_Reference7Ideal_pre_finite_sums := by
  intro m ρ m' ρ' hpre hagree
  refine ⟨_, Cert.Kernel7Ideal.Value.run_blocks (F := Ideal) m ρ, ?_⟩
  refine (θ_run Cert.Reference7Ideal.defs _ _).mono (fun _ h c => ⟨(h c).1.trans ?_, (h c).2⟩)
    (Cert.Reference7Ideal.Value.run (F := Ideal) m' ρ')
  obtain ⟨a0, a1, a2, a3, a4, a5, a6, a7, a8, a9⟩ := hagree c
  obtain ⟨h0, h1⟩ := hpre c
  rw [Cert.Reference7Ideal.Value.res_eq, a0, a1, a2, a3, a4, a5, a6, a7, a8, a9]
  exact (Cert.HeadsEqual.result m c (Cert.Pre_finite_sums.all_real _ _ _ _ _ _ _ _ _ _ h0 h1)).symm

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite_scores.facts, Cert.Pre_finite_sums.facts,
    frame_p, frame_pi, frame_pi_pre, frame_ri, frame_ri_pre, frame_p2, frame_pi2, frame_ri2, frame_p3, frame_pi3, frame_ri3,
    frame_p4, frame_pi4, frame_ri4, frame_p5, frame_pi5, frame_ri5, frame_p6, frame_pi6, frame_ri6,
    frame_p7, frame_pi7, frame_pi7_pre, frame_ri7, frame_ri7_pre,
    preserves, algebraic, preserves2, algebraic2, preserves3, algebraic3, preserves4, algebraic4, preserves5, algebraic5,
    preserves6, algebraic6, preserves7, algebraic7⟩

end Cert.Proof

end
